-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_tiles_in_range : Cert.Pre_tiles_in_range.Facts] (m : (ℓ : Loc Cert.Experts.nD Cert.Experts.τ Cert.Experts.sig) → Buf (Elt Bits) ℓ) : Prop :=
  ∀ c : Dev Cert.Experts.nD,
    (Cert.Pre_tiles_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_tiles_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2 = (fun _ => 1#1)

def Pre_ExpertsIdeal [hPre_tiles_in_range : Cert.Pre_tiles_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiles_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_tiles_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2 = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tiles_in_range [hPre_tiles_in_range : Cert.Pre_tiles_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tiles_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).1 = (fun _ => 1#1)
    ∧ (Cert.Pre_tiles_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Normed (m : (ℓ : Loc Cert.Normed.nD Cert.Normed.τ Cert.Normed.sig) → Buf (Elt Bits) ℓ) : Prop :=
  True

def Pre_NormedIdeal (m : (ℓ : Loc Cert.NormedIdeal.nD Cert.NormedIdeal.τ Cert.NormedIdeal.sig) → Buf (Elt Ideal) ℓ) : Prop :=
  True

def Pre_NormedReferenceIdeal (m : (ℓ : Loc Cert.NormedReferenceIdeal.nD Cert.NormedReferenceIdeal.τ Cert.NormedReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Experts [hExperts : Cert.Experts.Facts] [hPre_tiles_in_range : Cert.Pre_tiles_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_tiles_in_range : Cert.Pre_tiles_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_ExpertsReferenceIdeal_pre_tiles_in_range [hExpertsReferenceIdeal : Cert.ExpertsReferenceIdeal.Facts] [hPre_tiles_in_range : Cert.Pre_tiles_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tiles_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12)
      ∧ r.2.mem ((c.tc : Thread Cert.MergeReferenceIdeal.nD Cert.MergeReferenceIdeal.τ).loc Cert.MergeReferenceIdeal.main_arg13) = m ((c.tc : Thread Cert.MergeReferenceIdeal.nD Cert.MergeReferenceIdeal.τ).loc Cert.MergeReferenceIdeal.main_arg13)
      ∧ r.2.mem ((c.tc : Thread Cert.MergeReferenceIdeal.nD Cert.MergeReferenceIdeal.τ).loc Cert.MergeReferenceIdeal.main_arg14) = m ((c.tc : Thread Cert.MergeReferenceIdeal.nD Cert.MergeReferenceIdeal.τ).loc Cert.MergeReferenceIdeal.main_arg14)
      ∧ r.2.mem ((c.tc : Thread Cert.MergeReferenceIdeal.nD Cert.MergeReferenceIdeal.τ).loc Cert.MergeReferenceIdeal.main_arg15) = m ((c.tc : Thread Cert.MergeReferenceIdeal.nD Cert.MergeReferenceIdeal.τ).loc Cert.MergeReferenceIdeal.main_arg15))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2))
      ∧ r.2.sem = fun _ => 0)

def quiescent_Normed [hNormed : Cert.Normed.Facts] : Prop :=
  ∀ (m : (ℓ : Loc Cert.Normed.nD Cert.Normed.τ Cert.Normed.sig) → Buf (Elt Bits) ℓ) (g : Dev Cert.Normed.nD → PrngReg), Pre_Normed m →
    θ_run (Cert.Normed.defs (F := Bits)) (onTc (τ := Cert.Normed.τ) (Cert.Normed.main (F := Bits))) ⟨m, fun _ => 0, g⟩ (fun r => (∀ c : Dev Cert.Normed.nD,
      r.2.mem ((c.tc : Thread Cert.Normed.nD Cert.Normed.τ).loc Cert.Normed.main_arg0) = m ((c.tc : Thread Cert.Normed.nD Cert.Normed.τ).loc Cert.Normed.main_arg0)
      ∧ r.2.mem ((c.tc : Thread Cert.Normed.nD Cert.Normed.τ).loc Cert.Normed.main_arg1) = m ((c.tc : Thread Cert.Normed.nD Cert.Normed.τ).loc Cert.Normed.main_arg1))
      ∧ r.2.sem = fun _ => 0)

def quiescent_NormedIdeal [hNormedIdeal : Cert.NormedIdeal.Facts] : Prop :=
  ∀ (m : (ℓ : Loc Cert.NormedIdeal.nD Cert.NormedIdeal.τ Cert.NormedIdeal.sig) → Buf (Elt Ideal) ℓ) (g : Dev Cert.NormedIdeal.nD → PrngReg), Pre_NormedIdeal m →
    θ_run (Cert.NormedIdeal.defs (F := Ideal)) (onTc (τ := Cert.NormedIdeal.τ) (Cert.NormedIdeal.main (F := Ideal))) ⟨m, fun _ => 0, g⟩ (fun r => (∀ c : Dev Cert.NormedIdeal.nD,
      r.2.mem ((c.tc : Thread Cert.NormedIdeal.nD Cert.NormedIdeal.τ).loc Cert.NormedIdeal.main_arg0) = m ((c.tc : Thread Cert.NormedIdeal.nD Cert.NormedIdeal.τ).loc Cert.NormedIdeal.main_arg0)
      ∧ r.2.mem ((c.tc : Thread Cert.NormedIdeal.nD Cert.NormedIdeal.τ).loc Cert.NormedIdeal.main_arg1) = m ((c.tc : Thread Cert.NormedIdeal.nD Cert.NormedIdeal.τ).loc Cert.NormedIdeal.main_arg1))
      ∧ r.2.sem = fun _ => 0)

def quiescent_NormedReferenceIdeal [hNormedReferenceIdeal : Cert.NormedReferenceIdeal.Facts] : Prop :=
  ∀ (m : (ℓ : Loc Cert.NormedReferenceIdeal.nD Cert.NormedReferenceIdeal.τ Cert.NormedReferenceIdeal.sig) → Buf (Elt Ideal) ℓ) (g : Dev Cert.NormedReferenceIdeal.nD → PrngReg), Pre_NormedReferenceIdeal m →
    θ_run (Cert.NormedReferenceIdeal.defs (F := Ideal)) (onTc (τ := Cert.NormedReferenceIdeal.τ) (Cert.NormedReferenceIdeal.main (F := Ideal))) ⟨m, fun _ => 0, g⟩ (fun r => (∀ c : Dev Cert.NormedReferenceIdeal.nD,
      r.2.mem ((c.tc : Thread Cert.NormedReferenceIdeal.nD Cert.NormedReferenceIdeal.τ).loc Cert.NormedReferenceIdeal.main_arg0) = m ((c.tc : Thread Cert.NormedReferenceIdeal.nD Cert.NormedReferenceIdeal.τ).loc Cert.NormedReferenceIdeal.main_arg0)
      ∧ r.2.mem ((c.tc : Thread Cert.NormedReferenceIdeal.nD Cert.NormedReferenceIdeal.τ).loc Cert.NormedReferenceIdeal.main_arg1) = m ((c.tc : Thread Cert.NormedReferenceIdeal.nD Cert.NormedReferenceIdeal.τ).loc Cert.NormedReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_tiles_in_range : Cert.Pre_tiles_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v12)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v12) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v87) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)
      ∧ m' ((c.tc : Thread Cert.MergeReferenceIdeal.nD Cert.MergeReferenceIdeal.τ).loc Cert.MergeReferenceIdeal.main_arg13) = m ((c.tc : Thread Cert.MergeIdeal.nD Cert.MergeIdeal.τ).loc Cert.MergeIdeal.main_arg13)
      ∧ m' ((c.tc : Thread Cert.MergeReferenceIdeal.nD Cert.MergeReferenceIdeal.τ).loc Cert.MergeReferenceIdeal.main_arg14) = m ((c.tc : Thread Cert.MergeIdeal.nD Cert.MergeIdeal.τ).loc Cert.MergeIdeal.main_arg14)
      ∧ m' ((c.tc : Thread Cert.MergeReferenceIdeal.nD Cert.MergeReferenceIdeal.τ).loc Cert.MergeReferenceIdeal.main_arg15) = m ((c.tc : Thread Cert.MergeIdeal.nD Cert.MergeIdeal.τ).loc Cert.MergeIdeal.main_arg15)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v76) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12)
          ∧ r.2.mem ((c.tc : Thread Cert.MergeReferenceIdeal.nD Cert.MergeReferenceIdeal.τ).loc Cert.MergeReferenceIdeal.main_arg13) = m' ((c.tc : Thread Cert.MergeReferenceIdeal.nD Cert.MergeReferenceIdeal.τ).loc Cert.MergeReferenceIdeal.main_arg13)
          ∧ r.2.mem ((c.tc : Thread Cert.MergeReferenceIdeal.nD Cert.MergeReferenceIdeal.τ).loc Cert.MergeReferenceIdeal.main_arg14) = m' ((c.tc : Thread Cert.MergeReferenceIdeal.nD Cert.MergeReferenceIdeal.τ).loc Cert.MergeReferenceIdeal.main_arg14)
          ∧ r.2.mem ((c.tc : Thread Cert.MergeReferenceIdeal.nD Cert.MergeReferenceIdeal.τ).loc Cert.MergeReferenceIdeal.main_arg15) = m' ((c.tc : Thread Cert.MergeReferenceIdeal.nD Cert.MergeReferenceIdeal.τ).loc Cert.MergeReferenceIdeal.main_arg15))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v3)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v3) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v15) = v0 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2))

def preserves_Normed_NormedIdeal : Prop :=
  True

def algebraic_NormedIdeal_NormedReferenceIdeal [hNormedIdeal : Cert.NormedIdeal.Facts] [hNormedReferenceIdeal : Cert.NormedReferenceIdeal.Facts] : Prop :=
  ∀ (m : (ℓ : Loc Cert.NormedIdeal.nD Cert.NormedIdeal.τ Cert.NormedIdeal.sig) → Buf (Elt Ideal) ℓ) (g : Dev Cert.NormedIdeal.nD → PrngReg)
    (m' : (ℓ : Loc Cert.NormedReferenceIdeal.nD Cert.NormedReferenceIdeal.τ Cert.NormedReferenceIdeal.sig) → Buf (Elt Ideal) ℓ) (g' : Dev Cert.NormedReferenceIdeal.nD → PrngReg), Pre_NormedIdeal m →
    (∀ c : Dev Cert.NormedIdeal.nD,
      m' ((c.tc : Thread Cert.NormedReferenceIdeal.nD Cert.NormedReferenceIdeal.τ).loc Cert.NormedReferenceIdeal.main_arg0) = m ((c.tc : Thread Cert.NormedIdeal.nD Cert.NormedIdeal.τ).loc Cert.NormedIdeal.main_arg0)
      ∧ m' ((c.tc : Thread Cert.NormedReferenceIdeal.nD Cert.NormedReferenceIdeal.τ).loc Cert.NormedReferenceIdeal.main_arg1) = m ((c.tc : Thread Cert.NormedIdeal.nD Cert.NormedIdeal.τ).loc Cert.NormedIdeal.main_arg1)) →
    ∃ (v0 : (c : Dev Cert.NormedIdeal.nD) → Buf (Elt Ideal) ((c.tc : Thread Cert.NormedIdeal.nD Cert.NormedIdeal.τ).loc Cert.NormedIdeal.main_v2)),
      θ_run (Cert.NormedIdeal.defs (F := Ideal)) (onTc (τ := Cert.NormedIdeal.τ) (Cert.NormedIdeal.main (F := Ideal))) ⟨m, fun _ => 0, g⟩ (fun r => ∀ c : Dev Cert.NormedIdeal.nD,
          r.2.mem ((c.tc : Thread Cert.NormedIdeal.nD Cert.NormedIdeal.τ).loc Cert.NormedIdeal.main_v2) = v0 c
          ∧ r.2.mem ((c.tc : Thread Cert.NormedIdeal.nD Cert.NormedIdeal.τ).loc Cert.NormedIdeal.main_arg0) = m ((c.tc : Thread Cert.NormedIdeal.nD Cert.NormedIdeal.τ).loc Cert.NormedIdeal.main_arg0)
          ∧ r.2.mem ((c.tc : Thread Cert.NormedIdeal.nD Cert.NormedIdeal.τ).loc Cert.NormedIdeal.main_arg1) = m ((c.tc : Thread Cert.NormedIdeal.nD Cert.NormedIdeal.τ).loc Cert.NormedIdeal.main_arg1))
      ∧ θ_run (Cert.NormedReferenceIdeal.defs (F := Ideal)) (onTc (τ := Cert.NormedReferenceIdeal.τ) (Cert.NormedReferenceIdeal.main (F := Ideal))) ⟨m', fun _ => 0, g'⟩ (fun r => ∀ c : Dev Cert.NormedReferenceIdeal.nD,
          r.2.mem ((c.tc : Thread Cert.NormedReferenceIdeal.nD Cert.NormedReferenceIdeal.τ).loc Cert.NormedReferenceIdeal.main_v14) = v0 c
          ∧ r.2.mem ((c.tc : Thread Cert.NormedReferenceIdeal.nD Cert.NormedReferenceIdeal.τ).loc Cert.NormedReferenceIdeal.main_arg0) = m' ((c.tc : Thread Cert.NormedReferenceIdeal.nD Cert.NormedReferenceIdeal.τ).loc Cert.NormedReferenceIdeal.main_arg0)
          ∧ r.2.mem ((c.tc : Thread Cert.NormedReferenceIdeal.nD Cert.NormedReferenceIdeal.τ).loc Cert.NormedReferenceIdeal.main_arg1) = m' ((c.tc : Thread Cert.NormedReferenceIdeal.nD Cert.NormedReferenceIdeal.τ).loc Cert.NormedReferenceIdeal.main_arg1))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hMerge : Cert.Merge.Facts) (hMergeIdeal : Cert.MergeIdeal.Facts) (hMergeReferenceIdeal : Cert.MergeReferenceIdeal.Facts) (hMemory : Cert.Memory.Facts) (hMemoryIdeal : Cert.MemoryIdeal.Facts) (hMemoryReferenceIdeal : Cert.MemoryReferenceIdeal.Facts) (hNormed : Cert.Normed.Facts) (hNormedIdeal : Cert.NormedIdeal.Facts) (hNormedReferenceIdeal : Cert.NormedReferenceIdeal.Facts) (hPre_tiles_in_range : Cert.Pre_tiles_in_range.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_tiles_in_range := hPre_tiles_in_range)
    ∧ quiescent_ExpertsIdeal (hExpertsIdeal := hExpertsIdeal) (hPre_tiles_in_range := hPre_tiles_in_range)
    ∧ quiescent_ExpertsReferenceIdeal (hExpertsReferenceIdeal := hExpertsReferenceIdeal)
    ∧ quiescent_ExpertsReferenceIdeal_pre_tiles_in_range (hExpertsReferenceIdeal := hExpertsReferenceIdeal) (hPre_tiles_in_range := hPre_tiles_in_range)
    ∧ quiescent_Merge (hMerge := hMerge)
    ∧ quiescent_MergeIdeal (hMergeIdeal := hMergeIdeal)
    ∧ quiescent_MergeReferenceIdeal (hMergeReferenceIdeal := hMergeReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Normed (hNormed := hNormed)
    ∧ quiescent_NormedIdeal (hNormedIdeal := hNormedIdeal)
    ∧ quiescent_NormedReferenceIdeal (hNormedReferenceIdeal := hNormedReferenceIdeal)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsReferenceIdeal (hExpertsIdeal := hExpertsIdeal) (hExpertsReferenceIdeal := hExpertsReferenceIdeal) (hPre_tiles_in_range := hPre_tiles_in_range)
    ∧ preserves_Merge_MergeIdeal
    ∧ algebraic_MergeIdeal_MergeReferenceIdeal (hMergeIdeal := hMergeIdeal) (hMergeReferenceIdeal := hMergeReferenceIdeal)
    ∧ preserves_Memory_MemoryIdeal
    ∧ algebraic_MemoryIdeal_MemoryReferenceIdeal (hMemoryIdeal := hMemoryIdeal) (hMemoryReferenceIdeal := hMemoryReferenceIdeal)
    ∧ preserves_Normed_NormedIdeal
    ∧ algebraic_NormedIdeal_NormedReferenceIdeal (hNormedIdeal := hNormedIdeal) (hNormedReferenceIdeal := hNormedReferenceIdeal)
-- ==== Pre_tiles_in_range.lean ====
abbrev S40960x2048 : Shape := ⟨2, ![40960, 2048]⟩
abbrev S160 : Shape := ⟨1, ![160]⟩
abbrev S1 : Shape := ⟨1, ![1]⟩
abbrev S32x2048x256 : Shape := ⟨3, ![32, 2048, 256]⟩
abbrev S32x256x2048 : Shape := ⟨3, ![32, 256, 2048]⟩
abbrev S_ : Shape := ⟨0, ![]⟩

class Facts : Prop where
  bcast_S_S160 : S_.BroadcastsInDim S160 (![] : Fin 0 → Fin S160.rank)
  bcast_S_S1 : S_.BroadcastsInDim S1 (![] : Fin 0 → Fin S1.rank)

variable [Facts]

def fn {F : FTy → Type} [FloatOps F] (main_arg0 : FVec F S40960x2048 .f32) (main_arg1 : IVec S160 32) (main_arg2 : IVec S1 32) (main_arg3 : FVec F S32x2048x256 .f32) (main_arg4 : FVec F S32x2048x256 .f32) (main_arg5 : FVec F S32x256x2048 .f32) : IVec S160 1 × IVec S1 1 :=
  let main_c : IVec S_ 32 := constantI S_ 32 0#32
  let main_v0 : IVec S160 32 := broadcastInDim S160 ![] bcast_S_S160 main_c
  let main_v1 : IVec S160 1 := cmpi .sge main_arg1 main_v0
  let main_c_0 : IVec S_ 32 := constantI S_ 32 31#32
  let main_v2 : IVec S160 32 := broadcastInDim S160 ![] bcast_S_S160 main_c_0
  let main_v3 : IVec S160 1 := cmpi .sle main_arg1 main_v2
  let main_v4 : IVec S160 1 := andi main_v1 main_v3
  let main_c_1 : IVec S_ 32 := constantI S_ 32 1#32
  let main_v5 : IVec S1 32 := broadcastInDim S1 ![] bcast_S_S1 main_c_1
  let main_v6 : IVec S1 1 := cmpi .sge main_arg2 main_v5
  (main_v4, main_v6)
-- ==== Kernel.lean ====
abbrev S2x8192x7680 : Shape := ⟨3, ![2, 8192, 7680]⟩
abbrev S12 : Shape := ⟨1, ![12]⟩
abbrev S2x4x8192x128 : Shape := ⟨4, ![2, 4, 8192, 128]⟩
abbrev S1x512x512 : Shape := ⟨3, ![1, 512, 512]⟩
abbrev S1x128x512 : Shape := ⟨3, ![1, 128, 512]⟩
abbrev S1x4x512x128 : Shape := ⟨4, ![1, 4, 512, 128]⟩
abbrev S128x128 : Shape := ⟨2, ![128, 128]⟩
abbrev S1x128x128 : Shape := ⟨3, ![1, 128, 128]⟩
abbrev S1 : Shape := ⟨1, ![1]⟩
abbrev S128 : Shape := ⟨1, ![128]⟩
abbrev S128x1 : Shape := ⟨2, ![128, 1]⟩
abbrev S1x1x128x128 : Shape := ⟨4, ![1, 1, 128, 128]⟩

abbrev nBuf : Space → Nat
  | .hbm => 4
  | .vmem => 14
  | .smem => 1
  | _ => 0

abbrev bufTy : (tb : Table) → Fin (tcTables nBuf tb) → BufTy
  | .hbm, ⟨0, _⟩ => ⟨S2x8192x7680, .bf16⟩
  | .hbm, ⟨1, _⟩ => ⟨S12, .f32⟩
  | .hbm, ⟨2, _⟩ => ⟨S2x4x8192x128, .f32⟩
  | .hbm, ⟨3, _⟩ => ⟨S2x4x8192x128, .f32⟩
  | .local _ .vmem, ⟨0, _⟩ => ⟨S1x512x512, .bf16⟩
  | .local _ .vmem, ⟨1, _⟩ => ⟨S1x512x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x4x512x128, .f32⟩
  | .local _ .vmem, ⟨11, _⟩ => ⟨S1x4x512x128, .f32⟩
  | .local _ .vmem, ⟨12, _⟩ => ⟨S1x4x512x128, .f32⟩
  | .local _ .vmem, ⟨13, _⟩ => ⟨S1x4x512x128, .f32⟩
  | .local _ .smem, ⟨0, _⟩ => ⟨S12, .f32⟩
  | _, _ => ⟨S2x8192x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![2, 16, 1], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![arg0.toNat, v2.toNat, c3_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c3_i32 : BitVec 32 := 3#32
  let c0_i32 : BitVec 32 := 0#32
  ![arg0.toNat, v1.toNat, c3_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![arg0.toNat, v2.toNat, c6_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c6_i32 : BitVec 32 := 6#32
  let c0_i32 : BitVec 32 := 0#32
  ![arg0.toNat, v1.toNat, c6_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x4x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== ReferenceIdeal.lean ====
abbrev S2x8192x7680 : Shape := ⟨3, ![2, 8192, 7680]⟩
abbrev S12 : Shape := ⟨1, ![12]⟩
abbrev S2x8192x1536 : Shape := ⟨3, ![2, 8192, 1536]⟩
abbrev S2x8192x3072 : Shape := ⟨3, ![2, 8192, 3072]⟩
abbrev S2x8192x12x128 : Shape := ⟨4, ![2, 8192, 12, 128]⟩
abbrev S2x8192x4x128 : Shape := ⟨4, ![2, 8192, 4, 128]⟩
abbrev S4 : Shape := ⟨1, ![4]⟩
abbrev S2x8192x1x4x128 : Shape := ⟨5, ![2, 8192, 1, 4, 128]⟩
abbrev S2x1x4x8192x128 : Shape := ⟨5, ![2, 1, 4, 8192, 128]⟩
abbrev S2x1x4x64x128x128 : Shape := ⟨6, ![2, 1, 4, 64, 128, 128]⟩
abbrev S_ : Shape := ⟨0, ![]⟩
abbrev S2x1x4x65x128x128 : Shape := ⟨6, ![2, 1, 4, 65, 128, 128]⟩
abbrev S2x1x4x64x256x128 : Shape := ⟨6, ![2, 1, 4, 64, 256, 128]⟩
abbrev S2x1x4x64x128x256 : Shape := ⟨6, ![2, 1, 4, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S4x1x1x1 : Shape := ⟨4, ![4, 1, 1, 1]⟩
abbrev S1x1x128x256 : Shape := ⟨4, ![1, 1, 128, 256]⟩
abbrev S4x1x128x256 : Shape := ⟨4, ![4, 1, 128, 256]⟩
abbrev S1x1x4x1x128x256 : Shape := ⟨6, ![1, 1, 4, 1, 128, 256]⟩
abbrev S2x1x4x64x128 : Shape := ⟨5, ![2, 1, 4, 64, 128]⟩
abbrev S2x1x4x64x128x1 : Shape := ⟨6, ![2, 1, 4, 64, 128, 1]⟩
abbrev S2x1x4x8192 : Shape := ⟨4, ![2, 1, 4, 8192]⟩
abbrev S2x8192x1x4 : Shape := ⟨4, ![2, 8192, 1, 4]⟩
abbrev S2x8192x4 : Shape := ⟨3, ![2, 8192, 4]⟩
abbrev S2x4x8192x128 : Shape := ⟨4, ![2, 4, 8192, 128]⟩
abbrev S2x4x8192 : Shape := ⟨3, ![2, 4, 8192]⟩
abbrev S2x4x8192x1 : Shape := ⟨4, ![2, 4, 8192, 1]⟩

abbrev nBuf : Space → Nat
  | .hbm => 116
  | .vmem => 0
  | .smem => 0
  | _ => 0

abbrev bufTy : (tb : Table) → Fin (tcTables nBuf tb) → BufTy
  | .hbm, ⟨0, _⟩ => ⟨S2x8192x7680, .bf16⟩
  | .hbm, ⟨1, _⟩ => ⟨S12, .f32⟩
  | .hbm, ⟨2, _⟩ => ⟨S2x8192x7680, .f32⟩
  | .hbm, ⟨3, _⟩ => ⟨S2x8192x1536, .f32⟩
  | .hbm, ⟨4, _⟩ => ⟨S2x8192x1536, .f32⟩
  | .hbm, ⟨5, _⟩ => ⟨S2x8192x1536, .f32⟩
  | .hbm, ⟨6, _⟩ => ⟨S2x8192x3072, .f32⟩
  | .hbm, ⟨7, _⟩ => ⟨S2x8192x12x128, .f32⟩
  | .hbm, ⟨8, _⟩ => ⟨S2x8192x4x128, .f32⟩
  | .hbm, ⟨9, _⟩ => ⟨S2x8192x12x128, .f32⟩
  | .hbm, ⟨10, _⟩ => ⟨S2x8192x4x128, .f32⟩
  | .hbm, ⟨11, _⟩ => ⟨S2x8192x12x128, .f32⟩
  | .hbm, ⟨12, _⟩ => ⟨S2x8192x4x128, .f32⟩
  | .hbm, ⟨13, _⟩ => ⟨S4, .f32⟩
  | .hbm, ⟨14, _⟩ => ⟨S2x8192x1x4x128, .f32⟩
  | .hbm, ⟨15, _⟩ => ⟨S2x1x4x8192x128, .f32⟩
  | .hbm, ⟨16, _⟩ => ⟨S2x1x4x64x128x128, .f32⟩
  | .hbm, ⟨17, _⟩ => ⟨S2x8192x1x4x128, .f32⟩
  | .hbm, ⟨18, _⟩ => ⟨S2x1x4x8192x128, .f32⟩
  | .hbm, ⟨19, _⟩ => ⟨S2x1x4x64x128x128, .f32⟩
  | .hbm, ⟨20, _⟩ => ⟨S_, .i32⟩
  | .hbm, ⟨21, _⟩ => ⟨S_, .f32⟩
  | .hbm, ⟨22, _⟩ => ⟨S2x1x4x65x128x128, .f32⟩
  | .hbm, ⟨23, _⟩ => ⟨S2x1x4x64x128x128, .f32⟩
  | .hbm, ⟨24, _⟩ => ⟨S2x1x4x64x256x128, .f32⟩
  | .hbm, ⟨25, _⟩ => ⟨S2x8192x1x4x128, .f32⟩
  | .hbm, ⟨26, _⟩ => ⟨S2x1x4x8192x128, .f32⟩
  | .hbm, ⟨27, _⟩ => ⟨S2x1x4x64x128x128, .f32⟩
  | .hbm, ⟨28, _⟩ => ⟨S_, .i32⟩
  | .hbm, ⟨29, _⟩ => ⟨S_, .f32⟩
  | .hbm, ⟨30, _⟩ => ⟨S2x1x4x65x128x128, .f32⟩
  | .hbm, ⟨31, _⟩ => ⟨S2x1x4x64x128x128, .f32⟩
  | .hbm, ⟨32, _⟩ => ⟨S2x1x4x64x256x128, .f32⟩
  | .hbm, ⟨33, _⟩ => ⟨S2x1x4x64x128x256, .f32⟩
  | .hbm, ⟨34, _⟩ => ⟨S_, .f32⟩
  | .hbm, ⟨35, _⟩ => ⟨S2x1x4x64x128x256, .f32⟩
  | .hbm, ⟨36, _⟩ => ⟨S2x1x4x64x128x256, .f32⟩
  | .hbm, ⟨37, _⟩ => ⟨S128, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i32⟩
  | .hbm, ⟨42, _⟩ => ⟨S256, .i32⟩
  | .hbm, ⟨43, _⟩ => ⟨S1x256, .i32⟩
  | .hbm, ⟨44, _⟩ => ⟨S128x256, .i32⟩
  | .hbm, ⟨45, _⟩ => ⟨S128x256, .i32⟩
  | .hbm, ⟨46, _⟩ => ⟨S128x256, .i32⟩
  | .hbm, ⟨47, _⟩ => ⟨S64, .i32⟩
  | .hbm, ⟨48, _⟩ => ⟨S64x1x1, .i32⟩
  | .hbm, ⟨49, _⟩ => ⟨S_, .i32⟩
  | .hbm, ⟨50, _⟩ => ⟨S64x1x1, .i32⟩
  | .hbm, ⟨51, _⟩ => ⟨S64x1x1, .i32⟩
  | .hbm, ⟨52, _⟩ => ⟨S1x1x256, .i32⟩
  | .hbm, ⟨53, _⟩ => ⟨S64x1x256, .i32⟩
  | .hbm, ⟨54, _⟩ => ⟨S64x1x256, .i32⟩
  | .hbm, ⟨55, _⟩ => ⟨S64x1x256, .i32⟩
  | .hbm, ⟨56, _⟩ => ⟨S_, .i32⟩
  | .hbm, ⟨57, _⟩ => ⟨S64x1x256, .i32⟩
  | .hbm, ⟨58, _⟩ => ⟨S64x1x256, .i32⟩
  | .hbm, ⟨59, _⟩ => ⟨S_, .i32⟩
  | .hbm, ⟨60, _⟩ => ⟨S128x256, .i32⟩
  | .hbm, ⟨61, _⟩ => ⟨S128x256, .i1⟩
  | .hbm, ⟨62, _⟩ => ⟨S_, .i32⟩
  | .hbm, ⟨63, _⟩ => ⟨S128x256, .i32⟩
  | .hbm, ⟨64, _⟩ => ⟨S128x256, .i1⟩
  | .hbm, ⟨65, _⟩ => ⟨S128x256, .i1⟩
  | .hbm, ⟨66, _⟩ => ⟨S_, .i32⟩
  | .hbm, ⟨67, _⟩ => ⟨S64x1x256, .i32⟩
  | .hbm, ⟨68, _⟩ => ⟨S64x1x256, .i1⟩
  | .hbm, ⟨69, _⟩ => ⟨S1x128x256, .i1⟩
  | .hbm, ⟨70, _⟩ => ⟨S64x128x256, .i1⟩
  | .hbm, ⟨71, _⟩ => ⟨S64x128x256, .i1⟩
  | .hbm, ⟨72, _⟩ => ⟨S64x128x256, .i1⟩
  | .hbm, ⟨73, _⟩ => ⟨S4x1x1x1, .f32⟩
  | .hbm, ⟨74, _⟩ => ⟨S4x1x1x1, .f32⟩
  | .hbm, ⟨75, _⟩ => ⟨S_, .i32⟩
  | .hbm, ⟨76, _⟩ => ⟨S128x256, .i32⟩
  | .hbm, ⟨77, _⟩ => ⟨S128x256, .i32⟩
  | .hbm, ⟨78, _⟩ => ⟨S128x256, .f32⟩
  | .hbm, ⟨79, _⟩ => ⟨S1x1x128x256, .f32⟩
  | .hbm, ⟨80, _⟩ => ⟨S4x1x128x256, .f32⟩
  | .hbm, ⟨81, _⟩ => ⟨S4x1x128x256, .f32⟩
  | .hbm, ⟨82, _⟩ => ⟨S4x1x128x256, .f32⟩
  | .hbm, ⟨83, _⟩ => ⟨S1x1x4x1x128x256, .f32⟩
  | .hbm, ⟨84, _⟩ => ⟨S2x1x4x64x128x256, .f32⟩
  | .hbm, ⟨85, _⟩ => ⟨S2x1x4x64x128x256, .f32⟩
  | .hbm, ⟨86, _⟩ => ⟨S_, .f32⟩
  | .hbm, ⟨87, _⟩ => ⟨S_, .f32⟩
  | .hbm, ⟨88, _⟩ => ⟨S2x1x4x64x128x256, .i1⟩
  | .hbm, ⟨89, _⟩ => ⟨S2x1x4x64x128x256, .f32⟩
  | .hbm, ⟨90, _⟩ => ⟨S2x1x4x64x128x256, .f32⟩
  | .hbm, ⟨91, _⟩ => ⟨S_, .f32⟩
  | .hbm, ⟨92, _⟩ => ⟨S2x1x4x64x128, .f32⟩
  | .hbm, ⟨93, _⟩ => ⟨S2x1x4x64x128x1, .f32⟩
  | .hbm, ⟨94, _⟩ => ⟨S2x1x4x64x128x256, .f32⟩
  | .hbm, ⟨95, _⟩ => ⟨S2x1x4x64x128x256, .f32⟩
  | .hbm, ⟨96, _⟩ => ⟨S2x1x4x64x128x256, .f32⟩
  | .hbm, ⟨97, _⟩ => ⟨S_, .f32⟩
  | .hbm, ⟨98, _⟩ => ⟨S2x1x4x64x128, .f32⟩
  | .hbm, ⟨99, _⟩ => ⟨S2x1x4x64x128x1, .f32⟩
  | .hbm, ⟨100, _⟩ => ⟨S2x1x4x64x128x128, .f32⟩
  | .hbm, ⟨101, _⟩ => ⟨S2x1x4x64x128x128, .f32⟩
  | .hbm, ⟨102, _⟩ => ⟨S2x1x4x64x128x128, .f32⟩
  | .hbm, ⟨103, _⟩ => ⟨S2x1x4x64x128x1, .f32⟩
  | .hbm, ⟨104, _⟩ => ⟨S2x1x4x64x128x1, .f32⟩
  | .hbm, ⟨105, _⟩ => ⟨S2x1x4x64x128, .f32⟩
  | .hbm, ⟨106, _⟩ => ⟨S2x1x4x8192x128, .f32⟩
  | .hbm, ⟨107, _⟩ => ⟨S2x8192x1x4x128, .f32⟩
  | .hbm, ⟨108, _⟩ => ⟨S2x8192x4x128, .f32⟩
  | .hbm, ⟨109, _⟩ => ⟨S2x1x4x8192, .f32⟩
  | .hbm, ⟨110, _⟩ => ⟨S2x8192x1x4, .f32⟩
  | .hbm, ⟨111, _⟩ => ⟨S2x8192x4, .f32⟩
  | .hbm, ⟨112, _⟩ => ⟨S2x4x8192x128, .f32⟩
  | .hbm, ⟨113, _⟩ => ⟨S2x4x8192, .f32⟩
  | .hbm, ⟨114, _⟩ => ⟨S2x4x8192x1, .f32⟩
  | .hbm, ⟨115, _⟩ => ⟨S2x4x8192x128, .f32⟩
  | _, _ => ⟨S2x8192x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_c : Ref sig .tc := ⟨.hbm, 20, rfl⟩
abbrev main_call0_v0 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_c_0 : Ref sig .tc := ⟨.hbm, 28, rfl⟩
abbrev main_call1_v0 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_c_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_c_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c_3 : Ref sig .tc := ⟨.hbm, 56, rfl⟩
abbrev main_v47 : Ref sig .tc := ⟨.hbm, 57, rfl⟩
abbrev main_v48 : Ref sig .tc := ⟨.hbm, 58, rfl⟩
abbrev main_c_4 : Ref sig .tc := ⟨.hbm, 59, rfl⟩
abbrev main_v49 : Ref sig .tc := ⟨.hbm, 60, rfl⟩
abbrev main_v50 : Ref sig .tc := ⟨.hbm, 61, rfl⟩
abbrev main_c_5 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_c_6 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_c_7 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_8 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_v72 : Ref sig .tc := ⟨.hbm, 90, rfl⟩
abbrev main_cst_9 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_10 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩

abbrev nD : Nat := 1
abbrev τ : Topo := Topo.v7x

variable {F : FTy → Type} [FloatOps F]
-- ==== Experts.lean ====
abbrev S40960x2048 : Shape := ⟨2, ![40960, 2048]⟩
abbrev S160 : Shape := ⟨1, ![160]⟩
abbrev S1 : Shape := ⟨1, ![1]⟩
abbrev S32x2048x256 : Shape := ⟨3, ![32, 2048, 256]⟩
abbrev S32x256x2048 : Shape := ⟨3, ![32, 256, 2048]⟩
abbrev S_ : Shape := ⟨0, ![]⟩
abbrev S256x2048 : Shape := ⟨2, ![256, 2048]⟩
abbrev S1x2048x256 : Shape := ⟨3, ![1, 2048, 256]⟩
abbrev S1x256x2048 : Shape := ⟨3, ![1, 256, 2048]⟩
abbrev S2048x256 : Shape := ⟨2, ![2048, 256]⟩
abbrev S256x256 : Shape := ⟨2, ![256, 256]⟩

abbrev nBuf : Space → Nat
  | .hbm => 20
  | .vmem => 10
  | .smem => 2
  | _ => 0

abbrev bufTy : (tb : Table) → Fin (tcTables nBuf tb) → BufTy
  | .hbm, ⟨0, _⟩ => ⟨S40960x2048, .f32⟩
  | .hbm, ⟨1, _⟩ => ⟨S160, .i32⟩
  | .hbm, ⟨2, _⟩ => ⟨S32x2048x256, .f32⟩
  | .hbm, ⟨3, _⟩ => ⟨S32x2048x256, .f32⟩
  | .hbm, ⟨4, _⟩ => ⟨S32x256x2048, .f32⟩
  | .hbm, ⟨5, _⟩ => ⟨S160, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S160, .i32⟩
  | .hbm, ⟨17, _⟩ => ⟨S160, .i1⟩
  | .hbm, ⟨18, _⟩ => ⟨S160, .i32⟩
  | .hbm, ⟨19, _⟩ => ⟨S40960x2048, .f32⟩
  | .local _ .vmem, ⟨0, _⟩ => ⟨S256x2048, .f32⟩
  | .local _ .vmem, ⟨1, _⟩ => ⟨S256x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x2048, .f32⟩
  | .local _ .vmem, ⟨7, _⟩ => ⟨S1x256x2048, .f32⟩
  | .local _ .vmem, ⟨8, _⟩ => ⟨S256x2048, .f32⟩
  | .local _ .vmem, ⟨9, _⟩ => ⟨S256x2048, .f32⟩
  | .local _ .smem, ⟨0, _⟩ => ⟨S160, .i32⟩
  | .local _ .smem, ⟨1, _⟩ => ⟨S1, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v12 : Ref sig .tc := ⟨.hbm, 19, rfl⟩
abbrev main_v11 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_v11.idx, main_arg2.idx], fun | 0 => main_v11.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let v5 : BitVec 32 := Scalar.extui v4
  let c0_i32_0 : BitVec 32 := 0#32
  let v6 : BitVec 1 := Scalar.cmpi .ne v5 c0_i32_0
  v6

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S40960x2048 : Shape := ⟨2, ![40960, 2048]⟩
abbrev S160 : Shape := ⟨1, ![160]⟩
abbrev S1 : Shape := ⟨1, ![1]⟩
abbrev S32x2048x256 : Shape := ⟨3, ![32, 2048, 256]⟩
abbrev S32x256x2048 : Shape := ⟨3, ![32, 256, 2048]⟩
abbrev S_ : Shape := ⟨0, ![]⟩
abbrev S160x1 : Shape := ⟨2, ![160, 1]⟩
abbrev S160x256 : Shape := ⟨2, ![160, 256]⟩
abbrev S40960 : Shape := ⟨1, ![40960]⟩
abbrev S40960x1 : Shape := ⟨2, ![40960, 1]⟩
abbrev S32 : Shape := ⟨1, ![32]⟩
abbrev S8 : Shape := ⟨1, ![8]⟩
abbrev S1x8 : Shape := ⟨2, ![1, 8]⟩
abbrev S40960x8 : Shape := ⟨2, ![40960, 8]⟩
abbrev S8x2048x256 : Shape := ⟨3, ![8, 2048, 256]⟩
abbrev S40960x8x256 : Shape := ⟨3, ![40960, 8, 256]⟩
abbrev S40960x8x1 : Shape := ⟨3, ![40960, 8, 1]⟩
abbrev S8x256x2048 : Shape := ⟨3, ![8, 256, 2048]⟩

abbrev nBuf : Space → Nat
  | .hbm => 130
  | .vmem => 0
  | .smem => 0
  | _ => 0

abbrev hbmTy0_0 (i : Nat) : BufTy := match i % 128 with
  | 0 => ⟨S40960x2048, .f32⟩
  | 1 => ⟨S160, .i32⟩
  | 2 => ⟨S1, .i32⟩
  | 3 => ⟨S32x2048x256, .f32⟩
  | 4 => ⟨S32x2048x256, .f32⟩
  | 5 => ⟨S32x256x2048, .f32⟩
  | 6 => ⟨S160, .i32⟩
  | 7 => ⟨S160, .i32⟩
  | 8 => ⟨S160, .i1⟩
  | 9 => ⟨S_, .i32⟩
  | 10 => ⟨S_, .i32⟩
  | 11 => ⟨S160, .i32⟩
  | 12 => ⟨S160, .i32⟩
  | 13 => ⟨S160x1, .i32⟩
  | 14 => ⟨S160x256, .i32⟩
  | 15 => ⟨S40960, .i32⟩
  | 16 => ⟨S_, .f32⟩
  | 17 => ⟨S40960x2048, .f32⟩
  | 18 => ⟨S40960x1, .i32⟩
  | 19 => ⟨S32, .i32⟩
  | 20 => ⟨S8, .i32⟩
  | 21 => ⟨S1x8, .i32⟩
  | 22 => ⟨S40960x8, .i32⟩
  | 23 => ⟨S40960x8, .i32⟩
  | 24 => ⟨S40960x8, .i1⟩
  | 25 => ⟨S40960x8, .f32⟩
  | 26 => ⟨S8x2048x256, .f32⟩
  | 27 => ⟨S40960x8x256, .f32⟩
  | 28 => ⟨S40960x8x256, .f32⟩
  | 29 => ⟨S40960x8x256, .f32⟩
  | 30 => ⟨S_, .f32⟩
  | 31 => ⟨S40960x8x256, .f32⟩
  | 32 => ⟨S40960x8x256, .f32⟩
  | 33 => ⟨S_, .f32⟩
  | 34 => ⟨S40960x8x256, .f32⟩
  | 35 => ⟨S40960x8x256, .f32⟩
  | 36 => ⟨S40960x8x256, .f32⟩
  | 37 => ⟨S8x2048x256, .f32⟩
  | 38 => ⟨S40960x8x256, .f32⟩
  | 39 => ⟨S40960x8x256, .f32⟩
  | 40 => ⟨S40960x8x1, .f32⟩
  | 41 => ⟨S40960x8x256, .f32⟩
  | 42 => ⟨S40960x8x256, .f32⟩
  | 43 => ⟨S8x256x2048, .f32⟩
  | 44 => ⟨S40960x2048, .f32⟩
  | 45 => ⟨S40960x2048, .f32⟩
  | 46 => ⟨S40960x1, .i32⟩
  | 47 => ⟨S32, .i32⟩
  | 48 => ⟨S8, .i32⟩
  | 49 => ⟨S1x8, .i32⟩
  | 50 => ⟨S40960x8, .i32⟩
  | 51 => ⟨S40960x8, .i32⟩
  | 52 => ⟨S40960x8, .i1⟩
  | 53 => ⟨S40960x8, .f32⟩
  | 54 => ⟨S8x2048x256, .f32⟩
  | 55 => ⟨S40960x8x256, .f32⟩
  | 56 => ⟨S40960x8x256, .f32⟩
  | 57 => ⟨S40960x8x256, .f32⟩
  | 58 => ⟨S_, .f32⟩
  | 59 => ⟨S40960x8x256, .f32⟩
  | 60 => ⟨S40960x8x256, .f32⟩
  | 61 => ⟨S_, .f32⟩
  | 62 => ⟨S40960x8x256, .f32⟩
  | 63 => ⟨S40960x8x256, .f32⟩
  | 64 => ⟨S40960x8x256, .f32⟩
  | 65 => ⟨S8x2048x256, .f32⟩
  | 66 => ⟨S40960x8x256, .f32⟩
  | 67 => ⟨S40960x8x256, .f32⟩
  | 68 => ⟨S40960x8x1, .f32⟩
  | 69 => ⟨S40960x8x256, .f32⟩
  | 70 => ⟨S40960x8x256, .f32⟩
  | 71 => ⟨S8x256x2048, .f32⟩
  | 72 => ⟨S40960x2048, .f32⟩
  | 73 => ⟨S40960x2048, .f32⟩
  | 74 => ⟨S40960x1, .i32⟩
  | 75 => ⟨S32, .i32⟩
  | 76 => ⟨S8, .i32⟩
  | 77 => ⟨S1x8, .i32⟩
  | 78 => ⟨S40960x8, .i32⟩
  | 79 => ⟨S40960x8, .i32⟩
  | 80 => ⟨S40960x8, .i1⟩
  | 81 => ⟨S40960x8, .f32⟩
  | 82 => ⟨S8x2048x256, .f32⟩
  | 83 => ⟨S40960x8x256, .f32⟩
  | 84 => ⟨S40960x8x256, .f32⟩
  | 85 => ⟨S40960x8x256, .f32⟩
  | 86 => ⟨S_, .f32⟩
  | 87 => ⟨S40960x8x256, .f32⟩
  | 88 => ⟨S40960x8x256, .f32⟩
  | 89 => ⟨S_, .f32⟩
  | 90 => ⟨S40960x8x256, .f32⟩
  | 91 => ⟨S40960x8x256, .f32⟩
  | 92 => ⟨S40960x8x256, .f32⟩
  | 93 => ⟨S8x2048x256, .f32⟩
  | 94 => ⟨S40960x8x256, .f32⟩
  | 95 => ⟨S40960x8x256, .f32⟩
  | 96 => ⟨S40960x8x1, .f32⟩
  | 97 => ⟨S40960x8x256, .f32⟩
  | 98 => ⟨S40960x8x256, .f32⟩
  | 99 => ⟨S8x256x2048, .f32⟩
  | 100 => ⟨S40960x2048, .f32⟩
  | 101 => ⟨S40960x2048, .f32⟩
  | 102 => ⟨S40960x1, .i32⟩
  | 103 => ⟨S32, .i32⟩
  | 104 => ⟨S8, .i32⟩
  | 105 => ⟨S1x8, .i32⟩
  | 106 => ⟨S40960x8, .i32⟩
  | 107 => ⟨S40960x8, .i32⟩
  | 108 => ⟨S40960x8, .i1⟩
  | 109 => ⟨S40960x8, .f32⟩
  | 110 => ⟨S8x2048x256, .f32⟩
  | 111 => ⟨S40960x8x256, .f32⟩
  | 112 => ⟨S40960x8x256, .f32⟩
  | 113 => ⟨S40960x8x256, .f32⟩
  | 114 => ⟨S_, .f32⟩
  | 115 => ⟨S40960x8x256, .f32⟩
  | 116 => ⟨S40960x8x256, .f32⟩
  | 117 => ⟨S_, .f32⟩
  | 118 => ⟨S40960x8x256, .f32⟩
  | 119 => ⟨S40960x8x256, .f32⟩
  | 120 => ⟨S40960x8x256, .f32⟩
  | 121 => ⟨S8x2048x256, .f32⟩
  | 122 => ⟨S40960x8x256, .f32⟩
  | 123 => ⟨S40960x8x256, .f32⟩
  | 124 => ⟨S40960x8x1, .f32⟩
  | 125 => ⟨S40960x8x256, .f32⟩
  | 126 => ⟨S40960x8x256, .f32⟩
  | 127 => ⟨S8x256x2048, .f32⟩
  | _ => ⟨S40960x2048, .f32⟩

abbrev hbmTy0_1 (i : Nat) : BufTy := match i % 128 with
  | 0 => ⟨S40960x2048, .f32⟩
  | 1 => ⟨S40960x2048, .f32⟩
  | _ => ⟨S40960x2048, .f32⟩

abbrev hbmTy (i : Nat) : BufTy := match i / 128 with
  | 0 => hbmTy0_0 i
  | 1 => hbmTy0_1 i
  | _ => ⟨S40960x2048, .f32⟩

abbrev bufTy : (tb : Table) → Fin (tcTables nBuf tb) → BufTy
  | .hbm, ⟨i, _⟩ => hbmTy i
  | _, _ => ⟨S40960x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call1_v0 : Ref sig .tc := ⟨.hbm, 28, rfl⟩
abbrev main_call1_v1 : Ref sig .tc := ⟨.hbm, 29, rfl⟩
abbrev main_call1_cst : Ref sig .tc := ⟨.hbm, 30, rfl⟩
abbrev main_call1_v2 : Ref sig .tc := ⟨.hbm, 31, rfl⟩
abbrev main_call1_v3 : Ref sig .tc := ⟨.hbm, 32, rfl⟩
abbrev main_call1_cst_0 : Ref sig .tc := ⟨.hbm, 33, rfl⟩
abbrev main_call1_v4 : Ref sig .tc := ⟨.hbm, 34, rfl⟩
abbrev main_call1_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call3_v0 : Ref sig .tc := ⟨.hbm, 84, rfl⟩
abbrev main_call3_v1 : Ref sig .tc := ⟨.hbm, 85, rfl⟩
abbrev main_call3_cst : Ref sig .tc := ⟨.hbm, 86, rfl⟩
abbrev main_call3_v2 : Ref sig .tc := ⟨.hbm, 87, rfl⟩
abbrev main_call3_v3 : Ref sig .tc := ⟨.hbm, 88, rfl⟩
abbrev main_call3_cst_0 : Ref sig .tc := ⟨.hbm, 89, rfl⟩
abbrev main_call3_v4 : Ref sig .tc := ⟨.hbm, 90, rfl⟩
abbrev main_call3_v5 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_call4_v0 : Ref sig .tc := ⟨.hbm, 112, rfl⟩
abbrev main_call4_v1 : Ref sig .tc := ⟨.hbm, 113, rfl⟩
abbrev main_call4_cst : Ref sig .tc := ⟨.hbm, 114, rfl⟩
abbrev main_call4_v2 : Ref sig .tc := ⟨.hbm, 115, rfl⟩
abbrev main_call4_v3 : Ref sig .tc := ⟨.hbm, 116, rfl⟩
abbrev main_call4_cst_0 : Ref sig .tc := ⟨.hbm, 117, rfl⟩
abbrev main_call4_v4 : Ref sig .tc := ⟨.hbm, 118, rfl⟩
abbrev main_call4_v5 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩

abbrev nD : Nat := 1
abbrev τ : Topo := Topo.v7x

variable {F : FTy → Type} [FloatOps F]
-- ==== Merge.lean ====
abbrev S16384x2048 : Shape := ⟨2, ![16384, 2048]⟩
abbrev S2x4x8192x128 : Shape := ⟨4, ![2, 4, 8192, 128]⟩
abbrev S16384x1024 : Shape := ⟨2, ![16384, 1024]⟩
abbrev S16384x4096 : Shape := ⟨2, ![16384, 4096]⟩
abbrev S512x2048 : Shape := ⟨2, ![512, 2048]⟩
abbrev S1024x2048 : Shape := ⟨2, ![1024, 2048]⟩
abbrev S2048x2048 : Shape := ⟨2, ![2048, 2048]⟩
abbrev S2048 : Shape := ⟨1, ![2048]⟩
abbrev S2048x512 : Shape := ⟨2, ![2048, 512]⟩
abbrev S2x256x1024 : Shape := ⟨3, ![2, 256, 1024]⟩
abbrev S1x2048 : Shape := ⟨2, ![1, 2048]⟩
abbrev S256x2048 : Shape := ⟨2, ![256, 2048]⟩
abbrev S1x4x256x128 : Shape := ⟨4, ![1, 4, 256, 128]⟩
abbrev S256x1024 : Shape := ⟨2, ![256, 1024]⟩
abbrev S1x256x1024 : Shape := ⟨3, ![1, 256, 1024]⟩
abbrev S1x1x256x128 : Shape := ⟨4, ![1, 1, 256, 128]⟩
abbrev S256x128 : Shape := ⟨2, ![256, 128]⟩
abbrev S256x512 : Shape := ⟨2, ![256, 512]⟩
abbrev S256 : Shape := ⟨1, ![256]⟩
abbrev S256x1 : Shape := ⟨2, ![256, 1]⟩
abbrev S1x256x128 : Shape := ⟨3, ![1, 256, 128]⟩
abbrev S256x256 : Shape := ⟨2, ![256, 256]⟩

abbrev nBuf : Space → Nat
  | .hbm => 18
  | .vmem => 30
  | .smem => 0
  | _ => 0

abbrev bufTy : (tb : Table) → Fin (tcTables nBuf tb) → BufTy
  | .hbm, ⟨0, _⟩ => ⟨S16384x2048, .f32⟩
  | .hbm, ⟨1, _⟩ => ⟨S2x4x8192x128, .f32⟩
  | .hbm, ⟨2, _⟩ => ⟨S2x4x8192x128, .f32⟩
  | .hbm, ⟨3, _⟩ => ⟨S2x4x8192x128, .f32⟩
  | .hbm, ⟨4, _⟩ => ⟨S2x4x8192x128, .f32⟩
  | .hbm, ⟨5, _⟩ => ⟨S2x4x8192x128, .f32⟩
  | .hbm, ⟨6, _⟩ => ⟨S2x4x8192x128, .f32⟩
  | .hbm, ⟨7, _⟩ => ⟨S16384x1024, .bf16⟩
  | .hbm, ⟨8, _⟩ => ⟨S16384x4096, .bf16⟩
  | .hbm, ⟨9, _⟩ => ⟨S512x2048, .bf16⟩
  | .hbm, ⟨10, _⟩ => ⟨S1024x2048, .bf16⟩
  | .hbm, ⟨11, _⟩ => ⟨S2048x2048, .bf16⟩
  | .hbm, ⟨12, _⟩ => ⟨S2048, .f32⟩
  | .hbm, ⟨13, _⟩ => ⟨S2048x512, .bf16⟩
  | .hbm, ⟨14, _⟩ => ⟨S2x256x1024, .bf16⟩
  | .hbm, ⟨15, _⟩ => ⟨S512x2048, .bf16⟩
  | .hbm, ⟨16, _⟩ => ⟨S1x2048, .f32⟩
  | .hbm, ⟨17, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S1x4x256x128, .f32⟩
  | .local _ .vmem, ⟨3, _⟩ => ⟨S1x4x256x128, .f32⟩
  | .local _ .vmem, ⟨4, _⟩ => ⟨S1x4x256x128, .f32⟩
  | .local _ .vmem, ⟨5, _⟩ => ⟨S1x4x256x128, .f32⟩
  | .local _ .vmem, ⟨6, _⟩ => ⟨S1x4x256x128, .f32⟩
  | .local _ .vmem, ⟨7, _⟩ => ⟨S1x4x256x128, .f32⟩
  | .local _ .vmem, ⟨8, _⟩ => ⟨S1x4x256x128, .f32⟩
  | .local _ .vmem, ⟨9, _⟩ => ⟨S1x4x256x128, .f32⟩
  | .local _ .vmem, ⟨10, _⟩ => ⟨S1x4x256x128, .f32⟩
  | .local _ .vmem, ⟨11, _⟩ => ⟨S1x4x256x128, .f32⟩
  | .local _ .vmem, ⟨12, _⟩ => ⟨S1x4x256x128, .f32⟩
  | .local _ .vmem, ⟨13, _⟩ => ⟨S1x4x256x128, .f32⟩
  | .local _ .vmem, ⟨14, _⟩ => ⟨S256x1024, .bf16⟩
  | .local _ .vmem, ⟨15, _⟩ => ⟨S256x1024, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S512x2048, .bf16⟩
  | .local _ .vmem, ⟨21, _⟩ => ⟨S1024x2048, .bf16⟩
  | .local _ .vmem, ⟨22, _⟩ => ⟨S2048x2048, .bf16⟩
  | .local _ .vmem, ⟨23, _⟩ => ⟨S1x2048, .f32⟩
  | .local _ .vmem, ⟨24, _⟩ => ⟨S2048x512, .bf16⟩
  | .local _ .vmem, ⟨25, _⟩ => ⟨S1x256x1024, .bf16⟩
  | .local _ .vmem, ⟨26, _⟩ => ⟨S1x256x1024, .bf16⟩
  | .local _ .vmem, ⟨27, _⟩ => ⟨S512x2048, .bf16⟩
  | .local _ .vmem, ⟨28, _⟩ => ⟨S256x2048, .f32⟩
  | .local _ .vmem, ⟨29, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_4 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_5 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_6 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2048x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S512x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MergeReferenceIdeal.lean ====
abbrev S16384x2048 : Shape := ⟨2, ![16384, 2048]⟩
abbrev S2x4x8192x128 : Shape := ⟨4, ![2, 4, 8192, 128]⟩
abbrev S16384x1024 : Shape := ⟨2, ![16384, 1024]⟩
abbrev S16384x4096 : Shape := ⟨2, ![16384, 4096]⟩
abbrev S512x2048 : Shape := ⟨2, ![512, 2048]⟩
abbrev S1024x2048 : Shape := ⟨2, ![1024, 2048]⟩
abbrev S2048x2048 : Shape := ⟨2, ![2048, 2048]⟩
abbrev S2048 : Shape := ⟨1, ![2048]⟩
abbrev S2048x512 : Shape := ⟨2, ![2048, 512]⟩
abbrev S2x256x1024 : Shape := ⟨3, ![2, 256, 1024]⟩
abbrev S1x2x4x8192x128 : Shape := ⟨5, ![1, 2, 4, 8192, 128]⟩
abbrev S3x2x4x8192x128 : Shape := ⟨5, ![3, 2, 4, 8192, 128]⟩
abbrev S_ : Shape := ⟨0, ![]⟩
abbrev S2x8192x4x128 : Shape := ⟨4, ![2, 8192, 4, 128]⟩
abbrev S16384x512 : Shape := ⟨2, ![16384, 512]⟩
abbrev S16384 : Shape := ⟨1, ![16384]⟩
abbrev S16384x1 : Shape := ⟨2, ![16384, 1]⟩
abbrev S1x2048 : Shape := ⟨2, ![1, 2048]⟩
abbrev S2x256x2x4x128 : Shape := ⟨5, ![2, 256, 2, 4, 128]⟩
abbrev S2x256x1x4x128 : Shape := ⟨5, ![2, 256, 1, 4, 128]⟩
abbrev S2x256x4x128 : Shape := ⟨4, ![2, 256, 4, 128]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩

abbrev nBuf : Space → Nat
  | .hbm => 103
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2x4x8192x128, .f32⟩
  | .hbm, ⟨2, _⟩ => ⟨S2x4x8192x128, .f32⟩
  | .hbm, ⟨3, _⟩ => ⟨S2x4x8192x128, .f32⟩
  | .hbm, ⟨4, _⟩ => ⟨S2x4x8192x128, .f32⟩
  | .hbm, ⟨5, _⟩ => ⟨S2x4x8192x128, .f32⟩
  | .hbm, ⟨6, _⟩ => ⟨S2x4x8192x128, .f32⟩
  | .hbm, ⟨7, _⟩ => ⟨S16384x1024, .bf16⟩
  | .hbm, ⟨8, _⟩ => ⟨S16384x4096, .bf16⟩
  | .hbm, ⟨9, _⟩ => ⟨S512x2048, .bf16⟩
  | .hbm, ⟨10, _⟩ => ⟨S1024x2048, .bf16⟩
  | .hbm, ⟨11, _⟩ => ⟨S2048x2048, .bf16⟩
  | .hbm, ⟨12, _⟩ => ⟨S2048, .f32⟩
  | .hbm, ⟨13, _⟩ => ⟨S2048x512, .bf16⟩
  | .hbm, ⟨14, _⟩ => ⟨S2x256x1024, .bf16⟩
  | .hbm, ⟨15, _⟩ => ⟨S512x2048, .bf16⟩
  | .hbm, ⟨16, _⟩ => ⟨S1x2x4x8192x128, .f32⟩
  | .hbm, ⟨17, _⟩ => ⟨S1x2x4x8192x128, .f32⟩
  | .hbm, ⟨18, _⟩ => ⟨S1x2x4x8192x128, .f32⟩
  | .hbm, ⟨19, _⟩ => ⟨S3x2x4x8192x128, .f32⟩
  | .hbm, ⟨20, _⟩ => ⟨S_, .f32⟩
  | .hbm, ⟨21, _⟩ => ⟨S2x4x8192x128, .f32⟩
  | .hbm, ⟨22, _⟩ => ⟨S_, .f32⟩
  | .hbm, ⟨23, _⟩ => ⟨S2x4x8192x128, .f32⟩
  | .hbm, ⟨24, _⟩ => ⟨S2x4x8192x128, .f32⟩
  | .hbm, ⟨25, _⟩ => ⟨S1x2x4x8192x128, .f32⟩
  | .hbm, ⟨26, _⟩ => ⟨S3x2x4x8192x128, .f32⟩
  | .hbm, ⟨27, _⟩ => ⟨S3x2x4x8192x128, .f32⟩
  | .hbm, ⟨28, _⟩ => ⟨S3x2x4x8192x128, .f32⟩
  | .hbm, ⟨29, _⟩ => ⟨S_, .f32⟩
  | .hbm, ⟨30, _⟩ => ⟨S2x4x8192x128, .f32⟩
  | .hbm, ⟨31, _⟩ => ⟨S1x2x4x8192x128, .f32⟩
  | .hbm, ⟨32, _⟩ => ⟨S3x2x4x8192x128, .f32⟩
  | .hbm, ⟨33, _⟩ => ⟨S3x2x4x8192x128, .f32⟩
  | .hbm, ⟨34, _⟩ => ⟨S1x2x4x8192x128, .f32⟩
  | .hbm, ⟨35, _⟩ => ⟨S1x2x4x8192x128, .f32⟩
  | .hbm, ⟨36, _⟩ => ⟨S1x2x4x8192x128, .f32⟩
  | .hbm, ⟨37, _⟩ => ⟨S3x2x4x8192x128, .f32⟩
  | .hbm, ⟨38, _⟩ => ⟨S3x2x4x8192x128, .f32⟩
  | .hbm, ⟨39, _⟩ => ⟨S_, .f32⟩
  | .hbm, ⟨40, _⟩ => ⟨S2x4x8192x128, .f32⟩
  | .hbm, ⟨41, _⟩ => ⟨S2x8192x4x128, .f32⟩
  | .hbm, ⟨42, _⟩ => ⟨S16384x512, .f32⟩
  | .hbm, ⟨43, _⟩ => ⟨S16384x4096, .f32⟩
  | .hbm, ⟨44, _⟩ => ⟨S16384x2048, .f32⟩
  | .hbm, ⟨45, _⟩ => ⟨S16384x2048, .f32⟩
  | .hbm, ⟨46, _⟩ => ⟨S512x2048, .f32⟩
  | .hbm, ⟨47, _⟩ => ⟨S16384x2048, .f32⟩
  | .hbm, ⟨48, _⟩ => ⟨S16384x2048, .f32⟩
  | .hbm, ⟨49, _⟩ => ⟨S16384x1024, .f32⟩
  | .hbm, ⟨50, _⟩ => ⟨S1024x2048, .f32⟩
  | .hbm, ⟨51, _⟩ => ⟨S16384x2048, .f32⟩
  | .hbm, ⟨52, _⟩ => ⟨S16384x2048, .f32⟩
  | .hbm, ⟨53, _⟩ => ⟨S16384x2048, .f32⟩
  | .hbm, ⟨54, _⟩ => ⟨S2048x2048, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x2048, .f32⟩
  | .hbm, ⟨69, _⟩ => ⟨S16384x2048, .f32⟩
  | .hbm, ⟨70, _⟩ => ⟨S1x2048, .f32⟩
  | .hbm, ⟨71, _⟩ => ⟨S16384x2048, .f32⟩
  | .hbm, ⟨72, _⟩ => ⟨S16384x2048, .f32⟩
  | .hbm, ⟨73, _⟩ => ⟨S2048x512, .f32⟩
  | .hbm, ⟨74, _⟩ => ⟨S16384x512, .f32⟩
  | .hbm, ⟨75, _⟩ => ⟨S2x8192x4x128, .f32⟩
  | .hbm, ⟨76, _⟩ => ⟨S2x256x1024, .f32⟩
  | .hbm, ⟨77, _⟩ => ⟨S2x256x2x4x128, .f32⟩
  | .hbm, ⟨78, _⟩ => ⟨S2x256x1x4x128, .f32⟩
  | .hbm, ⟨79, _⟩ => ⟨S2x256x4x128, .f32⟩
  | .hbm, ⟨80, _⟩ => ⟨S2x4x8192x256, .f32⟩
  | .hbm, ⟨81, _⟩ => ⟨S_, .f32⟩
  | .hbm, ⟨82, _⟩ => ⟨S2x4x8192x256, .f32⟩
  | .hbm, ⟨83, _⟩ => ⟨S2x4x8192x256, .f32⟩
  | .hbm, ⟨84, _⟩ => ⟨S_, .f32⟩
  | .hbm, ⟨85, _⟩ => ⟨S2x4x8192, .f32⟩
  | .hbm, ⟨86, _⟩ => ⟨S2x4x8192x1, .f32⟩
  | .hbm, ⟨87, _⟩ => ⟨S2x4x8192x256, .f32⟩
  | .hbm, ⟨88, _⟩ => ⟨S2x4x8192x256, .f32⟩
  | .hbm, ⟨89, _⟩ => ⟨S2x4x8192x256, .f32⟩
  | .hbm, ⟨90, _⟩ => ⟨S2x256x1x4x128, .f32⟩
  | .hbm, ⟨91, _⟩ => ⟨S2x256x4x128, .f32⟩
  | .hbm, ⟨92, _⟩ => ⟨S2x4x8192x128, .f32⟩
  | .hbm, ⟨93, _⟩ => ⟨S_, .f32⟩
  | .hbm, ⟨94, _⟩ => ⟨S2x4x8192, .f32⟩
  | .hbm, ⟨95, _⟩ => ⟨S2x4x8192x1, .f32⟩
  | .hbm, ⟨96, _⟩ => ⟨S2x4x8192x128, .f32⟩
  | .hbm, ⟨97, _⟩ => ⟨S2x4x8192x128, .f32⟩
  | .hbm, ⟨98, _⟩ => ⟨S2x8192x4x128, .f32⟩
  | .hbm, ⟨99, _⟩ => ⟨S16384x512, .f32⟩
  | .hbm, ⟨100, _⟩ => ⟨S512x2048, .f32⟩
  | .hbm, ⟨101, _⟩ => ⟨S16384x2048, .f32⟩
  | .hbm, ⟨102, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_v39 : Ref sig .tc := ⟨.hbm, 60, rfl⟩
abbrev main_cst_4 : Ref sig .tc := ⟨.hbm, 61, rfl⟩
abbrev main_v40 : Ref sig .tc := ⟨.hbm, 62, rfl⟩
abbrev main_v41 : Ref sig .tc := ⟨.hbm, 63, rfl⟩
abbrev main_cst_5 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_6 : Ref sig .tc := ⟨.hbm, 81, rfl⟩
abbrev main_v58 : Ref sig .tc := ⟨.hbm, 82, rfl⟩
abbrev main_v59 : Ref sig .tc := ⟨.hbm, 83, rfl⟩
abbrev main_cst_7 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_8 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== Memory.lean ====
abbrev S2x256x2048 : Shape := ⟨3, ![2, 256, 2048]⟩
abbrev S2048 : Shape := ⟨1, ![2048]⟩
abbrev S2048x1024 : Shape := ⟨2, ![2048, 1024]⟩
abbrev S512x2048 : Shape := ⟨2, ![512, 2048]⟩
abbrev S1x2048 : Shape := ⟨2, ![1, 2048]⟩
abbrev S512x1024 : Shape := ⟨2, ![512, 1024]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 7
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x1024, .f32⟩
  | .hbm, ⟨3, _⟩ => ⟨S512x2048, .f32⟩
  | .hbm, ⟨4, _⟩ => ⟨S2048x1024, .bf16⟩
  | .hbm, ⟨5, _⟩ => ⟨S1x2048, .f32⟩
  | .hbm, ⟨6, _⟩ => ⟨S512x1024, .bf16⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemoryReferenceIdeal.lean ====
abbrev S2x256x2048 : Shape := ⟨3, ![2, 256, 2048]⟩
abbrev S2048 : Shape := ⟨1, ![2048]⟩
abbrev S2048x1024 : Shape := ⟨2, ![2048, 1024]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S2x256x1024 : Shape := ⟨3, ![2, 256, 1024]⟩
abbrev S512x1024 : Shape := ⟨2, ![512, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S2048x1024, .f32⟩
  | .hbm, ⟨3, _⟩ => ⟨S2x256x2048, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x2048, .f32⟩
  | .hbm, ⟨15, _⟩ => ⟨S2x256x2048, .f32⟩
  | .hbm, ⟨16, _⟩ => ⟨S1x1x2048, .f32⟩
  | .hbm, ⟨17, _⟩ => ⟨S2x256x2048, .f32⟩
  | .hbm, ⟨18, _⟩ => ⟨S2x256x2048, .f32⟩
  | .hbm, ⟨19, _⟩ => ⟨S2x256x1024, .f32⟩
  | .hbm, ⟨20, _⟩ => ⟨S512x1024, .f32⟩
  | .hbm, ⟨21, _⟩ => ⟨S512x1024, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Normed.lean ====
abbrev S2x8192x2048 : Shape := ⟨3, ![2, 8192, 2048]⟩
abbrev S2048 : Shape := ⟨1, ![2048]⟩
abbrev S16384x2048 : Shape := ⟨2, ![16384, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S16384x2048, .f32⟩
  | .hbm, ⟨3, _⟩ => ⟨S1x2048, .f32⟩
  | .hbm, ⟨4, _⟩ => ⟨S16384x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormedReferenceIdeal.lean ====
abbrev S2x8192x2048 : Shape := ⟨3, ![2, 8192, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S16384x2048 : Shape := ⟨2, ![16384, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2048, .f32⟩
  | .hbm, ⟨2, _⟩ => ⟨S2x8192x2048, .f32⟩
  | .hbm, ⟨3, _⟩ => ⟨S_, .f32⟩
  | .hbm, ⟨4, _⟩ => ⟨S2x8192, .f32⟩
  | .hbm, ⟨5, _⟩ => ⟨S2x8192x1, .f32⟩
  | .hbm, ⟨6, _⟩ => ⟨S_, .f32⟩
  | .hbm, ⟨7, _⟩ => ⟨S2x8192x1, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S2x8192x1, .f32⟩
  | .hbm, ⟨13, _⟩ => ⟨S2x8192x2048, .f32⟩
  | .hbm, ⟨14, _⟩ => ⟨S2x8192x2048, .f32⟩
  | .hbm, ⟨15, _⟩ => ⟨S1x1x2048, .f32⟩
  | .hbm, ⟨16, _⟩ => ⟨S2x8192x2048, .f32⟩
  | .hbm, ⟨17, _⟩ => ⟨S2x8192x2048, .f32⟩
  | .hbm, ⟨18, _⟩ => ⟨S16384x2048, .f32⟩
  | .hbm, ⟨19, _⟩ => ⟨S16384x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Rows.lean ====
/- Hand-written. The attention of one head over one block of 128 query rows, as formulas in the extended reals: a query row
   meets the 128 keys of its own block and the 128 keys of the block before. `rmax`, `rden`, `rout`, `rlse` are the row's
   maximum, its sum of exponentials, its weighted average of the values and its log-sum-exp, over two rows of scores;
   `scoreC` and `scoreP` are the masked scores against the own block and the block before. -/
module

public import Idealize.ShloMosaic.Lib.Pointwise

@[expose] public section

noncomputable section

namespace Cert.Proof.Rows

open Idealize.ShloMosaic

/-- The largest score of a row. -/
def rmax (c p : Fin 128 → EReal) : EReal := Finset.univ.fold max (⊥ : EReal) fun k => max (c k) (p k)

/-- The sum of the exponentials of a row's scores, each less the largest. -/
def rden (c p : Fin 128 → EReal) : EReal :=
  ∑ k, (Ideal.exp (c k - rmax c p) + Ideal.exp (p k - rmax c p))

/-- The values weighted by those exponentials, over their sum. -/
def rout (c p vc vp : Fin 128 → EReal) : EReal :=
  Ideal.div ((∑ k, Ideal.exp (c k - rmax c p) * vc k) + ∑ k, Ideal.exp (p k - rmax c p) * vp k) (rden c p)

/-- The logarithm of the sum of the exponentials of a row's scores. -/
def rlse (c p : Fin 128 → EReal) : EReal := rmax c p + Ideal.log (rden c p)

/-- The word of a whole number of steps, as a number. -/
def num (b : BitVec 32) : EReal := FloatOps.sitofp (F := Ideal) .f32 b

/-- The score of a query row against key `k` of its own block: seen when the key is not later than the query. -/
def scoreC (sl : EReal) (q : Fin 128 → EReal) (kc : Fin 128 → Fin 128 → EReal) (r k : Fin 128) : EReal :=
  if k.val ≤ r.val then
    (∑ e, q e * kc k e) * Ideal.ofBits .f32 0x3DB504F3#32 - sl * num (BitVec.ofNat 32 r.val - BitVec.ofNat 32 k.val)
  else ⊥

/-- The score of a query row against key `k` of the block before, where there is one: seen when at most 128 steps back. -/
def scoreP (first : Prop) [Decidable first] (sl : EReal) (q : Fin 128 → EReal) (kp : Fin 128 → Fin 128 → EReal) (r k : Fin 128) : EReal :=
  if ¬ first ∧ r.val ≤ k.val then
    (∑ e, q e * kp k e) * Ideal.ofBits .f32 0x3DB504F3#32
      - sl * num (BitVec.ofNat 32 r.val - BitVec.ofNat 32 k.val + 128#32)
  else ⊥

/-- The two masks as words, over the 128 by 128 places. -/
theorem seen_cur : ∀ r k : Fin 128,
    IntOp.cmpi .sge (BitVec.ofNat 32 r.val - BitVec.ofNat 32 k.val) 0#32 = if k.val ≤ r.val then 1#1 else 0#1 := by
  decide +kernel

theorem seen_prev : ∀ r k : Fin 128,
    IntOp.cmpi .sle (BitVec.ofNat 32 r.val - BitVec.ofNat 32 k.val) 0#32 = if r.val ≤ k.val then 1#1 else 0#1 := by
  decide +kernel

theorem seen_none : ∀ r k : Fin 128,
    IntOp.cmpi .sle (BitVec.ofNat 32 r.val - BitVec.ofNat 32 k.val) 4294967168#32 = 0#1 := by
  decide +kernel

end Cert.Proof.Rows

end
-- ==== Proof.Block.lean ====
/- Hand-written. What the kernel's body computes for one head and one block of 128 query rows, as vectors (`sCur`, `sPrev`,
   `blkO`, `blkL`), and each read at an index as the formulas of `Rows`. -/
module

public import proofs.«01_k».proof.Proof.Gen.KernelIdeal.Frame
public import proofs.«01_k».proof.Proof.Rows
public import Idealize.ShloMosaic.Lib.Pointwise

@[expose] public section

noncomputable section

namespace Cert.Proof.Block

open Cert.KernelIdeal Cert.KernelIdeal.Gen Idealize.ShloMosaic Cert.Proof.Rows

variable {F : FTy → Type} [FloatOps F]

/-- A block's 128 by 128 words, its unit axis dropped. -/
def flat (x : Vec F S1x128x128 .bf16) : FVec F S128x128 .bf16 := shapeCast S128x128 x shapeCasts_S1x128x128_S128x128

/-- The products of the queries with a block of keys. -/
def dotQK (q k : Vec F S1x128x128 .bf16) : FVec F S128x128 .f32 :=
  matmul dot_S128x128_S128x128_S128x128_1_1_0_0_n_n none (flat q) (flat k) (constant S128x128 .f32 0x00000000#32)

/-- Scaled scores less the slope times the distance, where the mask has them seen. -/
def masked (seen : IVec S128x128 1) (sl : Elt F .f32) (dist x : FVec F S128x128 .f32) : FVec F S128x128 .f32 :=
  select seen (subf (mulf x (broadcast S128x128 (Scalar.ofBits .f32 0x3DB504F3#32))) (mulf (broadcast S128x128 sl) dist))
    (broadcast S128x128 (Scalar.ofBits .f32 0xFF800000#32))

/-- The masked scores against the block's own keys. -/
def sCur (sl : Elt F .f32) (q kc : Vec F S1x128x128 .bf16) : FVec F S128x128 .f32 :=
  masked k0_pay3 sl k0_pay4 (dotQK q kc)

/-- The masked scores against the keys of the block before, seen up to the step `lim`. -/
def sPrev (lim : BitVec 32) (sl : Elt F .f32) (q kp : Vec F S1x128x128 .bf16) : FVec F S128x128 .f32 :=
  masked (cmpi .sle k0_pay2 (broadcast S128x128 lim)) sl k0_pay5 (dotQK q kp)

/-- The largest score of each row, as a column. -/
def mx (c p : FVec F S128x128 .f32) : FVec F S128x1 .f32 :=
  shapeCast S128x1 (multiReduction .maximumf [1] S128 (maximumf c p) 0xFF800000#32 reduces_S128x128_S128 (.inl rfl) rfl) shapeCasts_S128_S128x1

/-- The exponentials of the scores less the row's largest. -/
def ex (x : FVec F S128x128 .f32) (m : FVec F S128x1 .f32) : FVec F S128x128 .f32 :=
  exp (subf x (broadcastTo S128x128 m broadcasts_S128x1_S128x128))

/-- Their sums over each row, as a column. -/
def dn (c p : FVec F S128x128 .f32) : FVec F S128x1 .f32 :=
  shapeCast S128x1 (multiReduction .add [1] S128 (addf (ex c (mx c p)) (ex p (mx c p))) 0x00000000#32 reduces_S128x128_S128 (.inl rfl) rfl) shapeCasts_S128_S128x1

/-- The exponentials times a block of values. -/
def dotPV (x : FVec F S128x128 .f32) (v : Vec F S1x128x128 .bf16) : FVec F S128x128 .f32 :=
  matmul dot_S128x128_S128x128_S128x128_1_0_0_1_n_n none (truncf .bf16 x bitsLt_bf16_f32) (flat v) (constant S128x128 .f32 0x00000000#32)

/-- The block of weighted values. -/
def blkO (c p : FVec F S128x128 .f32) (vc vp : Vec F S1x128x128 .bf16) : FVec F S1x1x128x128 .f32 :=
  shapeCast S1x1x128x128 (divf (addf (dotPV (ex c (mx c p)) vc) (dotPV (ex p (mx c p)) vp))
    (broadcastTo S128x128 (dn c p) broadcasts_S128x1_S128x128)) shapeCasts_S128x128_S1x1x128x128

/-- The block of log-sum-exps, each over the 128 lanes of its row. -/
def blkL (c p : FVec F S128x128 .f32) : FVec F S1x1x128x128 .f32 :=
  shapeCast S1x1x128x128 (broadcastTo S128x128 (shapeCast S128x1 (addf (mx c p) (log (dn c p))) shapeCasts_S128x1_S128x1)
    broadcasts_S128x1_S128x128) shapeCasts_S128x128_S1x1x128x128

section Read

variable (sl : Elt Ideal .f32) (q k v : Vec Ideal S1x128x128 .bf16) (c p : FVec Ideal S128x128 .f32) (r e : Fin 128)

theorem dotQK_apply : dotQK q k (ix2 r e) = ∑ d : Fin 128, q (ix3 0 r d) * k (ix3 0 e d) := by
  pointwise [dotQK, flat]

theorem neg_inf : Ideal.ofBits .f32 0xFF800000#32 = ⊥ := by simp [Ideal.ofBits, Ideal.ieee]

theorem sCur_apply : sCur sl q k (ix2 r e) = scoreC sl (fun d => q (ix3 0 r d)) (fun k' d => k (ix3 0 k' d)) r e := by
  unfold sCur masked scoreC num
  pointwise [dotQK_apply, k0_pay3, k0_pay4, k0_pay2]
  rw [show IntOp.muli (IntOp.subi (BitVec.ofNat 32 r.val) (BitVec.ofNat 32 e.val)) 1#32
      = BitVec.ofNat 32 r.val - BitVec.ofNat 32 e.val from BitVec.mul_one _,
    show IntOp.cmpi .sge (IntOp.subi (BitVec.ofNat 32 r.val) (BitVec.ofNat 32 e.val)) 0#32 = _ from seen_cur r e, neg_inf]
  by_cases h : e.val ≤ r.val
  · rw [if_pos h, if_pos h]; rfl
  · rw [if_neg h, if_neg h]; rfl

theorem sPrev_words (lim : BitVec 32) : sPrev lim sl q k (ix2 r e)
    = Scalar.select (IntOp.cmpi .sle (BitVec.ofNat 32 r.val - BitVec.ofNat 32 e.val) lim)
        ((∑ d : Fin 128, q (ix3 0 r d) * k (ix3 0 e d)) * Ideal.ofBits .f32 0x3DB504F3#32
          - sl * num (BitVec.ofNat 32 r.val - BitVec.ofNat 32 e.val + 128#32)) (⊥ : EReal) := by
  unfold sPrev masked num
  pointwise [dotQK_apply, k0_pay5, k0_pay2]
  rw [show IntOp.muli (IntOp.addi (IntOp.subi (BitVec.ofNat 32 r.val) (BitVec.ofNat 32 e.val)) 128#32) 1#32
      = BitVec.ofNat 32 r.val - BitVec.ofNat 32 e.val + 128#32 from BitVec.mul_one _, neg_inf]
  rfl

theorem sPrev_apply (first : Prop) [Decidable first] (lim : BitVec 32) (hl : lim = if first then 4294967168#32 else 0#32) :
    sPrev lim sl q k (ix2 r e) = scoreP first sl (fun d => q (ix3 0 r d)) (fun k' d => k (ix3 0 k' d)) r e := by
  rw [sPrev_words, hl]
  unfold scoreP
  by_cases hf : first
  · rw [if_pos hf, if_neg (by tauto), seen_none]; rfl
  · rw [if_neg hf, seen_prev]
    by_cases h : r.val ≤ e.val
    · rw [if_pos h, if_pos ⟨hf, h⟩]; rfl
    · rw [if_neg h, if_neg (by tauto)]; rfl

theorem mx_apply : mx c p (ix2 r 0) = rmax (fun k => c (ix2 r k)) (fun k => p (ix2 r k)) := by
  pointwise [mx, rmax]
  rw [neg_inf]

theorem ex_apply (m : FVec Ideal S128x1 .f32) : ex c m (ix2 r e) = Ideal.exp (c (ix2 r e) - m (ix2 r 0)) := by
  pointwise [ex]

theorem dn_apply : dn c p (ix2 r 0) = rden (fun k => c (ix2 r k)) (fun k => p (ix2 r k)) := by
  unfold rden
  pointwise [dn, ex_apply, mx_apply]

theorem dotPV_apply : dotPV c v (ix2 r e) = ∑ d : Fin 128, c (ix2 r d) * v (ix3 0 d e) := by
  pointwise [dotPV, flat]

theorem blkO_apply (vc vp : Vec Ideal S1x128x128 .bf16) : blkO c p vc vp (ix4 0 0 r e)
    = rout (fun k => c (ix2 r k)) (fun k => p (ix2 r k)) (fun k => vc (ix3 0 k e)) (fun k => vp (ix3 0 k e)) := by
  unfold rout
  pointwise [blkO, dotPV_apply, ex_apply, mx_apply, dn_apply]

theorem blkL_apply : blkL c p (ix4 0 0 r e) = rlse (fun k => c (ix2 r k)) (fun k => p (ix2 r k)) := by
  unfold rlse
  pointwise [blkL, mx_apply, dn_apply]

end Read

end Cert.Proof.Block

end
-- ==== Proof.Pieces.lean ====
/- Hand-written. What one grid point leaves in the two outputs' buffers, as the list of the sixteen blocks it stores: head `h`
   and row block `s`, each the block of `Block` on the words it loads. -/
module

public import proofs.«01_k».proof.Proof.Block

@[expose] public section

noncomputable section

namespace Cert.Proof.Pieces

open Cert.KernelIdeal Cert.KernelIdeal.Gen Idealize.ShloMosaic Cert.Proof.Block

variable {F : FTy → Type} [FloatOps F]

theorem fits (s h : Nat) (hs : s < 4) (hh : h < 4) :
    ∀ a : Fin 3, (![0, s * 128, h * 128] : Fin 3 → Nat) a + S1x128x128.size a ≤ S1x512x512.size a
  | ⟨0, _⟩ => show 0 + 1 ≤ 1 from Nat.le_refl _
  | ⟨1, _⟩ => show s * 128 + 128 ≤ 512 by omega
  | ⟨2, _⟩ => show h * 128 + 128 ≤ 512 by omega

theorem fitsP (h : Nat) (hh : h < 4) :
    ∀ a : Fin 3, (![0, 0, h * 128] : Fin 3 → Nat) a + S1x128x128.size a ≤ S1x128x512.size a
  | ⟨0, _⟩ => show 0 + 1 ≤ 1 from Nat.le_refl _
  | ⟨1, _⟩ => show 0 + 128 ≤ 128 from Nat.le_refl _
  | ⟨2, _⟩ => show h * 128 + 128 ≤ 512 by omega

theorem fitsS (h : Nat) (hh : h < 4) : ∀ a : Fin 1, (![h] : Fin 1 → Nat) a + S1.size a ≤ S12.size a
  | ⟨0, _⟩ => show h + 1 ≤ 12 by omega

theorem fitsO (s h : Nat) (hs : s < 4) (hh : h < 4) :
    ∀ a : Fin 4, (![0, h, s * 128, 0] : Fin 4 → Nat) a + S1x1x128x128.size a ≤ S1x4x512x128.size a
  | ⟨0, _⟩ => show 0 + 1 ≤ 1 from Nat.le_refl _
  | ⟨1, _⟩ => show h + 1 ≤ 4 by omega
  | ⟨2, _⟩ => show s * 128 + 128 ≤ 512 by omega
  | ⟨3, _⟩ => show 0 + 128 ≤ 128 from Nat.le_refl _

/-- Row block `s` of head `h` of a 512 by 512 block. -/
def sub (x : Vec F S1x512x512 .bf16) (s h : Nat) (hs : s < 4) (hh : h < 4) : Vec F S1x128x128 .bf16 :=
  View.ld x (Rect.unit (s := S1x512x512) ![0, s * 128, h * 128] S1x128x128.size (fits s h hs hh))

/-- Head `h` of the 128 by 512 block before. -/
def subP (x : Vec F S1x128x512 .bf16) (h : Nat) (hh : h < 4) : Vec F S1x128x128 .bf16 :=
  View.ld x (Rect.unit (s := S1x128x512) ![0, 0, h * 128] S1x128x128.size (fitsP h hh))

/-- Head `h`'s slope. -/
def hslope (x : Vec F S12 .f32) (h : Nat) (hh : h < 4) : Elt F .f32 :=
  View.ld x (Rect.unit (s := S12) ![h] S1.size (fitsS h hh)) (Shape.Idx.first (show 0 < S1.numel by decide))

/-- Where the block of head `h` and row block `s` is stored. -/
def place (s h : Nat) (hs : s < 4) (hh : h < 4) : Rect S1x4x512x128 :=
  Rect.unit (s := S1x4x512x128) ![0, h, s * 128, 0] S1x1x128x128.size (fitsO s h hs hh)

/-- The step up to which the block before the tile is seen: none in the sequence's first tile. -/
def lim0 (i : grid0.Coords) : BitVec 32 := Scalar.select (Scalar.cmpi .eq (BitVec.ofNat 32 (i 1).val) 0#32) 4294967168#32 0#32

/-- The blocks of weighted values that a point stores, last first. -/
def listO (i : grid0.Coords) (x0 : Vec F S12 .f32) (x1 : Vec F S1x512x512 .bf16) (x2 : Vec F S1x128x512 .bf16) (x3 : Vec F S1x512x512 .bf16)
    (x4 : Vec F S1x128x512 .bf16) (x5 : Vec F S1x512x512 .bf16) : List (View.Piece (Elt F) S1x4x512x128 .f32) :=
  [⟨place 3 3 (by decide) (by decide), blkO (sCur (hslope x0 3 (by decide)) (sub x1 3 3 (by decide) (by decide)) (sub x3 3 3 (by decide) (by decide))) (sPrev 0#32 (hslope x0 3 (by decide)) (sub x1 3 3 (by decide) (by decide)) (sub x3 2 3 (by decide) (by decide))) (sub x5 3 3 (by decide) (by decide)) (sub x5 2 3 (by decide) (by decide))⟩,
    ⟨place 3 2 (by decide) (by decide), blkO (sCur (hslope x0 2 (by decide)) (sub x1 3 2 (by decide) (by decide)) (sub x3 3 2 (by decide) (by decide))) (sPrev 0#32 (hslope x0 2 (by decide)) (sub x1 3 2 (by decide) (by decide)) (sub x3 2 2 (by decide) (by decide))) (sub x5 3 2 (by decide) (by decide)) (sub x5 2 2 (by decide) (by decide))⟩,
    ⟨place 3 1 (by decide) (by decide), blkO (sCur (hslope x0 1 (by decide)) (sub x1 3 1 (by decide) (by decide)) (sub x3 3 1 (by decide) (by decide))) (sPrev 0#32 (hslope x0 1 (by decide)) (sub x1 3 1 (by decide) (by decide)) (sub x3 2 1 (by decide) (by decide))) (sub x5 3 1 (by decide) (by decide)) (sub x5 2 1 (by decide) (by decide))⟩,
    ⟨place 3 0 (by decide) (by decide), blkO (sCur (hslope x0 0 (by decide)) (sub x1 3 0 (by decide) (by decide)) (sub x3 3 0 (by decide) (by decide))) (sPrev 0#32 (hslope x0 0 (by decide)) (sub x1 3 0 (by decide) (by decide)) (sub x3 2 0 (by decide) (by decide))) (sub x5 3 0 (by decide) (by decide)) (sub x5 2 0 (by decide) (by decide))⟩,
    ⟨place 2 3 (by decide) (by decide), blkO (sCur (hslope x0 3 (by decide)) (sub x1 2 3 (by decide) (by decide)) (sub x3 2 3 (by decide) (by decide))) (sPrev 0#32 (hslope x0 3 (by decide)) (sub x1 2 3 (by decide) (by decide)) (sub x3 1 3 (by decide) (by decide))) (sub x5 2 3 (by decide) (by decide)) (sub x5 1 3 (by decide) (by decide))⟩,
    ⟨place 2 2 (by decide) (by decide), blkO (sCur (hslope x0 2 (by decide)) (sub x1 2 2 (by decide) (by decide)) (sub x3 2 2 (by decide) (by decide))) (sPrev 0#32 (hslope x0 2 (by decide)) (sub x1 2 2 (by decide) (by decide)) (sub x3 1 2 (by decide) (by decide))) (sub x5 2 2 (by decide) (by decide)) (sub x5 1 2 (by decide) (by decide))⟩,
    ⟨place 2 1 (by decide) (by decide), blkO (sCur (hslope x0 1 (by decide)) (sub x1 2 1 (by decide) (by decide)) (sub x3 2 1 (by decide) (by decide))) (sPrev 0#32 (hslope x0 1 (by decide)) (sub x1 2 1 (by decide) (by decide)) (sub x3 1 1 (by decide) (by decide))) (sub x5 2 1 (by decide) (by decide)) (sub x5 1 1 (by decide) (by decide))⟩,
    ⟨place 2 0 (by decide) (by decide), blkO (sCur (hslope x0 0 (by decide)) (sub x1 2 0 (by decide) (by decide)) (sub x3 2 0 (by decide) (by decide))) (sPrev 0#32 (hslope x0 0 (by decide)) (sub x1 2 0 (by decide) (by decide)) (sub x3 1 0 (by decide) (by decide))) (sub x5 2 0 (by decide) (by decide)) (sub x5 1 0 (by decide) (by decide))⟩,
    ⟨place 1 3 (by decide) (by decide), blkO (sCur (hslope x0 3 (by decide)) (sub x1 1 3 (by decide) (by decide)) (sub x3 1 3 (by decide) (by decide))) (sPrev 0#32 (hslope x0 3 (by decide)) (sub x1 1 3 (by decide) (by decide)) (sub x3 0 3 (by decide) (by decide))) (sub x5 1 3 (by decide) (by decide)) (sub x5 0 3 (by decide) (by decide))⟩,
    ⟨place 1 2 (by decide) (by decide), blkO (sCur (hslope x0 2 (by decide)) (sub x1 1 2 (by decide) (by decide)) (sub x3 1 2 (by decide) (by decide))) (sPrev 0#32 (hslope x0 2 (by decide)) (sub x1 1 2 (by decide) (by decide)) (sub x3 0 2 (by decide) (by decide))) (sub x5 1 2 (by decide) (by decide)) (sub x5 0 2 (by decide) (by decide))⟩,
    ⟨place 1 1 (by decide) (by decide), blkO (sCur (hslope x0 1 (by decide)) (sub x1 1 1 (by decide) (by decide)) (sub x3 1 1 (by decide) (by decide))) (sPrev 0#32 (hslope x0 1 (by decide)) (sub x1 1 1 (by decide) (by decide)) (sub x3 0 1 (by decide) (by decide))) (sub x5 1 1 (by decide) (by decide)) (sub x5 0 1 (by decide) (by decide))⟩,
    ⟨place 1 0 (by decide) (by decide), blkO (sCur (hslope x0 0 (by decide)) (sub x1 1 0 (by decide) (by decide)) (sub x3 1 0 (by decide) (by decide))) (sPrev 0#32 (hslope x0 0 (by decide)) (sub x1 1 0 (by decide) (by decide)) (sub x3 0 0 (by decide) (by decide))) (sub x5 1 0 (by decide) (by decide)) (sub x5 0 0 (by decide) (by decide))⟩,
    ⟨place 0 3 (by decide) (by decide), blkO (sCur (hslope x0 3 (by decide)) (sub x1 0 3 (by decide) (by decide)) (sub x3 0 3 (by decide) (by decide))) (sPrev (lim0 i) (hslope x0 3 (by decide)) (sub x1 0 3 (by decide) (by decide)) (subP x2 3 (by decide))) (sub x5 0 3 (by decide) (by decide)) (subP x4 3 (by decide))⟩,
    ⟨place 0 2 (by decide) (by decide), blkO (sCur (hslope x0 2 (by decide)) (sub x1 0 2 (by decide) (by decide)) (sub x3 0 2 (by decide) (by decide))) (sPrev (lim0 i) (hslope x0 2 (by decide)) (sub x1 0 2 (by decide) (by decide)) (subP x2 2 (by decide))) (sub x5 0 2 (by decide) (by decide)) (subP x4 2 (by decide))⟩,
    ⟨place 0 1 (by decide) (by decide), blkO (sCur (hslope x0 1 (by decide)) (sub x1 0 1 (by decide) (by decide)) (sub x3 0 1 (by decide) (by decide))) (sPrev (lim0 i) (hslope x0 1 (by decide)) (sub x1 0 1 (by decide) (by decide)) (subP x2 1 (by decide))) (sub x5 0 1 (by decide) (by decide)) (subP x4 1 (by decide))⟩,
    ⟨place 0 0 (by decide) (by decide), blkO (sCur (hslope x0 0 (by decide)) (sub x1 0 0 (by decide) (by decide)) (sub x3 0 0 (by decide) (by decide))) (sPrev (lim0 i) (hslope x0 0 (by decide)) (sub x1 0 0 (by decide) (by decide)) (subP x2 0 (by decide))) (sub x5 0 0 (by decide) (by decide)) (subP x4 0 (by decide))⟩]

/-- The blocks of log-sum-exps that a point stores, last first. -/
def listL (i : grid0.Coords) (x0 : Vec F S12 .f32) (x1 : Vec F S1x512x512 .bf16) (x2 : Vec F S1x128x512 .bf16) (x3 : Vec F S1x512x512 .bf16) :
    List (View.Piece (Elt F) S1x4x512x128 .f32) :=
  [⟨place 3 3 (by decide) (by decide), blkL (sCur (hslope x0 3 (by decide)) (sub x1 3 3 (by decide) (by decide)) (sub x3 3 3 (by decide) (by decide))) (sPrev 0#32 (hslope x0 3 (by decide)) (sub x1 3 3 (by decide) (by decide)) (sub x3 2 3 (by decide) (by decide)))⟩,
    ⟨place 3 2 (by decide) (by decide), blkL (sCur (hslope x0 2 (by decide)) (sub x1 3 2 (by decide) (by decide)) (sub x3 3 2 (by decide) (by decide))) (sPrev 0#32 (hslope x0 2 (by decide)) (sub x1 3 2 (by decide) (by decide)) (sub x3 2 2 (by decide) (by decide)))⟩,
    ⟨place 3 1 (by decide) (by decide), blkL (sCur (hslope x0 1 (by decide)) (sub x1 3 1 (by decide) (by decide)) (sub x3 3 1 (by decide) (by decide))) (sPrev 0#32 (hslope x0 1 (by decide)) (sub x1 3 1 (by decide) (by decide)) (sub x3 2 1 (by decide) (by decide)))⟩,
    ⟨place 3 0 (by decide) (by decide), blkL (sCur (hslope x0 0 (by decide)) (sub x1 3 0 (by decide) (by decide)) (sub x3 3 0 (by decide) (by decide))) (sPrev 0#32 (hslope x0 0 (by decide)) (sub x1 3 0 (by decide) (by decide)) (sub x3 2 0 (by decide) (by decide)))⟩,
    ⟨place 2 3 (by decide) (by decide), blkL (sCur (hslope x0 3 (by decide)) (sub x1 2 3 (by decide) (by decide)) (sub x3 2 3 (by decide) (by decide))) (sPrev 0#32 (hslope x0 3 (by decide)) (sub x1 2 3 (by decide) (by decide)) (sub x3 1 3 (by decide) (by decide)))⟩,
    ⟨place 2 2 (by decide) (by decide), blkL (sCur (hslope x0 2 (by decide)) (sub x1 2 2 (by decide) (by decide)) (sub x3 2 2 (by decide) (by decide))) (sPrev 0#32 (hslope x0 2 (by decide)) (sub x1 2 2 (by decide) (by decide)) (sub x3 1 2 (by decide) (by decide)))⟩,
    ⟨place 2 1 (by decide) (by decide), blkL (sCur (hslope x0 1 (by decide)) (sub x1 2 1 (by decide) (by decide)) (sub x3 2 1 (by decide) (by decide))) (sPrev 0#32 (hslope x0 1 (by decide)) (sub x1 2 1 (by decide) (by decide)) (sub x3 1 1 (by decide) (by decide)))⟩,
    ⟨place 2 0 (by decide) (by decide), blkL (sCur (hslope x0 0 (by decide)) (sub x1 2 0 (by decide) (by decide)) (sub x3 2 0 (by decide) (by decide))) (sPrev 0#32 (hslope x0 0 (by decide)) (sub x1 2 0 (by decide) (by decide)) (sub x3 1 0 (by decide) (by decide)))⟩,
    ⟨place 1 3 (by decide) (by decide), blkL (sCur (hslope x0 3 (by decide)) (sub x1 1 3 (by decide) (by decide)) (sub x3 1 3 (by decide) (by decide))) (sPrev 0#32 (hslope x0 3 (by decide)) (sub x1 1 3 (by decide) (by decide)) (sub x3 0 3 (by decide) (by decide)))⟩,
    ⟨place 1 2 (by decide) (by decide), blkL (sCur (hslope x0 2 (by decide)) (sub x1 1 2 (by decide) (by decide)) (sub x3 1 2 (by decide) (by decide))) (sPrev 0#32 (hslope x0 2 (by decide)) (sub x1 1 2 (by decide) (by decide)) (sub x3 0 2 (by decide) (by decide)))⟩,
    ⟨place 1 1 (by decide) (by decide), blkL (sCur (hslope x0 1 (by decide)) (sub x1 1 1 (by decide) (by decide)) (sub x3 1 1 (by decide) (by decide))) (sPrev 0#32 (hslope x0 1 (by decide)) (sub x1 1 1 (by decide) (by decide)) (sub x3 0 1 (by decide) (by decide)))⟩,
    ⟨place 1 0 (by decide) (by decide), blkL (sCur (hslope x0 0 (by decide)) (sub x1 1 0 (by decide) (by decide)) (sub x3 1 0 (by decide) (by decide))) (sPrev 0#32 (hslope x0 0 (by decide)) (sub x1 1 0 (by decide) (by decide)) (sub x3 0 0 (by decide) (by decide)))⟩,
    ⟨place 0 3 (by decide) (by decide), blkL (sCur (hslope x0 3 (by decide)) (sub x1 0 3 (by decide) (by decide)) (sub x3 0 3 (by decide) (by decide))) (sPrev (lim0 i) (hslope x0 3 (by decide)) (sub x1 0 3 (by decide) (by decide)) (subP x2 3 (by decide)))⟩,
    ⟨place 0 2 (by decide) (by decide), blkL (sCur (hslope x0 2 (by decide)) (sub x1 0 2 (by decide) (by decide)) (sub x3 0 2 (by decide) (by decide))) (sPrev (lim0 i) (hslope x0 2 (by decide)) (sub x1 0 2 (by decide) (by decide)) (subP x2 2 (by decide)))⟩,
    ⟨place 0 1 (by decide) (by decide), blkL (sCur (hslope x0 1 (by decide)) (sub x1 0 1 (by decide) (by decide)) (sub x3 0 1 (by decide) (by decide))) (sPrev (lim0 i) (hslope x0 1 (by decide)) (sub x1 0 1 (by decide) (by decide)) (subP x2 1 (by decide)))⟩,
    ⟨place 0 0 (by decide) (by decide), blkL (sCur (hslope x0 0 (by decide)) (sub x1 0 0 (by decide) (by decide)) (sub x3 0 0 (by decide) (by decide))) (sPrev (lim0 i) (hslope x0 0 (by decide)) (sub x1 0 0 (by decide) (by decide)) (subP x2 0 (by decide)))⟩]

theorem outO_eq (c : Dev nD) (i : grid0.Coords) (a3 : Memref sig .tc .smem S12 .f32) (h3 : a3.IsWhole)
    (a4 : Memref sig .tc .vmem S1x512x512 .bf16) (h4 : a4.IsWhole) (a5 : Memref sig .tc .vmem S1x128x512 .bf16) (h5 : a5.IsWhole)
    (a6 : Memref sig .tc .vmem S1x512x512 .bf16) (h6 : a6.IsWhole) (a7 : Memref sig .tc .vmem S1x128x512 .bf16) (h7 : a7.IsWhole)
    (a8 : Memref sig .tc .vmem S1x512x512 .bf16) (h8 : a8.IsWhole) (a9 : Memref sig .tc .vmem S1x4x512x128 .f32) (h9 : a9.IsWhole)
    (a10 : Memref sig .tc .vmem S1x4x512x128 .f32) (h10 : a10.IsWhole)
    (x0 : Vec F S12 .f32) (x1 : Vec F S1x512x512 .bf16) (x2 : Vec F S1x128x512 .bf16) (x3 : Vec F S1x512x512 .bf16)
    (x4 : Vec F S1x128x512 .bf16) (x5 : Vec F S1x512x512 .bf16) :
    out0_A_6 c i a3 h3 a4 h4 a5 h5 a6 h6 a7 h7 a8 h8 a9 h9 a10 h10 x0 x1 x2 x3 x4 x5 = View.canon (listO i x0 x1 x2 x3 x4 x5) := by
  unfold out0_A_6
  rw [View.read_writes_junk_eq_canon]
  refine congrArg View.canon ?_
  unfold kernelRun0_A
  dsimp only
  sl_unfold_words
  simp only [View.readAt_eq_ld, h3.read_unread, h4.read_unread, h5.read_unread, h6.read_unread, h7.read_unread, h8.read_unread]
  rfl

theorem outL_eq (c : Dev nD) (i : grid0.Coords) (a3 : Memref sig .tc .smem S12 .f32) (h3 : a3.IsWhole)
    (a4 : Memref sig .tc .vmem S1x512x512 .bf16) (h4 : a4.IsWhole) (a5 : Memref sig .tc .vmem S1x128x512 .bf16) (h5 : a5.IsWhole)
    (a6 : Memref sig .tc .vmem S1x512x512 .bf16) (h6 : a6.IsWhole) (a7 : Memref sig .tc .vmem S1x128x512 .bf16) (h7 : a7.IsWhole)
    (a8 : Memref sig .tc .vmem S1x512x512 .bf16) (h8 : a8.IsWhole) (a9 : Memref sig .tc .vmem S1x4x512x128 .f32) (h9 : a9.IsWhole)
    (a10 : Memref sig .tc .vmem S1x4x512x128 .f32) (h10 : a10.IsWhole)
    (x0 : Vec F S12 .f32) (x1 : Vec F S1x512x512 .bf16) (x2 : Vec F S1x128x512 .bf16) (x3 : Vec F S1x512x512 .bf16)
    (x4 : Vec F S1x128x512 .bf16) (x5 : Vec F S1x512x512 .bf16) :
    out0_A_7 c i a3 h3 a4 h4 a5 h5 a6 h6 a7 h7 a8 h8 a9 h9 a10 h10 x0 x1 x2 x3 x4 x5 = View.canon (listL i x0 x1 x2 x3) := by
  unfold out0_A_7
  rw [View.read_writes_junk_eq_canon]
  refine congrArg View.canon ?_
  unfold kernelRun0_A
  dsimp only
  sl_unfold_words
  simp only [View.readAt_eq_ld, h3.read_unread, h4.read_unread, h5.read_unread, h6.read_unread, h7.read_unread, h8.read_unread]
  rfl

end Cert.Proof.Pieces

end
-- ==== Proof.Spec.lean ====
/- Hand-written. The first head group's attention as one function of the projection and the slopes, index by index: query row
   `n * 128 + r` of batch entry `b` and head `h` meets the keys and values of block `n` and, where there is one, of block
   `n - 1`. Queries are the projection's columns from `h * 128`, keys from `1536 + h * 128`, values from `3072 + h * 128`. -/
module

public import proofs.«01_k».proof.Proof.Rows

@[expose] public section

noncomputable section

namespace Cert.Proof.Spec

open Idealize.ShloMosaic Cert.Proof.Rows

/-- The projection, its shape. -/
abbrev SP : Shape := ⟨3, ![2, 8192, 7680]⟩
/-- The slopes, their shape. -/
abbrev SS : Shape := ⟨1, ![12]⟩
/-- The results' shape. -/
abbrev SO : Shape := ⟨4, ![2, 4, 8192, 128]⟩

/-- The projection at batch entry `b`, row `row`, column `col`. -/
def pj (P : SP.Idx → EReal) (b row col : Nat) : EReal :=
  P (ix3 (Fin.ofNat 2 b) (Fin.ofNat 8192 row) (Fin.ofNat 7680 col))

theorem pj_of (P : SP.Idx → EReal) (i : SP.Idx) (b row col : Nat) (h0 : (i 0).val = b) (h1 : (i 1).val = row) (h2 : (i 2).val = col) :
    P i = pj P b row col := by
  unfold pj
  refine congrArg P (funext fun a => Fin.ext ?_)
  have l0 : (i 0).val < 2 := (i 0).isLt
  have l1 : (i 1).val < 8192 := (i 1).isLt
  have l2 : (i 2).val < 7680 := (i 2).isLt
  match a with
  | ⟨0, _⟩ => show (i 0).val = b % 2; omega
  | ⟨1, _⟩ => show (i 1).val = row % 8192; omega
  | ⟨2, _⟩ => show (i 2).val = col % 7680; omega

/-- Head `h`'s slope. -/
def slp (S : SS.Idx → EReal) (h : Nat) : EReal := S (ix1 (Fin.ofNat 12 h))

theorem slp_of (S : SS.Idx → EReal) (i : SS.Idx) (h : Nat) (h0 : (i 0).val = h) : S i = slp S h := by
  unfold slp
  refine congrArg S (funext fun a => Fin.ext ?_)
  have l0 : (i 0).val < 12 := (i 0).isLt
  match a with
  | ⟨0, _⟩ => show (i 0).val = h % 12; omega

variable (P : SP.Idx → EReal) (S : SS.Idx → EReal)

/-- The scores of a row against its own block. -/
def rowC (b h n : Nat) (r : Fin 128) (k : Fin 128) : EReal :=
  scoreC (slp S h) (fun d => pj P b (n * 128 + r.val) (h * 128 + d.val))
    (fun k d => pj P b (n * 128 + k.val) (1536 + h * 128 + d.val)) r k

/-- The scores of a row against the block before. -/
def rowP (b h n : Nat) (r : Fin 128) (k : Fin 128) : EReal :=
  scoreP (n = 0) (slp S h) (fun d => pj P b (n * 128 + r.val) (h * 128 + d.val))
    (fun k d => pj P b ((n - 1) * 128 + k.val) (1536 + h * 128 + d.val)) r k

/-- The weighted values of one row at column `e`. -/
def outAt (b h n : Nat) (r : Fin 128) (e : Nat) : EReal :=
  rout (rowC P S b h n r) (rowP P S b h n r) (fun k => pj P b (n * 128 + k.val) (3072 + h * 128 + e))
    (fun k => pj P b ((n - 1) * 128 + k.val) (3072 + h * 128 + e))

/-- The log-sum-exp of one row. -/
def lseAt (b h n : Nat) (r : Fin 128) : EReal := rlse (rowC P S b h n r) (rowP P S b h n r)

/-- The attention's output. -/
def specO (i : SO.Idx) : EReal :=
  outAt P S (i 0).val (i 1).val ((i 2).val / 128) ⟨(i 2).val % 128, Nat.mod_lt _ (by decide)⟩ (i 3).val

/-- The attention's log-sum-exps, each over 128 lanes. -/
def specL (i : SO.Idx) : EReal :=
  lseAt P S (i 0).val (i 1).val ((i 2).val / 128) ⟨(i 2).val % 128, Nat.mod_lt _ (by decide)⟩

end Cert.Proof.Spec

end
-- ==== Proof.Tile.lean ====
/- Hand-written. What one grid point stores, as the attention of `Spec` at the rows of its tile: with the six blocks cut from
   the projection and the slopes, each of its sixteen blocks holds `outAt` (`lseAt`) at its place, and together they fill the tile. -/
module

public import proofs.«01_k».proof.Proof.Pieces
public import proofs.«01_k».proof.Proof.Spec

@[expose] public section

noncomputable section

namespace Cert.Proof.Tile

open Cert.KernelIdeal Cert.KernelIdeal.Gen Idealize.ShloMosaic Cert.Proof.Block Cert.Proof.Pieces Cert.Proof.Rows Cert.Proof.Spec

variable (P : SP.Idx → EReal) (S : SS.Idx → EReal) (b i : Nat)

theorem sub_apply (x : Vec Ideal S1x512x512 .bf16) (s h : Nat) (hs : s < 4) (hh : h < 4) (o : Nat)
    (hx : ∀ r c : Fin 512, x (ix3 0 r c) = pj P b (i * 512 + r.val) (o + c.val)) (r e : Fin 128) :
    sub x s h hs hh (ix3 0 r e) = pj P b ((i * 4 + s) * 128 + r.val) (o + h * 128 + e.val) := by
  have := hx ⟨s * 128 + r.val, by omega⟩ ⟨h * 128 + e.val, by omega⟩
  rw [show (i * 4 + s) * 128 + r.val = i * 512 + (s * 128 + r.val) by omega, Nat.add_assoc, ← this]
  unfold sub
  refine congrArg x (funext fun a => Fin.ext ?_)
  match a with
  | ⟨0, _⟩ => rfl
  | ⟨1, _⟩ => show s * 128 + 1 * r.val = s * 128 + r.val; omega
  | ⟨2, _⟩ => show h * 128 + 1 * e.val = h * 128 + e.val; omega

theorem subP_apply (x : Vec Ideal S1x128x512 .bf16) (h : Nat) (hh : h < 4) (o n : Nat)
    (hx : ∀ (r : Fin 128) (c : Fin 512), x (ix3 0 r c) = pj P b (n * 128 + r.val) (o + c.val)) (r e : Fin 128) :
    subP x h hh (ix3 0 r e) = pj P b (n * 128 + r.val) (o + h * 128 + e.val) := by
  have := hx r ⟨h * 128 + e.val, by omega⟩
  rw [Nat.add_assoc, ← this]
  unfold subP
  refine congrArg x (funext fun a => Fin.ext ?_)
  match a with
  | ⟨0, _⟩ => rfl
  | ⟨1, _⟩ => show 0 + 1 * r.val = r.val; omega
  | ⟨2, _⟩ => show h * 128 + 1 * e.val = h * 128 + e.val; omega

theorem slope_apply (x : Vec Ideal S12 .f32) (hx : ∀ h : Fin 12, x (ix1 h) = slp S h.val) (h : Nat) (hh : h < 4) :
    hslope x h hh = slp S h := by
  rw [← hx ⟨h, by omega⟩]
  unfold hslope
  refine congrArg x (funext fun a => Fin.ext ?_)
  match a with
  | ⟨0, _⟩ => rfl

/-- The six blocks are cut from the projection at batch entry `b`, tile `i`, and from the slopes. -/
structure Cut (x0 : Vec Ideal S12 .f32) (x1 : Vec Ideal S1x512x512 .bf16) (x2 : Vec Ideal S1x128x512 .bf16) (x3 : Vec Ideal S1x512x512 .bf16)
    (x4 : Vec Ideal S1x128x512 .bf16) (x5 : Vec Ideal S1x512x512 .bf16) : Prop where
  s : ∀ h : Fin 12, x0 (ix1 h) = slp S h.val
  q : ∀ r c : Fin 512, x1 (ix3 0 r c) = pj P b (i * 512 + r.val) (0 + c.val)
  kp : ∀ (r : Fin 128) (c : Fin 512), x2 (ix3 0 r c) = pj P b ((i * 4 + 0 - 1) * 128 + r.val) (1536 + c.val)
  kc : ∀ r c : Fin 512, x3 (ix3 0 r c) = pj P b (i * 512 + r.val) (1536 + c.val)
  vp : ∀ (r : Fin 128) (c : Fin 512), x4 (ix3 0 r c) = pj P b ((i * 4 + 0 - 1) * 128 + r.val) (3072 + c.val)
  vc : ∀ r c : Fin 512, x5 (ix3 0 r c) = pj P b (i * 512 + r.val) (3072 + c.val)

/-- Blocks of queries, keys and values whose entries are the projection's at head `h` and row block `n`. -/
structure Rd (h n : Nat) (sl : EReal) (q kc kp : Vec Ideal S1x128x128 .bf16) : Prop where
  s : sl = slp S h
  q : ∀ r e : Fin 128, q (ix3 0 r e) = pj P b (n * 128 + r.val) (0 + h * 128 + e.val)
  kc : ∀ r e : Fin 128, kc (ix3 0 r e) = pj P b (n * 128 + r.val) (1536 + h * 128 + e.val)
  kp : ∀ r e : Fin 128, kp (ix3 0 r e) = pj P b ((n - 1) * 128 + r.val) (1536 + h * 128 + e.val)

section Blk

variable {P S b} {h n : Nat} {sl : EReal} {q kc kp : Vec Ideal S1x128x128 .bf16}

theorem Rd.cur (R : Rd P S b h n sl q kc kp) (r k : Fin 128) : sCur sl q kc (ix2 r k) = rowC P S b h n r k := by
  rw [sCur_apply]
  unfold rowC
  rw [R.s, funext (R.q r), funext fun k' => funext (R.kc k')]
  simp only [Nat.zero_add]

theorem Rd.prev (R : Rd P S b h n sl q kc kp) (lim : BitVec 32) (hl : lim = if n = 0 then 4294967168#32 else 0#32) (r k : Fin 128) :
    sPrev lim sl q kp (ix2 r k) = rowP P S b h n r k := by
  rw [sPrev_apply _ _ _ _ _ (n = 0) lim hl]
  unfold rowP
  rw [R.s, funext (R.q r), funext fun k' => funext (R.kp k')]
  simp only [Nat.zero_add]

theorem Rd.out (R : Rd P S b h n sl q kc kp) (lim : BitVec 32) (hl : lim = if n = 0 then 4294967168#32 else 0#32)
    (vc vp : Vec Ideal S1x128x128 .bf16)
    (hc : ∀ r e : Fin 128, vc (ix3 0 r e) = pj P b (n * 128 + r.val) (3072 + h * 128 + e.val))
    (hp : ∀ r e : Fin 128, vp (ix3 0 r e) = pj P b ((n - 1) * 128 + r.val) (3072 + h * 128 + e.val)) (r e : Fin 128) :
    blkO (sCur sl q kc) (sPrev lim sl q kp) vc vp (ix4 0 0 r e) = outAt P S b h n r e.val := by
  rw [blkO_apply, funext (R.cur r), funext (R.prev lim hl r), funext fun k => hc k e, funext fun k => hp k e]
  rfl

theorem Rd.lse (R : Rd P S b h n sl q kc kp) (lim : BitVec 32) (hl : lim = if n = 0 then 4294967168#32 else 0#32) (r e : Fin 128) :
    blkL (sCur sl q kc) (sPrev lim sl q kp) (ix4 0 0 r e) = lseAt P S b h n r := by
  rw [blkL_apply, funext (R.cur r), funext (R.prev lim hl r)]
  rfl

end Blk

section Pieces

variable {P S b i} {x0 : Vec Ideal S12 .f32} {x1 : Vec Ideal S1x512x512 .bf16} {x2 : Vec Ideal S1x128x512 .bf16} {x3 : Vec Ideal S1x512x512 .bf16}
  {x4 : Vec Ideal S1x128x512 .bf16} {x5 : Vec Ideal S1x512x512 .bf16}

theorem Cut.rd (C : Cut P S b i x0 x1 x2 x3 x4 x5) (s h : Nat) (hs : s + 1 < 4) (hh : h < 4) :
    Rd P S b h (i * 4 + (s + 1)) (hslope x0 h hh) (sub x1 (s + 1) h hs hh) (sub x3 (s + 1) h hs hh) (sub x3 s h (by omega) hh) where
  s := slope_apply S x0 C.s h hh
  q := sub_apply P b i x1 (s + 1) h hs hh 0 C.q
  kc := sub_apply P b i x3 (s + 1) h hs hh 1536 C.kc
  kp := sub_apply P b i x3 s h (by omega) hh 1536 C.kc

theorem Cut.rd0 (C : Cut P S b i x0 x1 x2 x3 x4 x5) (h : Nat) (hh : h < 4) :
    Rd P S b h (i * 4 + 0) (hslope x0 h hh) (sub x1 0 h (by decide) hh) (sub x3 0 h (by decide) hh) (subP x2 h hh) where
  s := slope_apply S x0 C.s h hh
  q := sub_apply P b i x1 0 h (by decide) hh 0 C.q
  kc := sub_apply P b i x3 0 h (by decide) hh 1536 C.kc
  kp := subP_apply P b x2 h hh 1536 _ C.kp

/-- The tile of weighted values. -/
def tileO (P : SP.Idx → EReal) (S : SS.Idx → EReal) (b i : Nat) (y : S1x4x512x128.Idx) : EReal :=
  outAt P S b (y 1).val (i * 4 + (y 2).val / 128) ⟨(y 2).val % 128, Nat.mod_lt _ (by decide)⟩ (y 3).val

/-- The tile of log-sum-exps. -/
def tileL (P : SP.Idx → EReal) (S : SS.Idx → EReal) (b i : Nat) (y : S1x4x512x128.Idx) : EReal :=
  lseAt P S b (y 1).val (i * 4 + (y 2).val / 128) ⟨(y 2).val % 128, Nat.mod_lt _ (by decide)⟩

theorem idx_eq (x : S1x1x128x128.Idx) : ∃ r e : Fin 128, x = ix4 0 0 r e :=
  ⟨x 2, x 3, funext fun a => match a with
    | ⟨0, _⟩ => Subsingleton.elim (α := Fin 1) _ _
    | ⟨1, _⟩ => Subsingleton.elim (α := Fin 1) _ _
    | ⟨2, _⟩ => rfl
    | ⟨3, _⟩ => rfl⟩

theorem tileO_place (s h : Nat) (hs : s < 4) (hh : h < 4) (r e : Fin 128) :
    tileO P S b i ((place s h hs hh).emb (ix4 0 0 r e)) = outAt P S b h (i * 4 + s) r e.val := by
  have h1 : (((place s h hs hh).emb (ix4 0 0 r e)) 1).val = h := by show h + 1 * 0 = h; omega
  have h2 : (((place s h hs hh).emb (ix4 0 0 r e)) 2).val = s * 128 + r.val := by show s * 128 + 1 * r.val = _; omega
  have h3 : (((place s h hs hh).emb (ix4 0 0 r e)) 3).val = e.val := by show 0 + 1 * e.val = _; omega
  unfold tileO
  simp only [h1, h2, h3]
  rw [show (s * 128 + r.val) / 128 = s by omega]
  exact congrArg (fun r => outAt P S b h (i * 4 + s) r e.val) (Fin.ext (by show (s * 128 + r.val) % 128 = r.val; omega))

theorem tileL_place (s h : Nat) (hs : s < 4) (hh : h < 4) (r e : Fin 128) :
    tileL P S b i ((place s h hs hh).emb (ix4 0 0 r e)) = lseAt P S b h (i * 4 + s) r := by
  have h1 : (((place s h hs hh).emb (ix4 0 0 r e)) 1).val = h := by show h + 1 * 0 = h; omega
  have h2 : (((place s h hs hh).emb (ix4 0 0 r e)) 2).val = s * 128 + r.val := by show s * 128 + 1 * r.val = _; omega
  unfold tileL
  simp only [h1, h2]
  rw [show (s * 128 + r.val) / 128 = s by omega]
  exact congrArg (fun r => lseAt P S b h (i * 4 + s) r) (Fin.ext (by show (s * 128 + r.val) % 128 = r.val; omega))

theorem Cut.pieceO (C : Cut P S b i x0 x1 x2 x3 x4 x5) (s h : Nat) (hs : s + 1 < 4) (hs' : s < 4) (hh : h < 4) (x : S1x1x128x128.Idx) :
    blkO (sCur (hslope x0 h hh) (sub x1 (s + 1) h hs hh) (sub x3 (s + 1) h hs hh)) (sPrev 0#32 (hslope x0 h hh) (sub x1 (s + 1) h hs hh) (sub x3 s h hs' hh))
      (sub x5 (s + 1) h hs hh) (sub x5 s h hs' hh) x = tileO P S b i ((place (s + 1) h hs hh).emb x) := by
  obtain ⟨r, e, rfl⟩ := idx_eq x
  rw [tileO_place]
  exact (C.rd s h hs hh).out 0#32 (by rw [if_neg (by omega)]) _ _ (sub_apply P b i x5 (s + 1) h hs hh 3072 C.vc)
    (sub_apply P b i x5 s h hs' hh 3072 C.vc) r e

theorem Cut.pieceL (C : Cut P S b i x0 x1 x2 x3 x4 x5) (s h : Nat) (hs : s + 1 < 4) (hs' : s < 4) (hh : h < 4) (x : S1x1x128x128.Idx) :
    blkL (sCur (hslope x0 h hh) (sub x1 (s + 1) h hs hh) (sub x3 (s + 1) h hs hh)) (sPrev 0#32 (hslope x0 h hh) (sub x1 (s + 1) h hs hh) (sub x3 s h hs' hh))
      x = tileL P S b i ((place (s + 1) h hs hh).emb x) := by
  obtain ⟨r, e, rfl⟩ := idx_eq x
  rw [tileL_place]
  exact (C.rd s h hs hh).lse 0#32 (by rw [if_neg (by omega)]) r e

theorem Cut.pieceO0 (C : Cut P S b i x0 x1 x2 x3 x4 x5) (lim : BitVec 32) (hl : lim = if i = 0 then 4294967168#32 else 0#32)
    (h : Nat) (h0 : 0 < 4) (hh : h < 4) (x : S1x1x128x128.Idx) :
    blkO (sCur (hslope x0 h hh) (sub x1 0 h h0 hh) (sub x3 0 h h0 hh)) (sPrev lim (hslope x0 h hh) (sub x1 0 h h0 hh) (subP x2 h hh))
      (sub x5 0 h h0 hh) (subP x4 h hh) x = tileO P S b i ((place 0 h h0 hh).emb x) := by
  obtain ⟨r, e, rfl⟩ := idx_eq x
  rw [tileO_place]
  refine (C.rd0 h hh).out lim ?_ _ _ (sub_apply P b i x5 0 h h0 hh 3072 C.vc) (subP_apply P b x4 h hh 3072 _ C.vp) r e
  rw [hl]; exact if_congr (by omega) rfl rfl

theorem Cut.pieceL0 (C : Cut P S b i x0 x1 x2 x3 x4 x5) (lim : BitVec 32) (hl : lim = if i = 0 then 4294967168#32 else 0#32)
    (h : Nat) (h0 : 0 < 4) (hh : h < 4) (x : S1x1x128x128.Idx) :
    blkL (sCur (hslope x0 h hh) (sub x1 0 h h0 hh) (sub x3 0 h h0 hh)) (sPrev lim (hslope x0 h hh) (sub x1 0 h h0 hh) (subP x2 h hh))
      x = tileL P S b i ((place 0 h h0 hh).emb x) := by
  obtain ⟨r, e, rfl⟩ := idx_eq x
  rw [tileL_place]
  refine (C.rd0 h hh).lse lim ?_ r e
  rw [hl]; exact if_congr (by omega) rfl rfl

theorem mem_place (y : S1x4x512x128.Idx) (s h : Nat) (hs : s < 4) (hh : h < 4) (e1 : (y 1).val = h) (e2 : (y 2).val / 128 = s) :
    y ∈ (place s h hs hh).set := by
  have l0 : (y 0).val < 1 := (y 0).isLt
  have l3 : (y 3).val < 128 := (y 3).isLt
  refine Rect.mem_set_unit.mpr fun a => ?_
  match a with
  | ⟨0, _⟩ => show 0 ≤ (y 0).val ∧ (y 0).val < 0 + 1; omega
  | ⟨1, _⟩ => show h ≤ (y 1).val ∧ (y 1).val < h + 1; omega
  | ⟨2, _⟩ => show s * 128 ≤ (y 2).val ∧ (y 2).val < s * 128 + 128; omega
  | ⟨3, _⟩ => show 0 ≤ (y 3).val ∧ (y 3).val < 0 + 128; omega

/-- A point's blocks together are its tile. -/
theorem Cut.canonO (C : Cut P S b i x0 x1 x2 x3 x4 x5) (co : grid0.Coords) (hl : lim0 co = if i = 0 then 4294967168#32 else 0#32) :
    View.canon (listO co x0 x1 x2 x3 x4 x5) = tileO P S b i := by
  funext y
  refine View.canon_apply_of_pieces (tileO P S b i) (listO co x0 x1 x2 x3 x4 x5) ?_ y ?_
  · intro p hp x
    unfold listO at hp
    simp only [List.mem_cons, List.not_mem_nil, or_false] at hp
    rcases hp with rfl | rfl | rfl | rfl | rfl | rfl | rfl | rfl | rfl | rfl | rfl | rfl | rfl | rfl | rfl | rfl
    · exact C.pieceO 2 3 (by decide) (by decide) (by decide) x
    · exact C.pieceO 2 2 (by decide) (by decide) (by decide) x
    · exact C.pieceO 2 1 (by decide) (by decide) (by decide) x
    · exact C.pieceO 2 0 (by decide) (by decide) (by decide) x
    · exact C.pieceO 1 3 (by decide) (by decide) (by decide) x
    · exact C.pieceO 1 2 (by decide) (by decide) (by decide) x
    · exact C.pieceO 1 1 (by decide) (by decide) (by decide) x
    · exact C.pieceO 1 0 (by decide) (by decide) (by decide) x
    · exact C.pieceO 0 3 (by decide) (by decide) (by decide) x
    · exact C.pieceO 0 2 (by decide) (by decide) (by decide) x
    · exact C.pieceO 0 1 (by decide) (by decide) (by decide) x
    · exact C.pieceO 0 0 (by decide) (by decide) (by decide) x
    · exact C.pieceO0 (lim0 co) hl 3 (by decide) (by decide) x
    · exact C.pieceO0 (lim0 co) hl 2 (by decide) (by decide) x
    · exact C.pieceO0 (lim0 co) hl 1 (by decide) (by decide) x
    · exact C.pieceO0 (lim0 co) hl 0 (by decide) (by decide) x
  · have l1 : (y 1).val < 4 := (y 1).isLt
    have l2 : (y 2).val < 512 := (y 2).isLt
    have c1 : (y 1).val = 3 ∨ (y 1).val = 2 ∨ (y 1).val = 1 ∨ (y 1).val = 0 := by omega
    have c2 : (y 2).val / 128 = 3 ∨ (y 2).val / 128 = 2 ∨ (y 2).val / 128 = 1 ∨ (y 2).val / 128 = 0 := by omega
    rcases c2 with e2 | e2 | e2 | e2 <;> rcases c1 with e1 | e1 | e1 | e1
    · exact ⟨_, List.getElem_mem (show 0 < (listO co x0 x1 x2 x3 x4 x5).length from (by decide : 0 < 16)), mem_place y 3 3 (by decide) (by decide) e1 e2⟩
    · exact ⟨_, List.getElem_mem (show 1 < (listO co x0 x1 x2 x3 x4 x5).length from (by decide : 1 < 16)), mem_place y 3 2 (by decide) (by decide) e1 e2⟩
    · exact ⟨_, List.getElem_mem (show 2 < (listO co x0 x1 x2 x3 x4 x5).length from (by decide : 2 < 16)), mem_place y 3 1 (by decide) (by decide) e1 e2⟩
    · exact ⟨_, List.getElem_mem (show 3 < (listO co x0 x1 x2 x3 x4 x5).length from (by decide : 3 < 16)), mem_place y 3 0 (by decide) (by decide) e1 e2⟩
    · exact ⟨_, List.getElem_mem (show 4 < (listO co x0 x1 x2 x3 x4 x5).length from (by decide : 4 < 16)), mem_place y 2 3 (by decide) (by decide) e1 e2⟩
    · exact ⟨_, List.getElem_mem (show 5 < (listO co x0 x1 x2 x3 x4 x5).length from (by decide : 5 < 16)), mem_place y 2 2 (by decide) (by decide) e1 e2⟩
    · exact ⟨_, List.getElem_mem (show 6 < (listO co x0 x1 x2 x3 x4 x5).length from (by decide : 6 < 16)), mem_place y 2 1 (by decide) (by decide) e1 e2⟩
    · exact ⟨_, List.getElem_mem (show 7 < (listO co x0 x1 x2 x3 x4 x5).length from (by decide : 7 < 16)), mem_place y 2 0 (by decide) (by decide) e1 e2⟩
    · exact ⟨_, List.getElem_mem (show 8 < (listO co x0 x1 x2 x3 x4 x5).length from (by decide : 8 < 16)), mem_place y 1 3 (by decide) (by decide) e1 e2⟩
    · exact ⟨_, List.getElem_mem (show 9 < (listO co x0 x1 x2 x3 x4 x5).length from (by decide : 9 < 16)), mem_place y 1 2 (by decide) (by decide) e1 e2⟩
    · exact ⟨_, List.getElem_mem (show 10 < (listO co x0 x1 x2 x3 x4 x5).length from (by decide : 10 < 16)), mem_place y 1 1 (by decide) (by decide) e1 e2⟩
    · exact ⟨_, List.getElem_mem (show 11 < (listO co x0 x1 x2 x3 x4 x5).length from (by decide : 11 < 16)), mem_place y 1 0 (by decide) (by decide) e1 e2⟩
    · exact ⟨_, List.getElem_mem (show 12 < (listO co x0 x1 x2 x3 x4 x5).length from (by decide : 12 < 16)), mem_place y 0 3 (by decide) (by decide) e1 e2⟩
    · exact ⟨_, List.getElem_mem (show 13 < (listO co x0 x1 x2 x3 x4 x5).length from (by decide : 13 < 16)), mem_place y 0 2 (by decide) (by decide) e1 e2⟩
    · exact ⟨_, List.getElem_mem (show 14 < (listO co x0 x1 x2 x3 x4 x5).length from (by decide : 14 < 16)), mem_place y 0 1 (by decide) (by decide) e1 e2⟩
    · exact ⟨_, List.getElem_mem (show 15 < (listO co x0 x1 x2 x3 x4 x5).length from (by decide : 15 < 16)), mem_place y 0 0 (by decide) (by decide) e1 e2⟩

/-- A point's blocks together are its tile. -/
theorem Cut.canonL (C : Cut P S b i x0 x1 x2 x3 x4 x5) (co : grid0.Coords) (hl : lim0 co = if i = 0 then 4294967168#32 else 0#32) :
    View.canon (listL co x0 x1 x2 x3) = tileL P S b i := by
  funext y
  refine View.canon_apply_of_pieces (tileL P S b i) (listL co x0 x1 x2 x3) ?_ y ?_
  · intro p hp x
    unfold listL at hp
    simp only [List.mem_cons, List.not_mem_nil, or_false] at hp
    rcases hp with rfl | rfl | rfl | rfl | rfl | rfl | rfl | rfl | rfl | rfl | rfl | rfl | rfl | rfl | rfl | rfl
    · exact C.pieceL 2 3 (by decide) (by decide) (by decide) x
    · exact C.pieceL 2 2 (by decide) (by decide) (by decide) x
    · exact C.pieceL 2 1 (by decide) (by decide) (by decide) x
    · exact C.pieceL 2 0 (by decide) (by decide) (by decide) x
    · exact C.pieceL 1 3 (by decide) (by decide) (by decide) x
    · exact C.pieceL 1 2 (by decide) (by decide) (by decide) x
    · exact C.pieceL 1 1 (by decide) (by decide) (by decide) x
    · exact C.pieceL 1 0 (by decide) (by decide) (by decide) x
    · exact C.pieceL 0 3 (by decide) (by decide) (by decide) x
    · exact C.pieceL 0 2 (by decide) (by decide) (by decide) x
    · exact C.pieceL 0 1 (by decide) (by decide) (by decide) x
    · exact C.pieceL 0 0 (by decide) (by decide) (by decide) x
    · exact C.pieceL0 (lim0 co) hl 3 (by decide) (by decide) x
    · exact C.pieceL0 (lim0 co) hl 2 (by decide) (by decide) x
    · exact C.pieceL0 (lim0 co) hl 1 (by decide) (by decide) x
    · exact C.pieceL0 (lim0 co) hl 0 (by decide) (by decide) x
  · have l1 : (y 1).val < 4 := (y 1).isLt
    have l2 : (y 2).val < 512 := (y 2).isLt
    have c1 : (y 1).val = 3 ∨ (y 1).val = 2 ∨ (y 1).val = 1 ∨ (y 1).val = 0 := by omega
    have c2 : (y 2).val / 128 = 3 ∨ (y 2).val / 128 = 2 ∨ (y 2).val / 128 = 1 ∨ (y 2).val / 128 = 0 := by omega
    rcases c2 with e2 | e2 | e2 | e2 <;> rcases c1 with e1 | e1 | e1 | e1
    · exact ⟨_, List.getElem_mem (show 0 < (listL co x0 x1 x2 x3).length from (by decide : 0 < 16)), mem_place y 3 3 (by decide) (by decide) e1 e2⟩
    · exact ⟨_, List.getElem_mem (show 1 < (listL co x0 x1 x2 x3).length from (by decide : 1 < 16)), mem_place y 3 2 (by decide) (by decide) e1 e2⟩
    · exact ⟨_, List.getElem_mem (show 2 < (listL co x0 x1 x2 x3).length from (by decide : 2 < 16)), mem_place y 3 1 (by decide) (by decide) e1 e2⟩
    · exact ⟨_, List.getElem_mem (show 3 < (listL co x0 x1 x2 x3).length from (by decide : 3 < 16)), mem_place y 3 0 (by decide) (by decide) e1 e2⟩
    · exact ⟨_, List.getElem_mem (show 4 < (listL co x0 x1 x2 x3).length from (by decide : 4 < 16)), mem_place y 2 3 (by decide) (by decide) e1 e2⟩
    · exact ⟨_, List.getElem_mem (show 5 < (listL co x0 x1 x2 x3).length from (by decide : 5 < 16)), mem_place y 2 2 (by decide) (by decide) e1 e2⟩
    · exact ⟨_, List.getElem_mem (show 6 < (listL co x0 x1 x2 x3).length from (by decide : 6 < 16)), mem_place y 2 1 (by decide) (by decide) e1 e2⟩
    · exact ⟨_, List.getElem_mem (show 7 < (listL co x0 x1 x2 x3).length from (by decide : 7 < 16)), mem_place y 2 0 (by decide) (by decide) e1 e2⟩
    · exact ⟨_, List.getElem_mem (show 8 < (listL co x0 x1 x2 x3).length from (by decide : 8 < 16)), mem_place y 1 3 (by decide) (by decide) e1 e2⟩
    · exact ⟨_, List.getElem_mem (show 9 < (listL co x0 x1 x2 x3).length from (by decide : 9 < 16)), mem_place y 1 2 (by decide) (by decide) e1 e2⟩
    · exact ⟨_, List.getElem_mem (show 10 < (listL co x0 x1 x2 x3).length from (by decide : 10 < 16)), mem_place y 1 1 (by decide) (by decide) e1 e2⟩
    · exact ⟨_, List.getElem_mem (show 11 < (listL co x0 x1 x2 x3).length from (by decide : 11 < 16)), mem_place y 1 0 (by decide) (by decide) e1 e2⟩
    · exact ⟨_, List.getElem_mem (show 12 < (listL co x0 x1 x2 x3).length from (by decide : 12 < 16)), mem_place y 0 3 (by decide) (by decide) e1 e2⟩
    · exact ⟨_, List.getElem_mem (show 13 < (listL co x0 x1 x2 x3).length from (by decide : 13 < 16)), mem_place y 0 2 (by decide) (by decide) e1 e2⟩
    · exact ⟨_, List.getElem_mem (show 14 < (listL co x0 x1 x2 x3).length from (by decide : 14 < 16)), mem_place y 0 1 (by decide) (by decide) e1 e2⟩
    · exact ⟨_, List.getElem_mem (show 15 < (listL co x0 x1 x2 x3).length from (by decide : 15 < 16)), mem_place y 0 0 (by decide) (by decide) e1 e2⟩

end Pieces

end Cert.Proof.Tile

end
-- ==== Proof.Array.lean ====
/- Hand-written. The two arrays that the kernel leaves, as the attention of `Spec` of its arguments. -/
module

public import proofs.«01_k».proof.Proof.Tile
public import proofs.«01_k».proof.Proof.Gen.KernelIdeal.Value

@[expose] public section

noncomputable section

namespace Cert.Proof.Array

open Cert.KernelIdeal Cert.KernelIdeal.Gen Cert.KernelIdeal.Value Idealize.ShloMosaic Idealize.ShloMosaic.TcCoe Idealize.SL.Sem
open Cert.Proof.Pieces Cert.Proof.Spec Cert.Proof.Tile

/-- Point `t`'s batch entry and tile. -/
def bt (t : Fin cfg0.N) : Nat := (grid0.coords t 0).val
def it (t : Fin cfg0.N) : Nat := (grid0.coords t 1).val

theorem ix0_ : ∀ t : Fin cfg0.N, win0_0.index t (0 : Fin 1) = 0 := (by decide +kernel : ∀ t : Fin grid0.N, _)
theorem ix1_ : ∀ t : Fin cfg0.N, win0_1.index t (0 : Fin 3) = bt t ∧ win0_1.index t (1 : Fin 3) = it t ∧ win0_1.index t (2 : Fin 3) = 0 :=
  (by decide +kernel : ∀ t : Fin grid0.N, win0_1.index t (0 : Fin 3) = (grid0.coords t 0).val ∧ win0_1.index t (1 : Fin 3) = (grid0.coords t 1).val ∧ win0_1.index t (2 : Fin 3) = 0)
theorem ix2_ : ∀ t : Fin cfg0.N, win0_2.index t (0 : Fin 3) = bt t ∧ win0_2.index t (1 : Fin 3) = it t * 4 + 0 - 1 ∧ win0_2.index t (2 : Fin 3) = 3 :=
  (by decide +kernel : ∀ t : Fin grid0.N, win0_2.index t (0 : Fin 3) = (grid0.coords t 0).val ∧ win0_2.index t (1 : Fin 3) = (grid0.coords t 1).val * 4 + 0 - 1 ∧ win0_2.index t (2 : Fin 3) = 3)
theorem ix3_ : ∀ t : Fin cfg0.N, win0_3.index t (0 : Fin 3) = bt t ∧ win0_3.index t (1 : Fin 3) = it t ∧ win0_3.index t (2 : Fin 3) = 3 :=
  (by decide +kernel : ∀ t : Fin grid0.N, win0_3.index t (0 : Fin 3) = (grid0.coords t 0).val ∧ win0_3.index t (1 : Fin 3) = (grid0.coords t 1).val ∧ win0_3.index t (2 : Fin 3) = 3)
theorem ix4_ : ∀ t : Fin cfg0.N, win0_4.index t (0 : Fin 3) = bt t ∧ win0_4.index t (1 : Fin 3) = it t * 4 + 0 - 1 ∧ win0_4.index t (2 : Fin 3) = 6 :=
  (by decide +kernel : ∀ t : Fin grid0.N, win0_4.index t (0 : Fin 3) = (grid0.coords t 0).val ∧ win0_4.index t (1 : Fin 3) = (grid0.coords t 1).val * 4 + 0 - 1 ∧ win0_4.index t (2 : Fin 3) = 6)
theorem ix5_ : ∀ t : Fin cfg0.N, win0_5.index t (0 : Fin 3) = bt t ∧ win0_5.index t (1 : Fin 3) = it t ∧ win0_5.index t (2 : Fin 3) = 6 :=
  (by decide +kernel : ∀ t : Fin grid0.N, win0_5.index t (0 : Fin 3) = (grid0.coords t 0).val ∧ win0_5.index t (1 : Fin 3) = (grid0.coords t 1).val ∧ win0_5.index t (2 : Fin 3) = 6)
theorem ix6_ : ∀ t : Fin cfg0.N, win0_6.index t (0 : Fin 4) = bt t ∧ win0_6.index t (1 : Fin 4) = 0 ∧ win0_6.index t (2 : Fin 4) = it t ∧ win0_6.index t (3 : Fin 4) = 0 :=
  (by decide +kernel : ∀ t : Fin grid0.N, win0_6.index t (0 : Fin 4) = (grid0.coords t 0).val ∧ win0_6.index t (1 : Fin 4) = 0 ∧ win0_6.index t (2 : Fin 4) = (grid0.coords t 1).val ∧ win0_6.index t (3 : Fin 4) = 0)
theorem ix7_ : ∀ t : Fin cfg0.N, win0_7.index t (0 : Fin 4) = bt t ∧ win0_7.index t (1 : Fin 4) = 0 ∧ win0_7.index t (2 : Fin 4) = it t ∧ win0_7.index t (3 : Fin 4) = 0 :=
  (by decide +kernel : ∀ t : Fin grid0.N, win0_7.index t (0 : Fin 4) = (grid0.coords t 0).val ∧ win0_7.index t (1 : Fin 4) = 0 ∧ win0_7.index t (2 : Fin 4) = (grid0.coords t 1).val ∧ win0_7.index t (3 : Fin 4) = 0)

theorem lim_at : ∀ t : Fin cfg0.N, lim0 (grid0.coords t) = if it t = 0 then 4294967168#32 else 0#32 :=
  (by decide +kernel : ∀ t : Fin grid0.N, lim0 (grid0.coords t) = if (grid0.coords t 1).val = 0 then 4294967168#32 else 0#32)

/-- Some point has each batch entry and tile. -/
theorem pt_of : ∀ (b : Fin 2) (i : Fin 16), ∃ t : Fin cfg0.N, bt t = b.val ∧ it t = i.val :=
  (by decide +kernel : ∀ (b : Fin 2) (i : Fin 16), ∃ t : Fin grid0.N, (grid0.coords t 0).val = b.val ∧ (grid0.coords t 1).val = i.val)

variable (m : (ℓ : Loc nD τ sig) → Buf (Elt Ideal) ℓ) (ρ : Dev nD → PrngReg)

theorem cut_at (c : Dev nD) (t : Fin cfg0.N) :
    Cut (V m c main_arg0) (V m c main_arg1) (bt t) (it t) (iblk m c 0 t) (iblk m c 1 t) (iblk m c 2 t) (iblk m c 3 t) (iblk m c 4 t) (iblk m c 5 t) where
  s h := by
    have e := ix0_ t
    refine slp_of _ (((cfg0.win 0).blk t).view.emb (ix1 h)) h.val ?_
    show win0_0.index t (0 : Fin 1) * 12 + 1 * h.val = h.val; omega
  q r k := by
    obtain ⟨e0, e1, e2⟩ := ix1_ t
    refine pj_of _ (((cfg0.win 1).blk t).view.emb (ix3 0 r k)) _ _ _ ?_ ?_ ?_
    · show win0_1.index t (0 : Fin 3) * 1 + 1 * 0 = _; omega
    · show win0_1.index t (1 : Fin 3) * 512 + 1 * r.val = _; omega
    · show win0_1.index t (2 : Fin 3) * 512 + 1 * k.val = _; omega
  kp r k := by
    obtain ⟨e0, e1, e2⟩ := ix2_ t
    refine pj_of _ (((cfg0.win 2).blk t).view.emb (ix3 0 r k)) _ _ _ ?_ ?_ ?_
    · show win0_2.index t (0 : Fin 3) * 1 + 1 * 0 = _; omega
    · show win0_2.index t (1 : Fin 3) * 128 + 1 * r.val = _; omega
    · show win0_2.index t (2 : Fin 3) * 512 + 1 * k.val = _; omega
  kc r k := by
    obtain ⟨e0, e1, e2⟩ := ix3_ t
    refine pj_of _ (((cfg0.win 3).blk t).view.emb (ix3 0 r k)) _ _ _ ?_ ?_ ?_
    · show win0_3.index t (0 : Fin 3) * 1 + 1 * 0 = _; omega
    · show win0_3.index t (1 : Fin 3) * 512 + 1 * r.val = _; omega
    · show win0_3.index t (2 : Fin 3) * 512 + 1 * k.val = _; omega
  vp r k := by
    obtain ⟨e0, e1, e2⟩ := ix4_ t
    refine pj_of _ (((cfg0.win 4).blk t).view.emb (ix3 0 r k)) _ _ _ ?_ ?_ ?_
    · show win0_4.index t (0 : Fin 3) * 1 + 1 * 0 = _; omega
    · show win0_4.index t (1 : Fin 3) * 128 + 1 * r.val = _; omega
    · show win0_4.index t (2 : Fin 3) * 512 + 1 * k.val = _; omega
  vc r k := by
    obtain ⟨e0, e1, e2⟩ := ix5_ t
    refine pj_of _ (((cfg0.win 5).blk t).view.emb (ix3 0 r k)) _ _ _ ?_ ?_ ?_
    · show win0_5.index t (0 : Fin 3) * 1 + 1 * 0 = _; omega
    · show win0_5.index t (1 : Fin 3) * 512 + 1 * r.val = _; omega
    · show win0_5.index t (2 : Fin 3) * 512 + 1 * k.val = _; omega

theorem emb6 (t : Fin cfg0.N) (y : S1x4x512x128.Idx) :
    ((((cfg0.win 6).blk t).view.emb y) 0).val = bt t ∧ ((((cfg0.win 6).blk t).view.emb y) 1).val = (y 1).val
      ∧ ((((cfg0.win 6).blk t).view.emb y) 2).val = it t * 512 + (y 2).val ∧ ((((cfg0.win 6).blk t).view.emb y) 3).val = (y 3).val := by
  obtain ⟨e0, e1, e2, e3⟩ := ix6_ t
  have l0 : (y 0).val < 1 := (y 0).isLt
  refine ⟨?_, ?_, ?_, ?_⟩
  · show win0_6.index t (0 : Fin 4) * 1 + 1 * (y 0).val = _; omega
  · show win0_6.index t (1 : Fin 4) * 4 + 1 * (y 1).val = _; omega
  · show win0_6.index t (2 : Fin 4) * 512 + 1 * (y 2).val = _; omega
  · show win0_6.index t (3 : Fin 4) * 128 + 1 * (y 3).val = _; omega

theorem emb7 (t : Fin cfg0.N) (y : S1x4x512x128.Idx) :
    ((((cfg0.win 7).blk t).view.emb y) 0).val = bt t ∧ ((((cfg0.win 7).blk t).view.emb y) 1).val = (y 1).val
      ∧ ((((cfg0.win 7).blk t).view.emb y) 2).val = it t * 512 + (y 2).val ∧ ((((cfg0.win 7).blk t).view.emb y) 3).val = (y 3).val := by
  obtain ⟨e0, e1, e2, e3⟩ := ix7_ t
  have l0 : (y 0).val < 1 := (y 0).isLt
  refine ⟨?_, ?_, ?_, ?_⟩
  · show win0_7.index t (0 : Fin 4) * 1 + 1 * (y 0).val = _; omega
  · show win0_7.index t (1 : Fin 4) * 4 + 1 * (y 1).val = _; omega
  · show win0_7.index t (2 : Fin 4) * 512 + 1 * (y 2).val = _; omega
  · show win0_7.index t (3 : Fin 4) * 128 + 1 * (y 3).val = _; omega

theorem tileO_eq (P : SP.Idx → EReal) (S : SS.Idx → EReal) (b i : Nat) (y : S1x4x512x128.Idx) (j : SO.Idx) (h0 : (j 0).val = b)
    (h1 : (j 1).val = (y 1).val) (h2 : (j 2).val = i * 512 + (y 2).val) (h3 : (j 3).val = (y 3).val) : tileO P S b i y = specO P S j := by
  unfold tileO specO
  simp only [h0, h1, h2, h3]
  rw [show (i * 512 + (y 2).val) / 128 = i * 4 + (y 2).val / 128 by omega]
  exact congrArg (fun r => outAt P S b _ _ r _) (Fin.ext (by show (y 2).val % 128 = (i * 512 + (y 2).val) % 128; omega))

theorem tileL_eq (P : SP.Idx → EReal) (S : SS.Idx → EReal) (b i : Nat) (y : S1x4x512x128.Idx) (j : SO.Idx) (h0 : (j 0).val = b)
    (h1 : (j 1).val = (y 1).val) (h2 : (j 2).val = i * 512 + (y 2).val) : tileL P S b i y = specL P S j := by
  unfold tileL specL
  simp only [h0, h1, h2]
  rw [show (i * 512 + (y 2).val) / 128 = i * 4 + (y 2).val / 128 by omega]
  exact congrArg (fun r => lseAt P S b _ _ r) (Fin.ext (by show (y 2).val % 128 = (i * 512 + (y 2).val) % 128; omega))

theorem flushed6_eq (c : Dev nD) (t : Fin cfg0.N) :
    (dats m 0 c).flushed 6 t = ((cfg0.win 6).blk t).view.read (Elt Ideal) (specO (V m c main_arg0) (V m c main_arg1)) := by
  rw [flushed6_A, outO_eq, (cut_at m c t).canonO (grid0.coords t) (lim_at t)]
  funext y
  show tileO (V m c main_arg0) (V m c main_arg1) (bt t) (it t) y = specO _ _ (((cfg0.win 6).blk t).view.emb y)
  obtain ⟨e0, e1, e2, e3⟩ := emb6 t y
  exact tileO_eq _ _ _ _ _ _ e0 e1 e2 e3

theorem flushed7_eq (c : Dev nD) (t : Fin cfg0.N) :
    (dats m 0 c).flushed 7 t = ((cfg0.win 7).blk t).view.read (Elt Ideal) (specL (V m c main_arg0) (V m c main_arg1)) := by
  rw [flushed7_A, outL_eq, (cut_at m c t).canonL (grid0.coords t) (lim_at t)]
  funext y
  show tileL (V m c main_arg0) (V m c main_arg1) (bt t) (it t) y = specL _ _ (((cfg0.win 7).blk t).view.emb y)
  obtain ⟨e0, e1, e2, e3⟩ := emb7 t y
  exact tileL_eq _ _ _ _ _ _ e0 e1 e2

theorem covered6 (i : S2x4x8192x128.Idx) : ∃ t : Fin cfg0.N, (cfg0.win 6).flush t = true ∧ i ∈ ((cfg0.win 6).blk t).view.set := by
  have l0 : (i 0).val < 2 := (i 0).isLt
  have l2 : (i 2).val < 8192 := (i 2).isLt
  obtain ⟨t, hb, hi⟩ := pt_of ⟨(i 0).val, l0⟩ ⟨(i 2).val / 512, by omega⟩
  refine ⟨t, flush0_6 _, ?_⟩
  have hm := ((cfg0.win 6).blk t).view.emb_mem_set (ix4 0 (i 1) ⟨(i 2).val % 512, by omega⟩ (i 3) : S1x4x512x128.Idx)
  obtain ⟨e0, e1, e2, e3⟩ := emb6 t (ix4 0 (i 1) ⟨(i 2).val % 512, by omega⟩ (i 3) : S1x4x512x128.Idx)
  have he : ((cfg0.win 6).blk t).view.emb (ix4 0 (i 1) ⟨(i 2).val % 512, by omega⟩ (i 3) : S1x4x512x128.Idx) = i := by
    funext a; apply Fin.ext
    match a with
    | ⟨0, _⟩ => exact e0.trans hb
    | ⟨1, _⟩ => exact e1
    | ⟨2, _⟩ => refine e2.trans ?_; rw [hi]; show (i 2).val / 512 * 512 + (i 2).val % 512 = (i 2).val; omega
    | ⟨3, _⟩ => exact e3
  rwa [he] at hm

theorem covered7 (i : S2x4x8192x128.Idx) : ∃ t : Fin cfg0.N, (cfg0.win 7).flush t = true ∧ i ∈ ((cfg0.win 7).blk t).view.set := by
  have l0 : (i 0).val < 2 := (i 0).isLt
  have l2 : (i 2).val < 8192 := (i 2).isLt
  obtain ⟨t, hb, hi⟩ := pt_of ⟨(i 0).val, l0⟩ ⟨(i 2).val / 512, by omega⟩
  refine ⟨t, flush0_7 _, ?_⟩
  have hm := ((cfg0.win 7).blk t).view.emb_mem_set (ix4 0 (i 1) ⟨(i 2).val % 512, by omega⟩ (i 3) : S1x4x512x128.Idx)
  obtain ⟨e0, e1, e2, e3⟩ := emb7 t (ix4 0 (i 1) ⟨(i 2).val % 512, by omega⟩ (i 3) : S1x4x512x128.Idx)
  have he : ((cfg0.win 7).blk t).view.emb (ix4 0 (i 1) ⟨(i 2).val % 512, by omega⟩ (i 3) : S1x4x512x128.Idx) = i := by
    funext a; apply Fin.ext
    match a with
    | ⟨0, _⟩ => exact e0.trans hb
    | ⟨1, _⟩ => exact e1
    | ⟨2, _⟩ => refine e2.trans ?_; rw [hi]; show (i 2).val / 512 * 512 + (i 2).val % 512 = (i 2).val; omega
    | ⟨3, _⟩ => exact e3
  rwa [he] at hm

/-- The two arrays after the run. -/
theorem final6 (c : Dev nD) : (dats m 0 c).arrAt 6 cfg0.N = specO (m ((c : Thread nD τ).loc main_arg0)) (m ((c : Thread nD τ).loc main_arg1)) :=
  ((dats m 0 c).arrAt_eq_of_cover 6 (specO (V m c main_arg0) (V m c main_arg1)) (fun t _ => flushed6_eq m c t) covered6).trans
    (by rw [V_main_arg0, V_main_arg1])

theorem final7 (c : Dev nD) : (dats m 0 c).arrAt 7 cfg0.N = specL (m ((c : Thread nD τ).loc main_arg0)) (m ((c : Thread nD τ).loc main_arg1)) :=
  ((dats m 0 c).arrAt_eq_of_cover 7 (specL (V m c main_arg0) (V m c main_arg1)) (fun t _ => flushed7_eq m c t) covered7).trans
    (by rw [V_main_arg0, V_main_arg1])

/-- The kernel's run, its results the attention of its arguments. -/
theorem run : θ_run defs (onTc (τ := τ) (main (F := Ideal))) ⟨m, fun _ => 0, ρ⟩ fun r => ∀ c : Dev nD,
      r.2.mem ((c : Thread nD τ).loc main_v0_0) = specO (m ((c : Thread nD τ).loc main_arg0)) (m ((c : Thread nD τ).loc main_arg1))
      ∧ r.2.mem ((c : Thread nD τ).loc main_v0_1) = specL (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final6 m c), (h c).2.1.trans (final7 m c), (h c).2.2⟩) (run_blocks m ρ)

end Cert.Proof.Array

end
-- ==== Proof.Stages.lean ====
/- Hand-written. The reference's attention in its own stages, each read at an index. -/
module

public import proofs.«01_k».proof.Proof.Gen.ReferenceIdeal.Run
public import proofs.«01_k».proof.Proof.Spec
public import Idealize.ShloMosaic.Lib.KernelVsHost

@[expose] public section

noncomputable section

namespace Cert.Proof.Stages

open Cert.ReferenceIdeal Cert.ReferenceIdeal.Gen Idealize.ShloMosaic Idealize.ShloMosaic.TcCoe Cert.Proof.Rows Cert.Proof.Spec

/-- The first four heads of a section of the projection, in blocks of 128 rows. -/
def blocks (t : FVec Ideal S2x8192x1536 .f32) : FVec Ideal S2x1x4x64x128x128 .f32 :=
  shapeCast _ (transpose S2x1x4x8192x128 [0, 2, 3, 1, 4]
    (shapeCast _ (extractStridedSlice S2x8192x4x128 ![0, 0, 0, 0]
      (shapeCast _ t shapeCasts_S2x8192x1536_S2x8192x12x128 : FVec Ideal S2x8192x12x128 .f32) slices_S2x8192x12x128_S2x8192x4x128_0_0_0_0)
      shapeCasts_S2x8192x4x128_S2x8192x1x4x128 : FVec Ideal S2x8192x1x4x128 .f32)
    transposes_S2x8192x1x4x128_S2x1x4x8192x128_0_2_3_1_4) shapeCasts_S2x1x4x8192x128_S2x1x4x64x128x128

/-- Each block after the block before it, the first after zeros. -/
def withPrev (t : FVec Ideal S2x1x4x64x128x128 .f32) : FVec Ideal S2x1x4x64x256x128 .f32 :=
  concatenate S2x1x4x64x256x128 4 [⟨S2x1x4x64x128x128,
    extractStridedSlice S2x1x4x64x128x128 ![0, 0, 0, 0, 0, 0]
      (pad S2x1x4x65x128x128 ![0, 0, 0, 1, 0, 0] ![0, 0, 0, 0, 0, 0] ![0, 0, 0, 0, 0, 0] t (sitofp .f32 (constantI S_ 32 0#32))
        pads_S2x1x4x64x128x128_S2x1x4x65x128x128_000_000_000_100_000_000 h_S_)
      slices_S2x1x4x65x128x128_S2x1x4x64x128x128_0_0_0_0_0_0⟩, ⟨S2x1x4x64x128x128, t⟩]
    concatenates_S2x1x4x64x128x128_S2x1x4x64x128x128_S2x1x4x64x256x128_d4

/-- The steps from a key to a query, as words. -/
def delta : IVec S128x256 32 :=
  subi (broadcastInDim S128x256 ![0, 1] bcast_S128x1_S128x256_0_1
      (addi (broadcastInDim S128x1 ![0] bcast_S128_S128x1_0 (iotaInDim S128 32 0)) (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- A key's place in the sequence, as a word. -/
def keyAt : IVec S64x1x256 32 :=
  subi (addi (broadcastInDim S64x1x256 ![0, 1, 2] bcast_S64x1x1_S64x1x256_0_1_2
        (muli (broadcastInDim S64x1x1 ![0] bcast_S64_S64x1x1_0 (iotaInDim S64 32 0)) (broadcastInDim S64x1x1 ![] bcast_S_S64x1x1 (constantI S_ 32 128#32))))
      (broadcastInDim S64x1x256 ![0, 1, 2] bcast_S1x1x256_S64x1x256_0_1_2
        (broadcastInDim S1x1x256 ![1, 2] bcast_S1x256_S1x1x256_1_2 (broadcastInDim S1x256 ![1] bcast_S256_S1x256_1 (iotaInDim S256 32 0)))))
    (broadcastInDim S64x1x256 ![] bcast_S_S64x1x256 (constantI S_ 32 128#32))

/-- Which keys a query sees. -/
def valid : IVec S64x128x256 1 :=
  andi (broadcastInDim S64x128x256 ![0, 1, 2] bcast_S1x128x256_S64x128x256_0_1_2 (broadcastInDim S1x128x256 ![1, 2] bcast_S128x256_S1x128x256_1_2
      (andi (cmpi .sge delta (broadcastInDim S128x256 ![] bcast_S_S128x256 (constantI S_ 32 0#32)))
        (cmpi .sle delta (broadcastInDim S128x256 ![] bcast_S_S128x256 (constantI S_ 32 128#32))))))
    (broadcastInDim S64x128x256 ![0, 1, 2] bcast_S64x1x256_S64x128x256_0_1_2
      (cmpi .sge keyAt (broadcastInDim S64x1x256 ![] bcast_S_S64x1x256 (constantI S_ 32 0#32))))

/-- The term of a score that falls with the distance. -/
def bias (x1 : FVec Ideal S12 .f32) : FVec Ideal S4x1x128x256 .f32 :=
  mulf (broadcastInDim S4x1x128x256 ![0, 1, 2, 3] bcast_S4x1x1x1_S4x1x128x256_0_1_2_3
      (Host.negf (broadcastInDim S4x1x1x1 ![0] bcast_S4_S4x1x1x1_0 (extractStridedSlice S4 ![0] x1 slices_S12_S4_0))))
    (broadcastInDim S4x1x128x256 ![0, 1, 2, 3] bcast_S1x1x128x256_S4x1x128x256_0_1_2_3
      (broadcastInDim S1x1x128x256 ![2, 3] bcast_S128x256_S1x1x128x256_2_3
        (sitofp .f32 (muli delta (broadcastInDim S128x256 ![] bcast_S_S128x256 (constantI S_ 32 1#32))))))

/-- The masked scores. -/
def scores (q : FVec Ideal S2x1x4x64x128x128 .f32) (kk : FVec Ideal S2x1x4x64x256x128 .f32) (x1 : FVec Ideal S12 .f32) :
    FVec Ideal S2x1x4x64x128x256 .f32 :=
  select (broadcastInDim S2x1x4x64x128x256 ![3, 4, 5] bcast_S64x128x256_S2x1x4x64x128x256_3_4_5 valid)
    (addf (mulf (Host.dotGeneral dot_S2x1x4x64x128x128_S2x1x4x64x256x128_S2x1x4x64x128x256_5_5_4_4_0123_0123 none q kk)
        (broadcastInDim S2x1x4x64x128x256 ![] bcast_S_S2x1x4x64x128x256 (constant S_ .f32 0x3DB504F3#32)))
      (broadcastInDim S2x1x4x64x128x256 ![0, 1, 2, 3, 4, 5] bcast_S1x1x4x1x128x256_S2x1x4x64x128x256_0_1_2_3_4_5
        (broadcastInDim S1x1x4x1x128x256 ![2, 3, 4, 5] bcast_S4x1x128x256_S1x1x4x1x128x256_2_3_4_5 (bias x1))))
    (broadcastInDim S2x1x4x64x128x256 ![] bcast_S_S2x1x4x64x128x256 (id (constant S_ .f32 0xFF800000#32)))

/-- The largest score of each row. -/
def top (s : FVec Ideal S2x1x4x64x128x256 .f32) : FVec Ideal S2x1x4x64x128x1 .f32 :=
  broadcastInDim S2x1x4x64x128x1 ![0, 1, 2, 3, 4] bcast_S2x1x4x64x128_S2x1x4x64x128x1_0_1_2_3_4
    (Host.reduce FloatOps.maximumf s (constant S_ .f32 0xFF800000#32) reducesTo_S2x1x4x64x128x256_S2x1x4x64x128_d5 h_S_)

/-- The exponentials of the scores less the largest. -/
def exps (s : FVec Ideal S2x1x4x64x128x256 .f32) : FVec Ideal S2x1x4x64x128x256 .f32 :=
  Host.exp (subf s (broadcastInDim S2x1x4x64x128x256 ![0, 1, 2, 3, 4, 5] bcast_S2x1x4x64x128x1_S2x1x4x64x128x256_0_1_2_3_4_5 (top s)))

/-- Their sums. -/
def sums (s : FVec Ideal S2x1x4x64x128x256 .f32) : FVec Ideal S2x1x4x64x128x1 .f32 :=
  broadcastInDim S2x1x4x64x128x1 ![0, 1, 2, 3, 4] bcast_S2x1x4x64x128_S2x1x4x64x128x1_0_1_2_3_4
    (Host.reduceAdd (exps s) (constant S_ .f32 0x00000000#32) reducesTo_S2x1x4x64x128x256_S2x1x4x64x128_d5 h_S_)

/-- The weighted values, over the sums. -/
def avg (s : FVec Ideal S2x1x4x64x128x256 .f32) (vv : FVec Ideal S2x1x4x64x256x128 .f32) : FVec Ideal S2x1x4x64x128x128 .f32 :=
  Host.divf (Host.dotGeneral dot_S2x1x4x64x128x256_S2x1x4x64x256x128_S2x1x4x64x128x128_5_4_4_5_0123_0123 none (exps s) vv)
    (broadcastInDim S2x1x4x64x128x128 ![0, 1, 2, 3, 4, 5] bcast_S2x1x4x64x128x1_S2x1x4x64x128x128_0_1_2_3_4_5 (sums s))

/-- The blocks of rows joined. -/
def joined (a : FVec Ideal S2x1x4x64x128x128 .f32) : FVec Ideal S2x1x4x8192x128 .f32 := shapeCast _ a shapeCasts_S2x1x4x64x128x128_S2x1x4x8192x128

/-- The weighted values, the row's axis moved ahead of the heads', then back. -/
def moved (a : FVec Ideal S2x1x4x8192x128 .f32) : FVec Ideal S2x8192x1x4x128 .f32 :=
  transpose S2x8192x1x4x128 [0, 3, 1, 2, 4] a transposes_S2x1x4x8192x128_S2x8192x1x4x128_0_3_1_2_4
def squeezed (a : FVec Ideal S2x8192x1x4x128 .f32) : FVec Ideal S2x8192x4x128 .f32 := shapeCast _ a shapeCasts_S2x8192x1x4x128_S2x8192x4x128
def outO (a : FVec Ideal S2x8192x4x128 .f32) : FVec Ideal S2x4x8192x128 .f32 :=
  transpose S2x4x8192x128 [0, 2, 1, 3] a transposes_S2x8192x4x128_S2x4x8192x128_0_2_1_3

/-- The log-sum-exps. -/
def lses (s : FVec Ideal S2x1x4x64x128x256 .f32) : FVec Ideal S2x1x4x64x128x1 .f32 := addf (top s) (Host.log (sums s))

/-- Their unit axis dropped. -/
def drop1 (l : FVec Ideal S2x1x4x64x128x1 .f32) : FVec Ideal S2x1x4x64x128 .f32 := shapeCast _ l shapeCasts_S2x1x4x64x128x1_S2x1x4x64x128

/-- The log-sum-exps at the results' layout. -/
def outL (l : FVec Ideal S2x1x4x64x128 .f32) : FVec Ideal S2x4x8192x128 .f32 :=
  broadcastInDim S2x4x8192x128 ![0, 1, 2, 3] bcast_S2x4x8192x1_S2x4x8192x128_0_1_2_3
    (broadcastInDim S2x4x8192x1 ![0, 1, 2] bcast_S2x4x8192_S2x4x8192x1_0_1_2
      (transpose S2x4x8192 [0, 2, 1]
        (shapeCast _ (transpose S2x8192x1x4 [0, 3, 1, 2]
          (shapeCast _ l
            shapeCasts_S2x1x4x64x128_S2x1x4x8192 : FVec Ideal S2x1x4x8192 .f32)
          transposes_S2x1x4x8192_S2x8192x1x4_0_3_1_2) shapeCasts_S2x8192x1x4_S2x8192x4 : FVec Ideal S2x8192x4 .f32)
        transposes_S2x8192x4_S2x4x8192_0_2_1))

/-- A section of the projection. -/
def secQ (x0 : FVec Ideal S2x8192x7680 .bf16) : FVec Ideal S2x8192x1536 .f32 :=
  extractStridedSlice S2x8192x1536 ![0, 0, 0] (extf .f32 x0 bitsLt_bf16_f32) slices_S2x8192x7680_S2x8192x1536_0_0_0
def secK (x0 : FVec Ideal S2x8192x7680 .bf16) : FVec Ideal S2x8192x1536 .f32 :=
  extractStridedSlice S2x8192x1536 ![0, 0, 1536] (extf .f32 x0 bitsLt_bf16_f32) slices_S2x8192x7680_S2x8192x1536_0_0_1536
def secV (x0 : FVec Ideal S2x8192x7680 .bf16) : FVec Ideal S2x8192x1536 .f32 :=
  extractStridedSlice S2x8192x1536 ![0, 0, 3072] (extf .f32 x0 bitsLt_bf16_f32) slices_S2x8192x7680_S2x8192x1536_0_0_3072

open Cert.ReferenceIdeal.Value Idealize.SL.Sem

/-- The whole program's scores. -/
def scoresOf (x0 : FVec Ideal S2x8192x7680 .bf16) (x1 : FVec Ideal S12 .f32) : FVec Ideal S2x1x4x64x128x256 .f32 :=
  scores (blocks (secQ x0)) (withPrev (blocks (secK x0))) x1

set_option maxRecDepth 8192 in
theorem res_out (m : (ℓ : Loc nD τ sig) → Buf (Elt Ideal) ℓ) (c : Dev nD) : res_main_v92 m c
    = outO (squeezed (moved (joined (avg (scoresOf (m ((c.tc : Thread nD τ).loc main_arg0)) (m ((c.tc : Thread nD τ).loc main_arg1)))
        (withPrev (blocks (secV (m ((c.tc : Thread nD τ).loc main_arg0))))))))) := by
  unfold res_main_v92; rfl

set_option maxRecDepth 8192 in
theorem res_lse (m : (ℓ : Loc nD τ sig) → Buf (Elt Ideal) ℓ) (c : Dev nD) : res_main_v95 m c
    = outL (drop1 (lses (scoresOf (m ((c.tc : Thread nD τ).loc main_arg0)) (m ((c.tc : Thread nD τ).loc main_arg1))))) := by
  unfold res_main_v95; rfl

end Cert.Proof.Stages

end
-- ==== Proof.StageReads.lean ====
/- Hand-written. The reference's stages read at an index. -/
module

public import proofs.«01_k».proof.Proof.Stages
public import Idealize.ShloMosaic.Lib.Pointwise

@[expose] public section

noncomputable section

namespace Cert.Proof.Stages

open Cert.ReferenceIdeal Cert.ReferenceIdeal.Gen Idealize.ShloMosaic Idealize.ShloMosaic.TcCoe Cert.Proof.Rows Cert.Proof.Spec

theorem blocks_apply (t : FVec Ideal S2x8192x1536 .f32) (b : Fin 2) (h : Fin 4) (n : Fin 64) (r d : Fin 128) :
    blocks t (ix6 b 0 h n r d) = t (ix3 b ⟨n.val * 128 + r.val, by omega⟩ ⟨h.val * 128 + d.val, by omega⟩) := by
  pointwise [blocks]

theorem withPrev_cur (t : FVec Ideal S2x1x4x64x128x128 .f32) (b : Fin 2) (h : Fin 4) (n : Fin 64) (k d : Fin 128) :
    withPrev t (ix6 b 0 h n ⟨128 + k.val, by omega⟩ d) = t (ix6 b 0 h n k d) := by
  pointwise [withPrev]

theorem withPrev_prev (t : FVec Ideal S2x1x4x64x128x128 .f32) (b : Fin 2) (h : Fin 4) (n : Fin 64) (k d : Fin 128) :
    withPrev t (ix6 b 0 h n ⟨k.val, by omega⟩ d) = if n.val = 0 then 0 else t (ix6 b 0 h ⟨n.val - 1, by omega⟩ k d) := by
  pointwise [withPrev]
  by_cases h0 : n.val = 0
  · rw [dif_neg (by omega), if_pos h0]
    show ((((0#32 : BitVec 32).toInt : ℝ)) : EReal) = 0
    simp
  · rw [dif_pos (by omega), if_neg h0]

theorem delta_apply (r : Fin 128) (j : Fin 256) :
    delta (ix2 r j) = BitVec.ofNat 32 r.val + 128#32 - BitVec.ofNat 32 j.val := by
  pointwise [delta]
  rfl

theorem valid_apply (n : Fin 64) (r : Fin 128) (j : Fin 256) : valid (ix3 n r j) = IntOp.andi
    (IntOp.andi (IntOp.cmpi .sge (BitVec.ofNat 32 r.val + 128#32 - BitVec.ofNat 32 j.val) 0#32)
      (IntOp.cmpi .sle (BitVec.ofNat 32 r.val + 128#32 - BitVec.ofNat 32 j.val) 128#32))
    (IntOp.cmpi .sge (BitVec.ofNat 32 n.val * 128#32 + BitVec.ofNat 32 j.val - 128#32) 0#32) := by
  pointwise [valid, delta_apply, keyAt]
  rfl

theorem bias_apply (x1 : FVec Ideal S12 .f32) (h : Fin 4) (r : Fin 128) (j : Fin 256) :
    bias x1 (ix4 h 0 r j) = -(x1 (ix1 ⟨h.val, by omega⟩)) * num (BitVec.ofNat 32 r.val + 128#32 - BitVec.ofNat 32 j.val) := by
  pointwise [bias, delta_apply, num]
  rw [show IntOp.muli (BitVec.ofNat 32 r.val + 128#32 - BitVec.ofNat 32 j.val) 1#32 = _ from BitVec.mul_one _]

theorem neg_inf : Ideal.ofBits .f32 0xFF800000#32 = ⊥ := by simp [Ideal.ofBits, Ideal.ieee]

end Cert.Proof.Stages

end
-- ==== Proof.ScoreReads.lean ====
/- Hand-written. The reference's stages read at an index. -/
module

public import proofs.«01_k».proof.Proof.StageReads
public import Idealize.ShloMosaic.Lib.Pointwise

@[expose] public section

noncomputable section

namespace Cert.Proof.Stages

open Cert.ReferenceIdeal Cert.ReferenceIdeal.Gen Idealize.ShloMosaic Idealize.ShloMosaic.TcCoe Cert.Proof.Rows Cert.Proof.Spec

theorem scores_apply (q : FVec Ideal S2x1x4x64x128x128 .f32) (kk : FVec Ideal S2x1x4x64x256x128 .f32) (x1 : FVec Ideal S12 .f32)
    (b : Fin 2) (h : Fin 4) (n : Fin 64) (r : Fin 128) (j : Fin 256) :
    scores q kk x1 (ix6 b 0 h n r j) = Scalar.select (valid (ix3 n r j))
      ((∑ d : Fin 128, q (ix6 b 0 h n r d) * kk (ix6 b 0 h n j d)) * Ideal.ofBits .f32 0x3DB504F3#32
        + -(x1 (ix1 ⟨h.val, by omega⟩)) * num (BitVec.ofNat 32 r.val + 128#32 - BitVec.ofNat 32 j.val)) (⊥ : EReal) := by
  pointwise [scores, bias_apply, id]
  rw [neg_inf]

/-- The indices whose last coordinate drops to a row. -/
theorem fiber (b : Fin 2) (h : Fin 4) (n : Fin 64) (r : Fin 128) (i : S2x1x4x64x128x256.Idx) :
    reducesTo_S2x1x4x64x128x256_S2x1x4x64x128_d5.drop i = ix5 b 0 h n r ↔ ∃ j : Fin 256, ix6 b 0 h n r j = i := by
  constructor
  · intro e
    refine ⟨i 5, funext fun a => Fin.ext ?_⟩
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨j, rfl⟩
    funext a
    apply Fin.ext
    match a with
    | ⟨0, _⟩ => rfl
    | ⟨1, _⟩ => rfl
    | ⟨2, _⟩ => rfl
    | ⟨3, _⟩ => rfl
    | ⟨4, _⟩ => rfl

theorem top_apply (s : FVec Ideal S2x1x4x64x128x256 .f32) (b : Fin 2) (h : Fin 4) (n : Fin 64) (r : Fin 128) :
    top s (ix6 b 0 h n r 0) = Finset.univ.fold max (⊥ : EReal) fun j : Fin 256 => s (ix6 b 0 h n r j) := by
  pointwise [top]
  rw [neg_inf]
  exact Finset.fold_filter_eq_fold_of_fiber max _ (fun j : Fin 256 => ix6 b 0 h n r j) (fun x y e => (congrFun e 5 : (ix6 b 0 h n r x : S2x1x4x64x128x256.Idx) 5 = (ix6 b 0 h n r y : S2x1x4x64x128x256.Idx) 5)) (fiber b h n r) ⊥ s

theorem secQ_apply (x0 : FVec Ideal S2x8192x7680 .bf16) (b : Fin 2) (y : Fin 8192) (c : Fin 1536) :
    secQ x0 (ix3 b y c) = pj x0 b.val y.val c.val := by
  rw [← pj_of x0 (ix3 b y ⟨c.val, by omega⟩) b.val y.val c.val rfl rfl rfl]
  pointwise [secQ]
theorem secK_apply (x0 : FVec Ideal S2x8192x7680 .bf16) (b : Fin 2) (y : Fin 8192) (c : Fin 1536) :
    secK x0 (ix3 b y c) = pj x0 b.val y.val (1536 + c.val) := by
  rw [← pj_of x0 (ix3 b y ⟨1536 + c.val, by omega⟩) b.val y.val (1536 + c.val) rfl rfl rfl]
  pointwise [secK]
theorem secV_apply (x0 : FVec Ideal S2x8192x7680 .bf16) (b : Fin 2) (y : Fin 8192) (c : Fin 1536) :
    secV x0 (ix3 b y c) = pj x0 b.val y.val (3072 + c.val) := by
  rw [← pj_of x0 (ix3 b y ⟨3072 + c.val, by omega⟩) b.val y.val (3072 + c.val) rfl rfl rfl]
  pointwise [secV]

end Cert.Proof.Stages

end
-- ==== Proof.SumReads.lean ====
/- Hand-written. The reference's stages read at an index. -/
module

public import proofs.«01_k».proof.Proof.ScoreReads
public import Idealize.ShloMosaic.Lib.Pointwise

@[expose] public section

noncomputable section

namespace Cert.Proof.Stages

open Cert.ReferenceIdeal Cert.ReferenceIdeal.Gen Idealize.ShloMosaic Idealize.ShloMosaic.TcCoe Cert.Proof.Rows Cert.Proof.Spec

theorem exps_apply (s : FVec Ideal S2x1x4x64x128x256 .f32) (b : Fin 2) (h : Fin 4) (n : Fin 64) (r : Fin 128) (j : Fin 256) :
    exps s (ix6 b 0 h n r j) = Ideal.exp (s (ix6 b 0 h n r j) - top s (ix6 b 0 h n r 0)) := by
  pointwise [exps]

theorem sums_apply (s : FVec Ideal S2x1x4x64x128x256 .f32) (b : Fin 2) (h : Fin 4) (n : Fin 64) (r : Fin 128) :
    sums s (ix6 b 0 h n r 0) = ∑ j : Fin 256, exps s (ix6 b 0 h n r j) := by
  pointwise [sums]
  refine (congrArg (0 + ·) (Finset.sum_filter_eq_sum_of_fiber _ (fun j : Fin 256 => ix6 b 0 h n r j) (fun x y e => (congrFun e 5 : (ix6 b 0 h n r x : S2x1x4x64x128x256.Idx) 5 = (ix6 b 0 h n r y : S2x1x4x64x128x256.Idx) 5))
    (fiber b h n r) (exps s))).trans (zero_add _)

theorem avg_apply (s : FVec Ideal S2x1x4x64x128x256 .f32) (vv : FVec Ideal S2x1x4x64x256x128 .f32) (b : Fin 2) (h : Fin 4) (n : Fin 64)
    (r d : Fin 128) : avg s vv (ix6 b 0 h n r d)
      = Ideal.div (∑ j : Fin 256, exps s (ix6 b 0 h n r j) * vv (ix6 b 0 h n j d)) (sums s (ix6 b 0 h n r 0)) := by
  pointwise [avg]

theorem add_log {t : Shape} (a l : FVec Ideal t .f32) (i : t.Idx) : addf a (Host.log l) i = a i + Ideal.log (l i) := rfl

theorem lses_apply (s : FVec Ideal S2x1x4x64x128x256 .f32) (i : S2x1x4x64x128x1.Idx) : lses s i = top s i + Ideal.log (sums s i) := by
  unfold lses
  exact add_log _ _ i

end Cert.Proof.Stages

end
-- ==== Proof.OutReads.lean ====
/- Hand-written. The reference's last stages read at an index. -/
module

public import proofs.«01_k».proof.Proof.Stages
public import Idealize.ShloMosaic.Lib.Pointwise

@[expose] public section

noncomputable section

namespace Cert.Proof.Stages

open Cert.ReferenceIdeal Cert.ReferenceIdeal.Gen Idealize.ShloMosaic Idealize.ShloMosaic.TcCoe Cert.Proof.Rows Cert.Proof.Spec

theorem outO_apply (a : FVec Ideal S2x8192x4x128 .f32) (b : Fin 2) (h : Fin 4) (y : Fin 8192) (d : Fin 128) :
    outO a (ix4 b h y d) = a (ix4 b y h d) := by
  pointwise [outO]

theorem moved_apply (a : FVec Ideal S2x1x4x8192x128 .f32) (b : Fin 2) (h : Fin 4) (y : Fin 8192) (d : Fin 128) :
    moved a (ix5 b y 0 h d) = a (ix5 b 0 h y d) := by
  pointwise [moved]

theorem squeezed_apply (a : FVec Ideal S2x8192x1x4x128 .f32) (b : Fin 2) (h : Fin 4) (y : Fin 8192) (d : Fin 128) :
    squeezed a (ix4 b y h d) = a (ix5 b y 0 h d) := by
  refine shapeCast_apply a shapeCasts_S2x8192x1x4x128_S2x8192x4x128 (ix4 b y h d) (ix5 b y 0 h d) ?_
  rw [Shape.rowMajor_val_five, Shape.rowMajor_val_four]
  show (((b.val * 8192 + y.val) * 1 + 0) * 4 + h.val) * 128 + d.val = ((b.val * 8192 + y.val) * 4 + h.val) * 128 + d.val
  omega

theorem joined_apply (a : FVec Ideal S2x1x4x64x128x128 .f32) (b : Fin 2) (h : Fin 4) (y : Fin 8192) (d : Fin 128) :
    joined a (ix5 b 0 h y d) = a (ix6 b 0 h ⟨y.val / 128, by omega⟩ ⟨y.val % 128, by omega⟩ d) := by
  have e := congrFun (shapeCast_shapeCast a shapeCasts_S2x1x4x64x128x128_S2x1x4x8192x128 shapeCasts_S2x1x4x8192x128_S2x1x4x64x128x128)
    (ix6 b 0 h ⟨y.val / 128, by omega⟩ ⟨y.val % 128, by omega⟩ d)
  rw [← e]
  show joined a (ix5 b 0 h y d) = shapeCast _ (joined a) _ _
  generalize joined a = t
  pointwise []

theorem outL_apply (l : FVec Ideal S2x1x4x64x128 .f32) (b : Fin 2) (h : Fin 4) (y : Fin 8192) (d : Fin 128) :
    outL l (ix4 b h y d) = l (ix5 b 0 h ⟨y.val / 128, by omega⟩ ⟨y.val % 128, by omega⟩) := by
  pointwise [outL]

theorem drop1_apply (l : FVec Ideal S2x1x4x64x128x1 .f32) (b : Fin 2) (h : Fin 4) (n : Fin 64) (r : Fin 128) :
    drop1 l (ix5 b 0 h n r) = l (ix6 b 0 h n r 0) := by
  have e := congrFun (shapeCast_shapeCast l shapeCasts_S2x1x4x64x128x1_S2x1x4x64x128 (by decide : S2x1x4x64x128.ShapeCasts S2x1x4x64x128x1))
    (ix6 b 0 h n r 0)
  rw [← e]
  show drop1 l (ix5 b 0 h n r) = shapeCast _ (drop1 l) _ _
  generalize drop1 l = t
  pointwise []

end Cert.Proof.Stages

end
-- ==== Proof.Words.lean ====
/- Hand-written. The reference's masks and distances as words, over every block, row and key. -/
module

public import Idealize.ShloMosaic.Lib.Pointwise

@[expose] public section

noncomputable section

namespace Cert.Proof.Stages

open Idealize.ShloMosaic

theorem w_prev : ∀ r k : Fin 128, IntOp.andi (IntOp.cmpi .sge (BitVec.ofNat 32 r.val + 128#32 - BitVec.ofNat 32 k.val) 0#32)
    (IntOp.cmpi .sle (BitVec.ofNat 32 r.val + 128#32 - BitVec.ofNat 32 k.val) 128#32) = if r.val ≤ k.val then 1#1 else 0#1 := by
  decide +kernel

theorem w_cur : ∀ r k : Fin 128, IntOp.andi (IntOp.cmpi .sge (BitVec.ofNat 32 r.val + 128#32 - BitVec.ofNat 32 (128 + k.val)) 0#32)
    (IntOp.cmpi .sle (BitVec.ofNat 32 r.val + 128#32 - BitVec.ofNat 32 (128 + k.val)) 128#32) = if k.val ≤ r.val then 1#1 else 0#1 := by
  decide +kernel

theorem w_first : ∀ (n : Fin 64) (k : Fin 128),
    IntOp.cmpi .sge (BitVec.ofNat 32 n.val * 128#32 + BitVec.ofNat 32 k.val - 128#32) 0#32 = if n.val = 0 then 0#1 else 1#1 := by
  decide +kernel

theorem w_own : ∀ (n : Fin 64) (k : Fin 128),
    IntOp.cmpi .sge (BitVec.ofNat 32 n.val * 128#32 + BitVec.ofNat 32 (128 + k.val) - 128#32) 0#32 = 1#1 := by
  decide +kernel

theorem d_prev : ∀ r k : Fin 128, BitVec.ofNat 32 r.val + 128#32 - BitVec.ofNat 32 k.val
    = BitVec.ofNat 32 r.val - BitVec.ofNat 32 k.val + 128#32 := by
  decide +kernel

theorem d_cur : ∀ r k : Fin 128, BitVec.ofNat 32 r.val + 128#32 - BitVec.ofNat 32 (128 + k.val)
    = BitVec.ofNat 32 r.val - BitVec.ofNat 32 k.val := by
  decide +kernel

end Cert.Proof.Stages

end
-- ==== Proof.RefSpec.lean ====
/- Hand-written. The reference's two results are the attention of `Spec`: its 256 keys are the 128 of the block before, then the
   128 of the own block, so its sums and its maximum split in two. -/
module

public import proofs.«01_k».proof.Proof.SumReads
public import proofs.«01_k».proof.Proof.OutReads
public import proofs.«01_k».proof.Proof.Words

@[expose] public section

noncomputable section

namespace Cert.Proof.Stages

open Cert.ReferenceIdeal Cert.ReferenceIdeal.Gen Idealize.ShloMosaic Idealize.ShloMosaic.TcCoe Cert.Proof.Rows Cert.Proof.Spec

/-- A place among the 256 keys: in the block before, in the own block. -/
abbrev kP (k : Fin 128) : Fin 256 := ⟨k.val, by omega⟩
abbrev kC (k : Fin 128) : Fin 256 := ⟨128 + k.val, by omega⟩

theorem sum256 (f : Fin 256 → EReal) : ∑ j, f j = ∑ k, f (kP k) + ∑ k, f (kC k) := Fin.sum_univ_two_halves 128 128 rfl f

theorem fold256 (f : Fin 256 → EReal) :
    Finset.univ.fold max (⊥ : EReal) f = Finset.univ.fold max (⊥ : EReal) fun k : Fin 128 => max (f (kC k)) (f (kP k)) := by
  show Finset.univ.sup f = Finset.univ.sup fun k : Fin 128 => max (f (kC k)) (f (kP k))
  apply le_antisymm
  · refine Finset.sup_le fun j _ => ?_
    by_cases hj : j.val < 128
    · exact le_trans (le_max_right (f (kC ⟨j.val, hj⟩)) (f j))
        (Finset.le_sup (f := fun k : Fin 128 => max (f (kC k)) (f (kP k))) (Finset.mem_univ (⟨j.val, hj⟩ : Fin 128)))
    · have e : j = kC ⟨j.val - 128, by omega⟩ := Fin.ext (by show j.val = 128 + (j.val - 128); omega)
      rw [e]
      exact le_trans (le_max_left _ (f (kP ⟨j.val - 128, by omega⟩)))
        (Finset.le_sup (f := fun k : Fin 128 => max (f (kC k)) (f (kP k))) (Finset.mem_univ (⟨j.val - 128, by omega⟩ : Fin 128)))
  · exact Finset.sup_le fun k _ => max_le (Finset.le_sup (Finset.mem_univ _)) (Finset.le_sup (Finset.mem_univ _))

variable (P : FVec Ideal S2x8192x7680 .bf16) (S : FVec Ideal S12 .f32) (b : Fin 2) (h : Fin 4) (n : Fin 64) (r : Fin 128)

theorem q_at (d : Fin 128) : blocks (secQ P) (ix6 b 0 h n r d) = pj P b.val (n.val * 128 + r.val) (h.val * 128 + d.val) := by
  rw [blocks_apply, secQ_apply]

theorem k_cur (k d : Fin 128) : withPrev (blocks (secK P)) (ix6 b 0 h n (kC k) d) = pj P b.val (n.val * 128 + k.val) (1536 + h.val * 128 + d.val) := by
  rw [withPrev_cur, blocks_apply, secK_apply, Nat.add_assoc]

theorem k_prev (hn : n.val ≠ 0) (k d : Fin 128) :
    withPrev (blocks (secK P)) (ix6 b 0 h n (kP k) d) = pj P b.val ((n.val - 1) * 128 + k.val) (1536 + h.val * 128 + d.val) := by
  rw [withPrev_prev, if_neg hn, blocks_apply, secK_apply, Nat.add_assoc]

theorem v_cur (k d : Fin 128) : withPrev (blocks (secV P)) (ix6 b 0 h n (kC k) d) = pj P b.val (n.val * 128 + k.val) (3072 + h.val * 128 + d.val) := by
  rw [withPrev_cur, blocks_apply, secV_apply, Nat.add_assoc]

theorem v_prev (hn : n.val ≠ 0) (k d : Fin 128) :
    withPrev (blocks (secV P)) (ix6 b 0 h n (kP k) d) = pj P b.val ((n.val - 1) * 128 + k.val) (3072 + h.val * 128 + d.val) := by
  rw [withPrev_prev, if_neg hn, blocks_apply, secV_apply, Nat.add_assoc]

theorem s_at (k : Fin 12) (hk : k.val = h.val) : S (ix1 k) = slp S h.val := slp_of S (ix1 k) h.val hk

theorem s_cur (k : Fin 128) : scoresOf P S (ix6 b 0 h n r (kC k)) = rowC P S b.val h.val n.val r k := by
  unfold scoresOf rowC scoreC
  rw [scores_apply, valid_apply, w_cur, w_own, d_cur, s_at S h _ rfl, EReal.neg_mul, ← sub_eq_add_neg]
  simp only [q_at, k_cur]
  by_cases hk : k.val ≤ r.val
  · rw [if_pos hk, if_pos hk]; rfl
  · rw [if_neg hk, if_neg hk]; rfl

theorem s_prev (k : Fin 128) : scoresOf P S (ix6 b 0 h n r (kP k)) = rowP P S b.val h.val n.val r k := by
  unfold scoresOf rowP scoreP
  rw [scores_apply, valid_apply, w_prev, w_first, d_prev, s_at S h _ rfl, EReal.neg_mul, ← sub_eq_add_neg]
  by_cases hn : n.val = 0
  · rw [if_pos hn, if_neg (show ¬(¬n.val = 0 ∧ r.val ≤ k.val) from fun hh => hh.1 hn)]
    by_cases hk : r.val ≤ k.val
    · rw [if_pos hk]; rfl
    · rw [if_neg hk]; rfl
  · simp only [q_at, k_prev P b h n hn]
    rw [if_neg hn]
    by_cases hk : r.val ≤ k.val
    · rw [if_pos hk, if_pos ⟨hn, hk⟩]; rfl
    · rw [if_neg hk, if_neg (by tauto)]; rfl

theorem top_eq : top (scoresOf P S) (ix6 b 0 h n r 0) = rmax (rowC P S b.val h.val n.val r) (rowP P S b.val h.val n.val r) := by
  unfold rmax
  rw [top_apply, fold256]
  simp only [s_cur, s_prev]

theorem e_cur (k : Fin 128) : exps (scoresOf P S) (ix6 b 0 h n r (kC k)) = Ideal.exp (rowC P S b.val h.val n.val r k
    - rmax (rowC P S b.val h.val n.val r) (rowP P S b.val h.val n.val r)) := by
  rw [exps_apply, top_eq, s_cur]

theorem e_prev (k : Fin 128) : exps (scoresOf P S) (ix6 b 0 h n r (kP k)) = Ideal.exp (rowP P S b.val h.val n.val r k
    - rmax (rowC P S b.val h.val n.val r) (rowP P S b.val h.val n.val r)) := by
  rw [exps_apply, top_eq, s_prev]

theorem sums_eq : sums (scoresOf P S) (ix6 b 0 h n r 0) = rden (rowC P S b.val h.val n.val r) (rowP P S b.val h.val n.val r) := by
  unfold rden
  rw [sums_apply, sum256, Finset.sum_add_distrib, add_comm]
  simp only [e_cur, e_prev]

theorem avg_eq (d : Fin 128) : avg (scoresOf P S) (withPrev (blocks (secV P))) (ix6 b 0 h n r d) = outAt P S b.val h.val n.val r d.val := by
  unfold outAt rout
  rw [avg_apply, sums_eq, sum256, add_comm]
  simp only [e_cur, e_prev, v_cur]
  congr 2
  refine Finset.sum_congr rfl fun k _ => ?_
  by_cases hn : n.val = 0
  · rw [withPrev_prev, if_pos hn, mul_zero]
    have e : rowP P S b.val h.val n.val r k = ⊥ := by unfold rowP scoreP; exact if_neg (by tauto)
    rw [e, sub_eq_add_neg, EReal.bot_add, Ideal.exp_bot, zero_mul]
  · rw [v_prev P b h n hn]

theorem out_eq (i : S2x4x8192x128.Idx) :
    outO (squeezed (moved (joined (avg (scoresOf P S) (withPrev (blocks (secV P))))))) i = specO P S i := by
  obtain ⟨b, h, y, d, rfl⟩ : ∃ (b : Fin 2) (h : Fin 4) (y : Fin 8192) (d : Fin 128), i = ix4 b h y d := ⟨i 0, i 1, i 2, i 3, eq_ix4 i⟩
  rw [outO_apply, squeezed_apply, moved_apply, joined_apply, avg_eq]
  rfl

theorem lse_eq (i : S2x4x8192x128.Idx) : outL (drop1 (lses (scoresOf P S))) i = specL P S i := by
  obtain ⟨b, h, y, d, rfl⟩ : ∃ (b : Fin 2) (h : Fin 4) (y : Fin 8192) (d : Fin 128), i = ix4 b h y d := ⟨i 0, i 1, i 2, i 3, eq_ix4 i⟩
  rw [outL_apply, drop1_apply, lses_apply, top_eq, sums_eq]
  rfl

end Cert.Proof.Stages

end
-- ==== Proof.Dilated.lean ====
/- Hand-written. The claims about the dilated attention: the frames of the two kernel programs are generated, the reference's holds
   because it declares no semaphore, and both programs end in the attention of `Proof/Spec.lean`. -/
module

public import proofs.«01_k».proof.Defs
public import proofs.«01_k».proof.Proof.Gen.Kernel.Frame
public import proofs.«01_k».proof.Proof.Array
public import proofs.«01_k».proof.Proof.RefSpec

@[expose] public section

noncomputable section

namespace Cert.Proof

open Idealize.ShloMosaic Idealize.ShloMosaic.TcCoe Idealize.SL.Sem Cert.Proof.Spec

attribute [local instance] Cert.Kernel.Gen.facts Cert.KernelIdeal.Gen.facts Cert.ReferenceIdeal.Gen.facts

theorem ref_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem same : Cert.algebraic_KernelIdeal_ReferenceIdeal := fun m ρ m' ρ' _ hm =>
  ⟨fun c => specO (m ((c : Thread Cert.KernelIdeal.nD Cert.KernelIdeal.τ).loc Cert.KernelIdeal.main_arg0))
      (m ((c : Thread Cert.KernelIdeal.nD Cert.KernelIdeal.τ).loc Cert.KernelIdeal.main_arg1)),
    fun c => specL (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.Proof.Array.run m ρ,
    (θ_run Cert.ReferenceIdeal.defs _ _).mono
      (fun _ h c => ⟨((h c).1.trans (Stages.res_out m' c)).trans
          ((funext (Stages.out_eq _ _)).trans (congrArg₂ specO (hm c).1 (hm c).2)),
        ((h c).2.1.trans (Stages.res_lse m' c)).trans
          ((funext (Stages.lse_eq _ _)).trans (congrArg₂ specL (hm c).1 (hm c).2)), (h c).2.2⟩)
      (Cert.ReferenceIdeal.Value.run (F := Ideal) m' ρ')⟩

end Cert.Proof

end
-- ==== Proof.ExpertsKit.lean ====
/- Follows the generated set-up of a frame, with most of its text. The set-up of the experts' launch: the arrays and the two tables as the grid finds them, the windows' blocks, and
   the frame claim read off a launch. -/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp

@[expose] public section

-- the blocks' long axes need deep recursion
set_option maxRecDepth 16384

noncomputable section

namespace Cert.ExpertsIdeal.Tiles
open Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The host operations before the kernel -/

/-- The buffers of core `c` after the host operations. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program is the host operations and then the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation writes an argument. -/
theorem V_arg (c : Dev nD) (b : Ref sig .tc) (hb : b ∈ [main_arg0, main_arg1, main_arg2, main_arg3, main_arg4, main_arg5]) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    simp only [List.mem_cons, List.not_mem_nil, or_false] at hb
    repeat' apply And.intro
    all_goals
      refine StableHlo.devRef_ne_of_ne ?_
      obtain rfl | rfl | rfl | rfl | rfl | rfl := hb <;> decide))

/-! ## The two tables -/

/-- The tables' contents when the kernel starts. -/
def tbl : pre0.Contents (Elt F) := fun j => V m (0 : Dev nD) (pre0.ref j)
/-- There is one device, so every device's tables hold them. -/
theorem V_pre (c : Dev nD) (j : Fin 2) : V m c (pre0.ref j) = tbl m j := by
  obtain rfl : c = 0 := Subsingleton.elim _ _; rfl
/-- Every block that a table's word places lies inside its array (from the precondition: `ok_of_range`). -/
abbrev Ok : Prop := ok0 (F := F) (tbl m)
/-- The tables' contents with that condition, and the pipeline at them. -/
abbrev adm (hO : Ok m) : (pcfg0 (F := F)).Adm := ⟨tbl m, hO⟩
abbrev cfgM (hO : Ok m) : Pipeline.Cfg sig Λ₀ := cfg0 (adm m hO)

/-- The tables as the body takes them: whole buffers. -/
abbrev tbM0_0 : Memref sig .tc .smem S160 .i32 := Memref.whole main_v11
abbrev htbM0_0 : tbM0_0.IsWhole := Memref.isWhole_whole _
abbrev tbM0_1 : Memref sig .tc .smem S1 .i32 := Memref.whole main_arg2
abbrev htbM0_1 : tbM0_1.IsWhole := Memref.isWhole_whole _

/-- A table's contents, and half of its share, to read it: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves, table by table. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- The block of window `w` at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Before the body an input's buffer holds its block, whether it was fetched at this point or before. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- A launch that ends at the library's `FramePost` leaves the arguments unchanged: the inputs of a window are only read, the others
    not touched. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 0).trans (((dats 0 c).arrAt_in 0 rfl _).trans ((hA c 0).trans (V_arg m c main_arg0 (by decide)))),
      ((h c).2 main_arg1 (by decide : main_arg1 ∈ Pipeline.restRefs sig spec0)).trans (V_arg m c main_arg1 (by decide)),
      ((h c).2 main_arg2 (by decide : main_arg2 ∈ Pipeline.restRefs sig spec0)).trans (V_arg m c main_arg2 (by decide)),
      ((h c).1 1).trans (((dats 0 c).arrAt_in 1 rfl _).trans ((hA c 1).trans (V_arg m c main_arg3 (by decide)))),
      ((h c).1 2).trans (((dats 0 c).arrAt_in 2 rfl _).trans ((hA c 2).trans (V_arg m c main_arg4 (by decide)))),
      ((h c).1 3).trans (((dats 0 c).arrAt_in 3 rfl _).trans ((hA c 3).trans (V_arg m c main_arg5 (by decide))))⟩) h

/-! ## The buffers that the body works on -/

/-- One buffer of the output. -/
abbrev VO0_4 : View sig .tc .vmem S256x2048 .f32 := (Memref.whole cc0_stg4_0 : Memref sig .tc .vmem S256x2048 .f32).view
/-- Each window's buffer at point `t`; it is whole. -/
abbrev ms0_0 (hO : Ok m) (t : Fin (cfgM m hO).N) : Memref sig .tc .vmem S256x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x256 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x256 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S256x2048 .f32 := spec0_4.stage ((cfgM m hO).slots t 4)
abbrev hs0_4 (hO : Ok m) (t : Fin (cfgM m hO).N) : (ms0_4 m hO t).IsWhole := hstage0_4 (((cfgM m hO).slots t 4).cast nbuf0_4)

/-- The body at point `t`, on those buffers. -/
abbrev bodyAt0 (a : (pcfg0 (F := F)).Adm) (t : Fin (cfg0 a).N) : Prog (TpuEff nD τ sig (Elt F) Λ₀ .tc) PUnit :=
  cc0_moe_experts (grid0.coords t) (Memref.whole main_v11) (Memref.isWhole_whole _) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- The output is written back at every point. -/
theorem flush0_4 (a : (pcfg0 (F := F)).Adm) : ∀ t : Fin (cfg0 a).N, ((cfg0 a).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true)

end Cert.ExpertsIdeal.Tiles

end
-- ==== Proof.ExpertsRun.lean ====
/- Hand-written, after the generated form of a body's triple. One grid point of the experts' kernel: what its body leaves in the output block, whether the tile is in use or not. -/
module

public import proofs.«01_k».proof.Proof.ExpertsKit
public import Idealize.ShloMosaic.Lib.VecWindow

@[expose] public section

-- the blocks' long axes need deep recursion
set_option maxRecDepth 16384

noncomputable section

namespace Cert.ExpertsIdeal.Tiles
open Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Of the body's two conditions exactly one holds. -/
theorem cond2_iff (i : grid0.Coords) (w : BitVec 32) : k0_cond2 i w = 1#1 ↔ ¬ k0_cond1 i w = 1#1 := by
  unfold k0_cond1 k0_cond2
  dsimp only
  generalize Scalar.cmpi .slt (BitVec.ofNat 32 (i 0).val) w = b
  revert b; decide

/-- The number of tiles in use, as the body reads it off the second table. -/
abbrev word (c : Dev nD) (xt1 : TbBuf0 (F := F) c tbM0_1) : BitVec 32 :=
  View.readAt (Elt F) tbM0_1.view (Rect.unit (s := S1) ![0] S1.size inb_S1_S1_0).toLoadRect xt1 (Shape.Idx.first (by decide))

/-- What the body leaves in the output block of point `i` when `w` tiles are in use. -/
def tileOut (i : grid0.Coords) (w : BitVec 32) (x0 : Vec F S256x2048 .f32) (x1 : Vec F S1x2048x256 .f32) (x2 : Vec F S1x2048x256 .f32) (x3 : Vec F S1x256x2048 .f32) :
    Vec F S256x2048 .f32 :=
  if k0_cond1 i w = 1#1 then k0_pay1 x0 x1 x2 x3 else k0_pay2

set_option maxHeartbeats 1000000 in
/-- The body on whole buffers holding the blocks `x0 … x3`: it leaves them, and the output's at `tileOut`. -/
theorem run_body (c : Dev nD) (i : grid0.Coords) (arg3 : Memref sig .tc .vmem S256x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x2048 .f32) (harg6 : arg6.IsWhole) (arg7 : Memref sig .tc .vmem S256x2048 .f32) (harg7 : arg7.IsWhole)
    (x0 : Vec F S256x2048 .f32) (x1 : Vec F S1x2048x256 .f32) (x2 : Vec F S1x2048x256 .f32) (x3 : Vec F S1x256x2048 .f32) (xt0 : TbBuf0 (F := F) c tbM0_0) (xt1 : TbBuf0 (F := F) c tbM0_1)
      (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare (tileOut i (word c xt1) x0 x1 x2 x3) ∗ tbPt0 c tbM0_0 xt0 ∗ tbPt0 c tbM0_1 xt1) -∗ K ⟨⟩))
          ⊢ wp frame (wpE (defs₀ (F := F)) Variants.none c none) E (cc0_moe_experts i tbM0_0 htbM0_0 tbM0_1 htbM0_1 arg3 harg3 arg4 harg4 arg5 harg5 arg6 harg6 arg7 harg7) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  obtain rfl := harg3.eq_unread hf0; obtain rfl := harg4.eq_unread hf1; obtain rfl := harg5.eq_unread hf2; obtain rfl := harg6.eq_unread hf3
  set_option sl_exec.stopBefore "k0_cond1" in sl_exec
  by_cases h1 : k0_cond1 i (run_body.sl.r c xt1) = 1#1
  · have h2 : ¬ k0_cond2 i (run_body.sl.r c xt1) = 1#1 := fun h => (cond2_iff _ _).mp h h1
    have e : tileOut i (word c xt1) x0 x1 x2 x3 = k0_pay1 x0 x1 x2 x3 := if_pos h1
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr
      swap; · iexact H4
      ipureintro
      rw [e]
      refine (View.read_writes_full _ _ inb_S256x2048_S256x2048_0_0 _ _).trans ?_
      rw [View.readAt_full _ _ inb_S256x2048_S256x2048_0_0, View.readAt_full _ _ inb_S1x2048x256_S1x2048x256_0_0_0,
        View.readAt_full _ _ inb_S1x2048x256_S1x2048x256_0_0_0, View.readAt_full _ _ inb_S1x256x2048_S1x256x2048_0_0_0,
        harg3.read_unread, harg4.read_unread, harg5.read_unread, harg6.read_unread]
    isplitl [HT0]; · iexact HT0
    iexact HT1
  · have h2 : k0_cond2 i (run_body.sl.r c xt1) = 1#1 := (cond2_iff _ _).mpr h1
    have e : tileOut i (word c xt1) x0 x1 x2 x3 = k0_pay2 := if_neg h1
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr
      swap; · iexact H4
      ipureintro
      rw [e]
      exact View.read_writes_full _ _ inb_S256x2048_S256x2048_0_0 _ _
    isplitl [HT0]; · iexact HT0
    iexact HT1

end Cert.ExpertsIdeal.Tiles

end
-- ==== Proof.ExpertsLaunch.lean ====
/- Follows the generated launch of a frame, with most of its text; what the output holds is by hand. The launch of the experts' kernel over its grid: every point leaves its block, so in the end the output array holds
   them and the arguments are unchanged. -/
module

public import proofs.«01_k».proof.Proof.ExpertsRun
public import Idealize.ShloMosaic.Lib.Claim

@[expose] public section

-- the blocks' long axes need deep recursion
set_option maxRecDepth 16384

noncomputable section

namespace Cert.ExpertsIdeal.Tiles
open Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## What the output holds after each point -/

/-- What the output's staging buffer holds after the body at point `t`. -/
def outsAt0 (hO : Ok m) (c : Dev nD) (t : Fin (cfgM m hO).N) : Vec F S256x2048 .f32 :=
  tileOut (grid0.coords t) (word c (tbl m 1)) (iblk m hO c 0 t) (iblk m hO c 1 t) (iblk m hO c 2 t) (iblk m hO c 3 t)

/-! ## The pipeline's proof data -/

/-- The arrays as the kernel finds them; after the body the inputs' buffers at their blocks and the output's at `outsAt0`; the tables
    kept throughout; nothing owed. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => (outsAt0 m hO c t)
  Φ _ := iprop(Pipeline.ΦA spec0 c ∗ Pipeline.ΦT pre0 (tbl m) c)
  q _ := fullShare
  owed _ := 0

/-- The arrays are those that the host operations leave. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = (outsAt0 m hO c t) := by dsimp only [dats]; try rfl

/-- Before the body each input's buffer holds its block. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-! ## The body at any point -/

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t))

/-- The body at any point: the inputs' buffers hold their blocks, so `run_body` applies; the rest passes through. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1⟩⟩, Ho, ⟨%d0, H0⟩, ⟨%d1, H1⟩, ⟨%d2, H2⟩, ⟨%d3, H3⟩, ⟨%d4, H4⟩⟩
  iapply (run_body c (grid0.coords t) _ _ _ _ _ _ _ _ _ _ (iblk m hO c 0 t) (iblk m hO c 1 t) (iblk m hO c 2 t) (iblk m hO c 3 t) (tbl m 0) (tbl m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- Whatever the number of tiles in use, the body stores into the output's buffer. -/
theorem live (i : grid0.Coords) (w : BitVec 32) : (!(k0_cond1 i w == 1#1) && !(k0_cond2 i w == 1#1)) = false := by
  by_cases h : k0_cond1 i w = 1#1
  · rw [h]; rfl
  · rw [(cond2_iff i w).mpr h]; exact Bool.and_false _

set_option maxHeartbeats 4000000 in
/-- So the output window is idle at no point. -/
theorem live4 (hO : Ok m) (i : grid0.Coords) : (cfgM m hO).idle 4 i = false := live i ((tbl m).atD 1 ![0])

/-- At every point the body leaves the output's buffer at `after`. -/
theorem left4 (hO : Ok m) (c : Dev nD) (t : Fin (cfgM m hO).N) :
    owns (c : Thread nD τ) (ms0_4 m hO t) fullShare ((dats m hO 0 c).after 4 t) ⊢ ((dats (F := F) m hO 0 c).leavesExact 4 t : sProp 𝕄) := by
  unfold Dat.leavesExact
  rw [live4]
  exact .rfl

/-- The pipeline calls this body. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 4000000 in
/-- What the library asks of the body. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ =>
    sep_mono .rfl (sep_mono .rfl (sep_mono .rfl (sep_mono .rfl (sep_mono .rfl (sep_mono .rfl (left4 m hO c t))))))

/-! ## The launch and the frame -/

set_option backward.isDefEq.respectTransparency.types false in
/-- The program ends with the arrays at what the points leave, and with every semaphore at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The arrays alone. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The frame, at words and at the extended reals alike, of tables that keep the blocks inside their arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.ExpertsIdeal.Tiles

end
-- ==== Proof.ExpertsTables.lean ====
/- Hand-written. The two tables that the experts' index maps read: the number of tiles in use, an argument, and each tile's expert, which the host
   takes from the argument where the tile is in use and from the last tile in use elsewhere. Under the precondition every block they name
   lies inside its array. -/
module

public import proofs.«01_k».proof.Proof.ExpertsKit
public import Idealize.ShloMosaic.Lib.StableHlo.Predicate
public import Idealize.ShloMosaic.Lib.StableHlo.Run

@[expose] public section

noncomputable section

namespace Cert.ExpertsIdeal.Tiles
open Cert.ExpertsIdeal.Gen

open Idealize.ShloMosaic Idealize.ShloMosaic.TcCoe Idealize.ShloMosaic.Tactic Idealize.SL.Sem
open Idealize.ShloMosaic.StableHlo.Predicate

variable {F : FTy → Type} [FloatOps F]

/-- The table of experts that the host makes from the tiles' experts `te` and the number of tiles in use `nt`; `z` is where it reads
    the last tile's expert. -/
def table (z : Fin 1 → Int) (te : IVec S160 32) (nt : IVec S1 32) : IVec S160 32 :=
  let last : IVec S1 32 := Host.dynamicSlice S1 te z sliceFits_S160_S1
  select (cmpi .slt (iotaInDim S160 32 0) (broadcastInDim S160 ![] bcast_S_S160 (shapeCast S_ nt shapeCasts_S1_S_))) te
    (broadcastInDim S160 ![0] bcast_S1_S160_0 last)

variable (m : (ℓ : Loc nD τ sig) → Buf (Elt F) ℓ)

theorem V_table (c : Dev nD) :
    ∃ z, V m c main_v11 = table z (m ((c : Thread nD τ).loc main_arg1)) (m ((c : Thread nD τ).loc main_arg2)) := by
  unfold V hostOps0
  after_results_simp
  exact ⟨_, rfl⟩

/-- The only index of a one-element table. -/
abbrev n0 : S1.Idx := Shape.Idx.first (by decide)

theorem table_word (z : Fin 1 → Int) (te : IVec S160 32) (nt : IVec S1 32) (j : S160.Idx) : ∃ k, table z te nt j = te k := by
  by_cases h : cmpi .slt (iotaInDim S160 32 0) (broadcastInDim S160 ![] bcast_S_S160 (shapeCast S_ nt shapeCasts_S1_S_)) j = 1#1
  · exact ⟨j, if_pos h⟩
  · exact ⟨_, if_neg h⟩

/-- A tile in use keeps its expert. -/
theorem table_used (z : Fin 1 → Int) (te : IVec S160 32) (nt : IVec S1 32) (j : S160.Idx) (h : IntOp.cmpi .slt (BitVec.ofNat 32 (j 0).val) (nt n0) = 1#1) :
    table z te nt j = te j := by
  have e : cmpi .slt (iotaInDim S160 32 0) (broadcastInDim S160 ![] bcast_S_S160 (shapeCast S_ nt shapeCasts_S1_S_)) j = 1#1 := by
    refine Eq.trans ?_ h
    show IntOp.cmpi .slt (BitVec.ofNat 32 (j 0).val) (nt _) = _
    exact congrArg (fun k => IntOp.cmpi .slt (BitVec.ofNat 32 (j 0).val) (nt k)) (funext fun a => by
      obtain rfl : a = 0 := Subsingleton.elim _ _
      exact Fin.ext (by have h1 := ((n0 : S1.Idx) 0).isLt; exact (Nat.lt_one_iff.mp (Fin.isLt _)).trans (Nat.lt_one_iff.mp h1).symm))
  exact if_pos e

/-- The precondition's range, as numbers: every tile's expert is one of the 32, and at least one tile is in use. -/
def InRange (te : IVec S160 32) (nt : IVec S1 32) : Prop := (∀ j, (te j).toNat < 32) ∧ 1 ≤ (nt n0).toInt

/-- The tile whose rows point `i` loads. -/
def rowTile (i : Nat) (n : BitVec 32) : BitVec 32 := Scalar.minsi (BitVec.ofNat 32 i) (Scalar.subi n 1#32)

theorem rowTile_eq (i : Nat) (hi : i < 160) (n : BitVec 32) (hn : 1 ≤ n.toInt) : (rowTile i n).toNat = min i (n.toNat - 1) := by
  have hn1 : n.toNat < 2 ^ 31 ∧ 1 ≤ n.toNat := by
    have := n.isLt
    rw [BitVec.toInt_eq_toNat_cond] at hn
    split at hn <;> omega
  have hs : (n - 1#32).toNat = n.toNat - 1 := by
    rw [BitVec.toNat_sub, show (1#32 : BitVec 32).toNat = 1 from rfl]; omega
  have hi' : (BitVec.ofNat 32 i).toNat = i := by rw [BitVec.toNat_ofNat]; omega
  have e : rowTile i n = if (BitVec.ofNat 32 i).toInt < (n - 1#32).toInt then BitVec.ofNat 32 i else n - 1#32 := by
    unfold rowTile Scalar.minsi Scalar.subi IntOp.minsi IntOp.subi
    rw [BitVec.slt_eq_decide]
    simp only [decide_eq_true_eq]
  have h1 : (BitVec.ofNat 32 i).toInt = i := by rw [toInt_eq_toNat_of_lt (by omega), hi']
  have h2 : (n - 1#32).toInt = (n.toNat - 1 : Nat) := by rw [toInt_eq_toNat_of_lt (by omega), hs]
  rw [e, h1, h2]
  split
  · rw [hi']; omega
  · rw [hs]; omega

/-- A tile in use loads its own rows. -/
theorem rowTile_used (i : Nat) (hi : i < 160) (n : BitVec 32) (hn : 1 ≤ n.toInt) (h : IntOp.cmpi .slt (BitVec.ofNat 32 i) n = 1#1) :
    (rowTile i n).toNat = i := by
  have hn1 : n.toNat < 2 ^ 31 ∧ 1 ≤ n.toNat := by
    have := n.isLt
    rw [BitVec.toInt_eq_toNat_cond] at hn
    split at hn <;> omega
  have hi' : (BitVec.ofNat 32 i).toNat = i := by rw [BitVec.toNat_ofNat]; omega
  have h3 := (slt_iff_toNat (a := BitVec.ofNat 32 i) (b := n) (by omega) hn1.1).mp h
  rw [rowTile_eq i hi n hn]; omega

theorem lt_grid (i : grid0.Coords) : (i 0).val < 160 := (i 0).isLt

variable (hR : ∀ c : Dev nD, InRange (m ((c : Thread nD τ).loc main_arg1)) (m ((c : Thread nD τ).loc main_arg2)))

/-- A one-element table is read at its only index. -/
theorem nt_at (x : IVec S1 32) (k : S1.Idx) : x k = x n0 := congrArg x (funext fun a => by
  obtain rfl : a = 0 := Subsingleton.elim _ _
  exact Fin.ext ((Nat.lt_one_iff.mp (k 0).isLt).trans (Nat.lt_one_iff.mp ((n0 : S1.Idx) 0).isLt).symm))

theorem tbl_nt : tbl m 1 = m (((0 : Dev nD) : Thread nD τ).loc main_arg2) := V_arg m 0 main_arg2 (by decide)
theorem tbl_te : ∃ z, tbl m 0 = table z (m (((0 : Dev nD) : Thread nD τ).loc main_arg1)) (m (((0 : Dev nD) : Thread nD τ).loc main_arg2)) :=
  V_table m 0

/-- A load of the table's element at `v` reads the entry there. -/
theorem te_at (x : IVec S160 32) (v : Nat) (h : ∀ a, (![v] : Fin 1 → Nat) a + S1.size a ≤ S160.size a) (k : S160.Idx)
    (hk : (k 0).val = v) (q : (Rect.unit (s := S160) ![v] S1.size h).shape.Idx) : x ((Rect.unit (s := S160) ![v] S1.size h).emb q) = x k :=
  congrArg x (funext fun a => by
    obtain rfl : a = 0 := Subsingleton.elim _ _
    refine Fin.ext ?_
    show v + 1 * (q 0).val = (k 0).val
    have : (q 0).val < 1 := (q 0).isLt
    omega)

/-- The place in the table of point `i`. -/
abbrev at160 (i : grid0.Coords) : S160.Idx := fun a => ⟨(i 0).val, by obtain rfl : a = 0 := Subsingleton.elim _ _; exact (i 0).isLt⟩

theorem map0 (i : grid0.Coords) : cc0_transform_0 inb_S1_S1_0 numel1_S1 (tbl m) i
    = ![(rowTile (i 0).val (m (((0 : Dev nD) : Thread nD τ).loc main_arg2) n0)).toNat, 0] := by
  have e : Pipeline.Prefetch.Contents.at (tbl m) 1 (Rect.unit (s := S1) ![0] S1.size inb_S1_S1_0) numel1_S1
      = m (((0 : Dev nD) : Thread nD τ).loc main_arg2) n0 :=
    (congrFun (tbl_nt m) _).trans (nt_at (m (((0 : Dev nD) : Thread nD τ).loc main_arg2)) _)
  unfold cc0_transform_0
  rw [e]; rfl

theorem word_lt (i : grid0.Coords) : (Scalar.indexCast (BitVec.ofNat 32 (i 0).val)).toNat = (i 0).val := by
  have h : (i 0).val < 160 := (i 0).isLt
  show (BitVec.ofNat 32 (i 0).val).toNat = _
  rw [BitVec.toNat_ofNat]; omega

theorem map1_of (pf : pre0.Contents (Elt F)) (i : grid0.Coords) :
    cc0_transform_1 k0_off1_inb numel1_S1 pf i = ![(pf 0 (at160 i) : BitVec 32).toNat, 0, 0] := by
  have e : Pipeline.Prefetch.Contents.at pf 0 (Rect.unit (s := S160) ![(Scalar.indexCast (BitVec.ofNat 32 (i 0).val)).toNat] S1.size (k0_off1_inb i)) numel1_S1
      = (pf 0 (at160 i) : BitVec 32) := te_at (pf 0) _ _ (at160 i) (word_lt i).symm _
  exact congrArg (fun w : BitVec 32 => (![w.toNat, 0, 0] : Fin 3 → Nat)) e

theorem map1 (i : grid0.Coords) : cc0_transform_1 k0_off1_inb numel1_S1 (tbl m) i = ![(tbl m 0 (at160 i) : BitVec 32).toNat, 0, 0] := map1_of _ i
theorem map2 (i : grid0.Coords) : cc0_transform_2 k0_off1_inb numel1_S1 (tbl m) i = ![(tbl m 0 (at160 i) : BitVec 32).toNat, 0, 0] := map1_of _ i
theorem map3 (i : grid0.Coords) : cc0_transform_3 k0_off1_inb numel1_S1 (tbl m) i = ![(tbl m 0 (at160 i) : BitVec 32).toNat, 0, 0] := map1_of _ i

theorem ok_of_range (hR : InRange (m (((0 : Dev nD) : Thread nD τ).loc main_arg1)) (m (((0 : Dev nD) : Thread nD τ).loc main_arg2))) : Ok m := by
  have ht : ∀ i : grid0.Coords, (tbl m 0 (at160 i) : BitVec 32).toNat < 32 := fun i => by
    obtain ⟨z, e⟩ := tbl_te m
    obtain ⟨k, ek⟩ := table_word z (m (((0 : Dev nD) : Thread nD τ).loc main_arg1)) (m (((0 : Dev nD) : Thread nD τ).loc main_arg2)) (at160 i)
    rw [congrFun e (at160 i), ek]; exact hR.1 k
  have hr : ∀ i : grid0.Coords, (rowTile (i 0).val (m (((0 : Dev nD) : Thread nD τ).loc main_arg2) n0)).toNat < 160 := fun i => by
    have h : (i 0).val < 160 := (i 0).isLt
    rw [rowTile_eq _ h _ hR.2]; omega
  unfold Ok ok0
  refine ⟨fun i => ⟨?_, Or.inl rfl⟩, fun i => ⟨?_, Or.inl rfl⟩, fun i => ⟨?_, Or.inl rfl⟩, fun i => ⟨?_, Or.inl rfl⟩⟩
  · rw [map0]; have := hr i
    intro a; fin_cases a
    · show ((rowTile (i 0).val (m (((0 : Dev nD) : Thread nD τ).loc main_arg2) n0)).toNat + 1) * 256 ≤ 40960; omega
    · show (0 + 1) * 2048 ≤ 2048; omega
  · rw [map1]; have := ht i
    intro a; fin_cases a
    · show ((tbl m 0 (at160 i) : BitVec 32).toNat + 1) * 1 ≤ 32; omega
    · show (0 + 1) * 2048 ≤ 2048; omega
    · show (0 + 1) * 256 ≤ 256; omega
  · rw [map2]; have := ht i
    intro a; fin_cases a
    · show ((tbl m 0 (at160 i) : BitVec 32).toNat + 1) * 1 ≤ 32; omega
    · show (0 + 1) * 2048 ≤ 2048; omega
    · show (0 + 1) * 256 ≤ 256; omega
  · rw [map3]; have := ht i
    intro a; fin_cases a
    · show ((tbl m 0 (at160 i) : BitVec 32).toNat + 1) * 1 ≤ 32; omega
    · show (0 + 1) * 256 ≤ 256; omega
    · show (0 + 1) * 2048 ≤ 2048; omega

end Cert.ExpertsIdeal.Tiles

end
-- ==== Proof.ExpertsFrames.lean ====
/- Hand-written. The claims that the two experts programs end, leave their arguments alone and leave no signal behind, under the
   precondition; and the reference's, which holds of every input. -/
module

public import proofs.«01_k».proof.Defs
public import proofs.«01_k».proof.Proof.Gen.Experts
public import proofs.«01_k».proof.Proof.Gen.Pre_tiles_in_range
public import proofs.«01_k».proof.Proof.Gen.ExpertsReferenceIdeal.Run
public import proofs.«01_k».proof.Proof.ExpertsLaunch
public import proofs.«01_k».proof.Proof.ExpertsTables
public import Idealize.ShloMosaic.Lib.Pipeline.Kit
public import Idealize.ShloMosaic.Lib.Claim

@[expose] public section

noncomputable section

namespace Cert.Proof.Experts

open Idealize.ShloMosaic Idealize.ShloMosaic.TcCoe Idealize.ShloMosaic.Tactic Idealize.SL.Sem

attribute [local instance] Cert.Experts.Gen.facts Cert.ExpertsIdeal.Gen.facts Cert.ExpertsReferenceIdeal.Gen.facts Cert.Pre_tiles_in_range.Gen.facts

variable {F : FTy → Type} [FloatOps F]

theorem andi_one (a b : BitVec 1) : IntOp.andi a b = 1#1 ↔ a = 1#1 ∧ b = 1#1 := by revert a b; decide

theorem bit_one (b : Bool) : BitVec.ofBool b = 1#1 ↔ b = true := by cases b <;> decide

theorem small (w : BitVec 32) (h1 : IntOp.cmpi .sge w 0#32 = 1#1) (h2 : IntOp.cmpi .sle w 31#32 = 1#1) : w.toNat < 32 := by
  simp only [IntOp.cmpi, bit_one, BitVec.sle_eq_decide, decide_eq_true_eq, show (0#32 : BitVec 32).toInt = 0 from rfl,
    show (31#32 : BitVec 32).toInt = 31 from rfl] at h1 h2
  have := w.isLt
  rw [BitVec.toInt_eq_toNat_cond] at h1 h2
  split at h1 <;> split at h2 <;> omega

theorem atLeast (w : BitVec 32) (h : IntOp.cmpi .sge w 1#32 = 1#1) : 1 ≤ w.toInt := by
  simpa only [IntOp.cmpi, bit_one, BitVec.sle_eq_decide, decide_eq_true_eq, show (1#32 : BitVec 32).toInt = 1 from rfl] using h

open Cert.Pre_tiles_in_range in
/-- The precondition, decoded. -/
theorem range_of_pre (x : FVec F S40960x2048 .f32) (te : IVec S160 32) (nt : IVec S1 32) (g u : FVec F S32x2048x256 .f32) (d : FVec F S32x256x2048 .f32)
    (h : (fn x te nt g u d).1 = (fun _ => 1#1) ∧ (fn x te nt g u d).2 = fun _ => 1#1) : Cert.ExpertsIdeal.Tiles.InRange te nt := by
  refine ⟨fun j => ?_, ?_⟩
  · have p := (andi_one _ _).mp (congrFun h.1 j)
    exact small _ p.1 p.2
  · exact atLeast _ (congrFun h.2 Cert.ExpertsIdeal.Tiles.n0)

set_option maxRecDepth 65536 in
theorem main_same : Cert.Experts.main (F := F) = Cert.ExpertsIdeal.main (F := F) := by sl_kernel_rfl

set_option maxRecDepth 65536 in
theorem defs_same : Cert.Experts.defs (F := F) = Cert.ExpertsIdeal.defs (F := F) := by sl_kernel_rfl

theorem ideal_frame : Cert.quiescent_ExpertsIdeal := fun m ρ h =>
  Cert.ExpertsIdeal.Tiles.frame m ρ (Cert.ExpertsIdeal.Tiles.ok_of_range m (range_of_pre _ _ _ _ _ _ (h 0)))

theorem bits_frame : Cert.quiescent_Experts := fun m ρ h => by
  have e := Cert.ExpertsIdeal.Tiles.frame (F := Bits) m ρ (Cert.ExpertsIdeal.Tiles.ok_of_range m (range_of_pre _ _ _ _ _ _ (h 0)))
  rw [← main_same, ← defs_same] at e
  exact e

theorem host_frame : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run (F := Ideal) m ρ)

theorem host_frame_pre : Cert.quiescent_ExpertsReferenceIdeal_pre_tiles_in_range := fun m ρ _ => host_frame m ρ trivial

end Cert.Proof.Experts

end
-- ==== Proof.ExpertsSpec.lean ====
/- Hand-written. The experts as formulas in the extended reals: each tile of 256 rows goes through one expert, a gated
   two-layer network; the rows of the tiles not in use are zero. -/
module

public import Idealize.ShloMosaic.Lib.Pointwise

@[expose] public section

noncomputable section

namespace Cert.Proof.Experts

open Idealize.ShloMosaic

abbrev Rows : Shape := ⟨2, ![40960, 2048]⟩
abbrev WIn : Shape := ⟨3, ![32, 2048, 256]⟩
abbrev WOut : Shape := ⟨3, ![32, 256, 2048]⟩
abbrev Tiles : Shape := ⟨1, ![160]⟩
abbrev One : Shape := ⟨1, ![1]⟩

/-- The gate's half of a hidden unit: `g` times its logistic. -/
def silu (g : EReal) : EReal := g * Ideal.logistic g

/-- A hidden unit of one row, from the row, and the unit's columns of the two input matrices. -/
def unit (x g u : Fin 2048 → EReal) : EReal := silu (∑ k, x k * g k) * ∑ k, x k * u k

/-- One row through one expert. -/
def through (x : Fin 2048 → EReal) (g u : Fin 2048 → Fin 256 → EReal) (d : Fin 256 → Fin 2048 → EReal) (n : Fin 2048) : EReal :=
  ∑ f, unit x (fun k => g k f) (fun k => u k f) * d f n

/-- Row `R` through expert `e`. -/
def rowThrough (x : Rows.Idx → EReal) (wg wu : WIn.Idx → EReal) (wd : WOut.Idx → EReal) (R : Fin 40960) (e : Fin 32) (n : Fin 2048) : EReal :=
  through (fun k => x (ix2 R k)) (fun k f => wg (ix3 e k f)) (fun k f => wu (ix3 e k f)) (fun f n => wd (ix3 e f n)) n

/-- The number that a word names, among the 32. -/
def expert (w : BitVec 32) : Fin 32 := ⟨w.toNat % 32, Nat.mod_lt _ (by decide)⟩

/-- The tile of a row. -/
def tile (R : Fin 40960) : Fin 160 := ⟨R.val / 256, by omega⟩

/-- Whether tile `i` is in use, of `n`. -/
abbrev used (i : Nat) (n : BitVec 32) : Prop := IntOp.cmpi .slt (BitVec.ofNat 32 i) n = 1#1

/-- The rows after the experts. -/
def spec (x : Rows.Idx → EReal) (te : Tiles.Idx → BitVec 32) (nt : BitVec 32) (wg wu : WIn.Idx → EReal) (wd : WOut.Idx → EReal) : Rows.Idx → EReal :=
  fun i => if used (tile (i 0)).val nt then rowThrough x wg wu wd (i 0) (expert (te (ix1 (tile (i 0))))) (i 1) else 0

end Cert.Proof.Experts

end
-- ==== Proof.ExpertsTile.lean ====
/- Hand-written. What the experts' body leaves for one tile in use, read at an index: the tile's rows through its expert. -/
module

public import proofs.«01_k».proof.Proof.ExpertsRun
public import proofs.«01_k».proof.Proof.ExpertsSpec
public import Idealize.ShloMosaic.Lib.Pointwise

@[expose] public section

noncomputable section

namespace Cert.Proof.Experts

open Cert.ExpertsIdeal Cert.ExpertsIdeal.Gen Idealize.ShloMosaic Idealize.ShloMosaic.TcCoe

theorem pay_apply (x0 : Vec Ideal S256x2048 .f32) (x1 x2 : Vec Ideal S1x2048x256 .f32) (x3 : Vec Ideal S1x256x2048 .f32) (r : Fin 256) (n : Fin 2048) :
    k0_pay1 x0 x1 x2 x3 (ix2 r n) = through (fun k => x0 (ix2 r k)) (fun k f => x1 (ix3 0 k f)) (fun k f => x2 (ix3 0 k f)) (fun f n => x3 (ix3 0 f n)) n := by
  pointwise [k0_pay1, through, unit, silu]

theorem pay_zero (y : S256x2048.Idx) : k0_pay2 (F := Ideal) y = (0 : EReal) := by
  pointwise [k0_pay2]

end Cert.Proof.Experts

end
-- ==== Proof.ExpertsArray.lean ====
/- Hand-written. The array that the experts leave, as `ExpertsSpec` of their arguments. -/
module

public import proofs.«01_k».proof.Proof.ExpertsTile
public import proofs.«01_k».proof.Proof.ExpertsLaunch
public import proofs.«01_k».proof.Proof.ExpertsTables

@[expose] public section

noncomputable section

namespace Cert.Proof.Experts

open Cert.ExpertsIdeal Cert.ExpertsIdeal.Gen Cert.ExpertsIdeal.Tiles Idealize.ShloMosaic Idealize.ShloMosaic.TcCoe Idealize.SL.Sem

/-- The body's first condition is that the tile is in use. -/
theorem cond_iff (i : grid0.Coords) (w : BitVec 32) : k0_cond1 i w = 1#1 ↔ used (i 0).val w := by
  unfold k0_cond1 used
  dsimp only
  show _ ↔ Scalar.cmpi .slt (BitVec.ofNat 32 (i 0).val) w = 1#1
  generalize Scalar.cmpi .slt (BitVec.ofNat 32 (i 0).val) w = b
  revert b; decide

/-! ## Where a block's places lie in its array -/

section Places

variable (a : (pcfg0 (F := Ideal)).Adm) (t : Fin (cfg0 a).N)

/-- Where each window's place `y` lies in its array at point `t`. -/
abbrev at0 (y : S256x2048.Idx) : S40960x2048.Idx := (((cfg0 a).win 0).blk t).view.emb y
abbrev at1 (y : S1x2048x256.Idx) : S32x2048x256.Idx := (((cfg0 a).win 1).blk t).view.emb y
abbrev at2 (y : S1x2048x256.Idx) : S32x2048x256.Idx := (((cfg0 a).win 2).blk t).view.emb y
abbrev at3 (y : S1x256x2048.Idx) : S32x256x2048.Idx := (((cfg0 a).win 3).blk t).view.emb y
abbrev at4 (y : S256x2048.Idx) : S40960x2048.Idx := (((cfg0 a).win 4).blk t).view.emb y

theorem place0 (y : S256x2048.Idx) : (at0 a t y 0).val = cc0_transform_0 inb_S1_S1_0 numel1_S1 a.1 (grid0.coords t) 0 * 256 + 1 * (y 0).val
    ∧ (at0 a t y 1).val = cc0_transform_0 inb_S1_S1_0 numel1_S1 a.1 (grid0.coords t) 1 * 2048 + 1 * (y 1).val := ⟨rfl, rfl⟩

theorem place1 (y : S1x2048x256.Idx) : (at1 a t y 0).val = cc0_transform_1 k0_off1_inb numel1_S1 a.1 (grid0.coords t) 0 * 1 + 1 * (y 0).val
    ∧ (at1 a t y 1).val = cc0_transform_1 k0_off1_inb numel1_S1 a.1 (grid0.coords t) 1 * 2048 + 1 * (y 1).val
    ∧ (at1 a t y 2).val = cc0_transform_1 k0_off1_inb numel1_S1 a.1 (grid0.coords t) 2 * 256 + 1 * (y 2).val := ⟨rfl, rfl, rfl⟩

theorem place2 (y : S1x2048x256.Idx) : (at2 a t y 0).val = cc0_transform_2 k0_off1_inb numel1_S1 a.1 (grid0.coords t) 0 * 1 + 1 * (y 0).val
    ∧ (at2 a t y 1).val = cc0_transform_2 k0_off1_inb numel1_S1 a.1 (grid0.coords t) 1 * 2048 + 1 * (y 1).val
    ∧ (at2 a t y 2).val = cc0_transform_2 k0_off1_inb numel1_S1 a.1 (grid0.coords t) 2 * 256 + 1 * (y 2).val := ⟨rfl, rfl, rfl⟩

theorem place3 (y : S1x256x2048.Idx) : (at3 a t y 0).val = cc0_transform_3 k0_off1_inb numel1_S1 a.1 (grid0.coords t) 0 * 1 + 1 * (y 0).val
    ∧ (at3 a t y 1).val = cc0_transform_3 k0_off1_inb numel1_S1 a.1 (grid0.coords t) 1 * 256 + 1 * (y 1).val
    ∧ (at3 a t y 2).val = cc0_transform_3 k0_off1_inb numel1_S1 a.1 (grid0.coords t) 2 * 2048 + 1 * (y 2).val := ⟨rfl, rfl, rfl⟩

theorem place4 (y : S256x2048.Idx) : (at4 a t y 0).val = (BitVec.ofNat 32 (grid0.coords t 0).val).toNat * 256 + 1 * (y 0).val
    ∧ (at4 a t y 1).val = (0#32 : BitVec 32).toNat * 2048 + 1 * (y 1).val := ⟨rfl, rfl⟩

end Places

/-! ## What the body leaves at a point -/

theorem coords_eq : ∀ t : Fin grid0.N, (grid0.coords t 0).val = t.val := by decide +kernel

variable (m : (ℓ : Loc nD τ sig) → Buf (Elt Ideal) ℓ) (ρ : Dev nD → PrngReg) (hO : Ok m) (c : Dev nD)

/-- The arguments on device `c`. -/
abbrev aX : Rows.Idx → EReal := m ((c : Thread nD τ).loc main_arg0)
abbrev aT : IVec S160 32 := m ((c : Thread nD τ).loc main_arg1)
abbrev aN : IVec S1 32 := m ((c : Thread nD τ).loc main_arg2)
abbrev aG : WIn.Idx → EReal := m ((c : Thread nD τ).loc main_arg3)
abbrev aU : WIn.Idx → EReal := m ((c : Thread nD τ).loc main_arg4)
abbrev aD : WOut.Idx → EReal := m ((c : Thread nD τ).loc main_arg5)

/-- The experts of the arguments. -/
abbrev out : Rows.Idx → EReal := spec (aX m c) (aT m c) (aN m c n0) (aG m c) (aU m c) (aD m c)

variable (hR : InRange (aT m 0) (aN m 0)) (t : Fin (cfgM m hO).N)

/-- The tile of point `t`, and its expert. -/
abbrev ti : Fin 160 := ⟨(grid0.coords t 0).val, (grid0.coords t 0).isLt⟩

section Used

variable (hu : used (grid0.coords t 0).val (aN m 0 n0))

include hR hu

theorem row_map : cc0_transform_0 inb_S1_S1_0 numel1_S1 (tbl m) (grid0.coords t) 0 = (grid0.coords t 0).val :=
  (congrFun (map0 m (grid0.coords t)) 0).trans (rowTile_used _ (lt_grid _) _ hR.2 hu)

theorem word_eq : (tbl m 0 (at160 (grid0.coords t)) : BitVec 32) = aT m 0 (ix1 (ti m hO t)) := by
  obtain ⟨z, e⟩ := tbl_te m
  refine (congrFun e _).trans ((table_used z (aT m 0) (aN m 0) (at160 (grid0.coords t)) hu).trans (congrArg (aT m 0) ?_))
  funext a; obtain rfl : a = 0 := Subsingleton.elim _ _; rfl

theorem word_val : (tbl m 0 (at160 (grid0.coords t)) : BitVec 32).toNat = (expert (aT m 0 (ix1 (ti m hO t)))).val := by
  rw [word_eq m hO hR t hu]
  exact (Nat.mod_eq_of_lt (hR.1 _)).symm

theorem blk0 (r : Fin 256) (k : Fin 2048) (R : Fin 40960) (hr : R.val = (grid0.coords t 0).val * 256 + r.val) :
    iblk m hO 0 0 t (ix2 r k) = aX m 0 (ix2 R k) := by
  obtain ⟨p0, p1⟩ := place0 (adm m hO) t (ix2 r k)
  have e := row_map m hO hR t hu
  refine (congrFun (V_arg m 0 main_arg0 (by decide)) (at0 (adm m hO) t (ix2 r k))).trans (congrArg (aX m 0) ?_)
  funext a; apply Fin.ext
  match a with
  | ⟨0, _⟩ => refine p0.trans ?_; show cc0_transform_0 inb_S1_S1_0 numel1_S1 (tbl m) (grid0.coords t) 0 * 256 + 1 * r.val = R.val; omega
  | ⟨1, _⟩ => refine p1.trans ?_; show 0 * 2048 + 1 * k.val = k.val; omega

theorem blk1 (k : Fin 2048) (f : Fin 256) : iblk m hO 0 1 t (ix3 0 k f) = aG m 0 (ix3 (expert (aT m 0 (ix1 (ti m hO t)))) k f) := by
  obtain ⟨p0, p1, p2⟩ := place1 (adm m hO) t (ix3 0 k f)
  have e := (congrFun (map1 m (grid0.coords t)) 0).trans (word_val m hO hR t hu)
  refine (congrFun (V_arg m 0 main_arg3 (by decide)) (at1 (adm m hO) t (ix3 0 k f))).trans (congrArg (aG m 0) ?_)
  funext a; apply Fin.ext
  match a with
  | ⟨0, _⟩ => refine p0.trans ?_; show cc0_transform_1 k0_off1_inb numel1_S1 (tbl m) (grid0.coords t) 0 * 1 + 1 * 0 = _; rw [e]; exact (Nat.add_zero _).trans (Nat.mul_one _)
  | ⟨1, _⟩ => refine p1.trans ?_; show 0 * 2048 + 1 * k.val = k.val; omega
  | ⟨2, _⟩ => refine p2.trans ?_; show 0 * 256 + 1 * f.val = f.val; omega

theorem blk2 (k : Fin 2048) (f : Fin 256) : iblk m hO 0 2 t (ix3 0 k f) = aU m 0 (ix3 (expert (aT m 0 (ix1 (ti m hO t)))) k f) := by
  obtain ⟨p0, p1, p2⟩ := place2 (adm m hO) t (ix3 0 k f)
  have e := (congrFun (map2 m (grid0.coords t)) 0).trans (word_val m hO hR t hu)
  refine (congrFun (V_arg m 0 main_arg4 (by decide)) (at2 (adm m hO) t (ix3 0 k f))).trans (congrArg (aU m 0) ?_)
  funext a; apply Fin.ext
  match a with
  | ⟨0, _⟩ => refine p0.trans ?_; show cc0_transform_2 k0_off1_inb numel1_S1 (tbl m) (grid0.coords t) 0 * 1 + 1 * 0 = _; rw [e]; exact (Nat.add_zero _).trans (Nat.mul_one _)
  | ⟨1, _⟩ => refine p1.trans ?_; show 0 * 2048 + 1 * k.val = k.val; omega
  | ⟨2, _⟩ => refine p2.trans ?_; show 0 * 256 + 1 * f.val = f.val; omega

theorem blk3 (f : Fin 256) (n : Fin 2048) : iblk m hO 0 3 t (ix3 0 f n) = aD m 0 (ix3 (expert (aT m 0 (ix1 (ti m hO t)))) f n) := by
  obtain ⟨p0, p1, p2⟩ := place3 (adm m hO) t (ix3 0 f n)
  have e := (congrFun (map3 m (grid0.coords t)) 0).trans (word_val m hO hR t hu)
  refine (congrFun (V_arg m 0 main_arg5 (by decide)) (at3 (adm m hO) t (ix3 0 f n))).trans (congrArg (aD m 0) ?_)
  funext a; apply Fin.ext
  match a with
  | ⟨0, _⟩ => refine p0.trans ?_; show cc0_transform_3 k0_off1_inb numel1_S1 (tbl m) (grid0.coords t) 0 * 1 + 1 * 0 = _; rw [e]; exact (Nat.add_zero _).trans (Nat.mul_one _)
  | ⟨1, _⟩ => refine p1.trans ?_; show 0 * 256 + 1 * f.val = f.val; omega
  | ⟨2, _⟩ => refine p2.trans ?_; show 0 * 2048 + 1 * n.val = n.val; omega

end Used

theorem word_nt : word (F := Ideal) 0 (tbl m 1) = aN m 0 n0 :=
  (congrFun (tbl_nt m) _).trans (nt_at (aN m 0) _)

include hR in
theorem outs_eq (r : Fin 256) (n : Fin 2048) (R : Fin 40960) (hr : R.val = (grid0.coords t 0).val * 256 + r.val) :
    outsAt0 m hO 0 t (ix2 r n) = out m 0 (ix2 R n) := by
  have hT : tile R = ti m hO t := Fin.ext (by show R.val / 256 = (grid0.coords t 0).val; omega)
  show (tileOut (grid0.coords t) (word (F := Ideal) 0 (tbl m 1)) (iblk m hO 0 0 t) (iblk m hO 0 1 t) (iblk m hO 0 2 t) (iblk m hO 0 3 t) : S256x2048.Idx → EReal) (ix2 r n)
    = if used (tile R).val (aN m 0 n0) then rowThrough (aX m 0) (aG m 0) (aU m 0) (aD m 0) R (expert (aT m 0 (ix1 (tile R)))) n else 0
  rw [word_nt, hT]
  unfold tileOut
  by_cases hu : used (grid0.coords t 0).val (aN m 0 n0)
  · rw [if_pos ((cond_iff _ _).mpr hu), if_pos hu]
    have e0 : (fun k : Fin 2048 => (iblk m hO 0 0 t (ix2 r k) : EReal)) = fun k => aX m 0 (ix2 R k) := funext fun k => blk0 m hO hR t hu r k R hr
    have e1 : (fun (k : Fin 2048) (f : Fin 256) => (iblk m hO 0 1 t (ix3 0 k f) : EReal)) = fun k f => aG m 0 (ix3 (expert (aT m 0 (ix1 (ti m hO t)))) k f) :=
      funext fun k => funext fun f => blk1 m hO hR t hu k f
    have e2 : (fun (k : Fin 2048) (f : Fin 256) => (iblk m hO 0 2 t (ix3 0 k f) : EReal)) = fun k f => aU m 0 (ix3 (expert (aT m 0 (ix1 (ti m hO t)))) k f) :=
      funext fun k => funext fun f => blk2 m hO hR t hu k f
    have e3 : (fun (f : Fin 256) (n : Fin 2048) => (iblk m hO 0 3 t (ix3 0 f n) : EReal)) = fun f n => aD m 0 (ix3 (expert (aT m 0 (ix1 (ti m hO t)))) f n) :=
      funext fun f => funext fun n => blk3 m hO hR t hu f n
    refine (pay_apply _ _ _ _ r n).trans ?_
    exact congrFun (congr (congr (congr (congrArg through e0) e1) e2) e3) n
  · rw [if_neg (fun h => hu ((cond_iff _ _).mp h)), if_neg hu, pay_zero]

/-! ## The array -/

theorem flushed_at : (dats m hO 0 c).flushed 4 t = outsAt0 m hO c t := by
  show ((cfgM m hO).win 4).cut (grid0.coords t) ((dats m hO 0 c).after 4 t) = _
  rw [after0_4]; rfl

include hR in
theorem flushed_eq : (dats m hO 0 0).flushed 4 t = (((cfgM m hO).win 4).blk t).view.read (Elt Ideal) (out m 0) := by
  rw [flushed_at]
  funext y
  obtain ⟨r, n, rfl⟩ : ∃ (r : Fin 256) (n : Fin 2048), y = ix2 r n := ⟨y 0, y 1, funext fun a => by fin_cases a <;> rfl⟩
  obtain ⟨p0, p1⟩ := place4 (adm m hO) t (ix2 r n)
  have hl := lt_grid (grid0.coords t)
  have q0 : (BitVec.ofNat 32 (grid0.coords t 0).val).toNat = (grid0.coords t 0).val := by rw [BitVec.toNat_ofNat]; omega
  refine (outs_eq m hO hR t r n ⟨(grid0.coords t 0).val * 256 + r.val, by omega⟩ rfl).trans (congrArg (out m 0) (?_ : _ = at4 (adm m hO) t (ix2 r n)))
  funext a; apply Fin.ext
  match a with
  | ⟨0, _⟩ => refine Eq.trans ?_ p0.symm; rw [q0]; show (grid0.coords t 0).val * 256 + r.val = (grid0.coords t 0).val * 256 + 1 * r.val; omega
  | ⟨1, _⟩ => refine Eq.trans ?_ p1.symm; show n.val = 0 * 2048 + 1 * n.val; omega

theorem covered (i : S40960x2048.Idx) : ∃ t : Fin (cfgM m hO).N, ((cfgM m hO).win 4).flush t = true ∧ i ∈ (((cfgM m hO).win 4).blk t).view.set := by
  have l0 : (i 0).val < 40960 := (i 0).isLt
  let t : Fin (cfgM m hO).N := (⟨(i 0).val / 256, (by show _ < 160; omega)⟩ : Fin 160)
  refine ⟨t, flush0_4 _ t, ?_⟩
  have ht : (grid0.coords t 0).val = (i 0).val / 256 := coords_eq t
  let y : S256x2048.Idx := ix2 ⟨(i 0).val % 256, by omega⟩ (i 1)
  have hm := (((cfgM m hO).win 4).blk t).view.emb_mem_set y
  obtain ⟨p0, p1⟩ := place4 (adm m hO) t y
  have he : at4 (adm m hO) t y = i := by
    funext a; apply Fin.ext
    match a with
    | ⟨0, _⟩ => refine p0.trans ?_; rw [ht, BitVec.toNat_ofNat]; show _ + 1 * ((i 0).val % 256) = (i 0).val; omega
    | ⟨1, _⟩ => refine p1.trans ?_; show 0 * 2048 + 1 * (i 1).val = (i 1).val; omega
  have h2 : at4 (adm m hO) t y ∈ (((cfgM m hO).win 4).blk t).view.set := hm
  rwa [he] at h2

include hR in
/-- The array after the run. -/
theorem final : (dats m hO 0 0).arrAt 4 (cfgM m hO).N = out m 0 :=
  (dats m hO 0 0).arrAt_eq_of_cover 4 (out m 0) (fun t _ => flushed_eq m hO hR t) (covered m hO)

include hO hR in
/-- The experts' run, its result the experts of its arguments. -/
theorem run : θ_run defs (onTc (τ := τ) (main (F := Ideal))) ⟨m, fun _ => 0, ρ⟩ fun r => ∀ c : Dev nD,
      r.2.mem ((c : Thread nD τ).loc main_v12) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => by
      obtain rfl : c = 0 := Subsingleton.elim _ _
      exact ⟨((h.1 0).1 4).trans (final m hO hR), h.2 0⟩)
    (θ_run_and (run_main m ρ hO) (unchanged m ρ hO))

end Cert.Proof.Experts

end
-- ==== Proof.ExpertsStages.lean ====
/- Hand-written. The reference's experts in its own stages, one group of eight experts at a time. -/
module

public import proofs.«01_k».proof.Proof.Gen.ExpertsReferenceIdeal.Run
public import proofs.«01_k».proof.Proof.ExpertsSpec

@[expose] public section

noncomputable section

namespace Cert.Proof.Experts

open Cert.ExpertsReferenceIdeal Cert.ExpertsReferenceIdeal.Gen Idealize.ShloMosaic Idealize.ShloMosaic.TcCoe

/-- Each row's expert, −1 where its tile is not in use. -/
def rowWord (te : IVec S160 32) (nt : IVec S1 32) : IVec S40960 32 :=
  shapeCast _ (broadcastInDim S160x256 ![0, 1] bcast_S160x1_S160x256_0_1 (broadcastInDim S160x1 ![0] bcast_S160_S160x1_0
    (select (cmpi .slt (iotaInDim S160 32 0) (broadcastInDim S160 ![0] bcast_S1_S160_0 nt)) te
      (broadcastInDim S160 ![] bcast_S_S160 (id (constantI S_ 32 4294967295#32)))))) shapeCasts_S160x256_S40960

/-- 1 where a row's expert is the group's, 0 elsewhere. -/
def own (o : Nat) (h : S32.Slices ![o] S8) (w : IVec S40960 32) : FVec Ideal S40960x8 .f32 :=
  uitofp .f32 (cmpi .eq (broadcastInDim S40960x8 ![0, 1] bcast_S40960x1_S40960x8_0_1 (broadcastInDim S40960x1 ![0] bcast_S40960_S40960x1_0 w))
    (broadcastInDim S40960x8 ![0, 1] bcast_S1x8_S40960x8_0_1 (broadcastInDim S1x8 ![1] bcast_S8_S1x8_1
      (extractStridedSlice S8 ![o] (iotaInDim S32 32 0) h))))

/-- Every row times the group's input matrices. -/
def lin (o : Nat) (h : S32x2048x256.Slices ![o, 0, 0] S8x2048x256) (x : FVec Ideal S40960x2048 .f32) (w : FVec Ideal S32x2048x256 .f32) :
    FVec Ideal S40960x8x256 .f32 :=
  Host.dotGeneral dot_S40960x2048_S8x2048x256_S40960x8x256_1_1_0_02_n_n none x (extractStridedSlice S8x2048x256 ![o, 0, 0] w h)

/-- The gate's value times its logistic. -/
def gated (g : FVec Ideal S40960x8x256 .f32) : FVec Ideal S40960x8x256 .f32 :=
  mulf g (Host.divf (broadcastInDim S40960x8x256 ![] bcast_S_S40960x8x256 (constant S_ .f32 0x3F800000#32))
    (addf (broadcastInDim S40960x8x256 ![] bcast_S_S40960x8x256 (constant S_ .f32 0x3F800000#32)) (Host.exp (Host.negf g))))

/-- The hidden units of each row's own expert, those of the others times zero. -/
def masked (a : FVec Ideal S40960x8x256 .f32) (w : FVec Ideal S40960x8 .f32) : FVec Ideal S40960x8x256 .f32 :=
  mulf a (broadcastInDim S40960x8x256 ![0, 1, 2] bcast_S40960x8x1_S40960x8x256_0_1_2 (broadcastInDim S40960x8x1 ![0, 1] bcast_S40960x8_S40960x8x1_0_1 w))

/-- The hidden units times the group's output matrices, summed over the group. -/
def back (o : Nat) (h : S32x256x2048.Slices ![o, 0, 0] S8x256x2048) (a : FVec Ideal S40960x8x256 .f32) (w : FVec Ideal S32x256x2048 .f32) :
    FVec Ideal S40960x2048 .f32 :=
  Host.dotGeneral dot_S40960x8x256_S8x256x2048_S40960x2048_12_01_0_2_n_n none a (extractStridedSlice S8x256x2048 ![o, 0, 0] w h)

/-- One group's part of the result. -/
def group (o : Nat) (h1 : S32.Slices ![o] S8) (h2 : S32x2048x256.Slices ![o, 0, 0] S8x2048x256) (h3 : S32x256x2048.Slices ![o, 0, 0] S8x256x2048)
    (x : FVec Ideal S40960x2048 .f32) (w : IVec S40960 32) (wg wu : FVec Ideal S32x2048x256 .f32) (wd : FVec Ideal S32x256x2048 .f32) :
    FVec Ideal S40960x2048 .f32 :=
  back o h3 (masked (mulf (gated (lin o h2 x wg)) (lin o h2 x wu)) (own o h1 w)) wd

/-- The four groups' parts, added to zero. -/
def total (x : FVec Ideal S40960x2048 .f32) (w : IVec S40960 32) (wg wu : FVec Ideal S32x2048x256 .f32) (wd : FVec Ideal S32x256x2048 .f32) :
    FVec Ideal S40960x2048 .f32 :=
  addf (addf (addf (addf (broadcastInDim S40960x2048 ![] bcast_S_S40960x2048 (constant S_ .f32 0x00000000#32))
    (group 0 slices_S32_S8_0 slices_S32x2048x256_S8x2048x256_0_0_0 slices_S32x256x2048_S8x256x2048_0_0_0 x w wg wu wd))
    (group 8 slices_S32_S8_8 slices_S32x2048x256_S8x2048x256_8_0_0 slices_S32x256x2048_S8x256x2048_8_0_0 x w wg wu wd))
    (group 16 slices_S32_S8_16 slices_S32x2048x256_S8x2048x256_16_0_0 slices_S32x256x2048_S8x256x2048_16_0_0 x w wg wu wd))
    (group 24 slices_S32_S8_24 slices_S32x2048x256_S8x2048x256_24_0_0 slices_S32x256x2048_S8x256x2048_24_0_0 x w wg wu wd)

variable (m : (ℓ : Loc nD τ sig) → Buf (Elt Ideal) ℓ)

theorem res_total (c : Dev nD) : Value.res_main_v87 (F := Ideal) m c
    = total (m ((c : Thread nD τ).loc main_arg0)) (rowWord (m ((c : Thread nD τ).loc main_arg1)) (m ((c : Thread nD τ).loc main_arg2)))
        (m ((c : Thread nD τ).loc main_arg3)) (m ((c : Thread nD τ).loc main_arg4)) (m ((c : Thread nD τ).loc main_arg5)) := by
  unfold Value.res_main_v87 total group back masked gated lin own rowWord
  rfl

end Cert.Proof.Experts

end
-- ==== Proof.ExpertsReads.lean ====
/- Hand-written. The stages of the reference's experts, read at an index. -/
module

public import proofs.«01_k».proof.Proof.ExpertsStages
public import Idealize.ShloMosaic.Lib.Pointwise

@[expose] public section

noncomputable section

namespace Cert.Proof.Experts

open Cert.ExpertsReferenceIdeal Cert.ExpertsReferenceIdeal.Gen Idealize.ShloMosaic Idealize.ShloMosaic.TcCoe

/-- Expert `e` of the group that starts at `o`. -/
abbrev ge (o : Nat) (ho : o + 8 ≤ 32) (e : Fin 8) : Fin 32 := ⟨o + e.val, by omega⟩

theorem lin_apply (o : Nat) (ho : o + 8 ≤ 32) (h : S32x2048x256.Slices ![o, 0, 0] S8x2048x256) (x : FVec Ideal S40960x2048 .f32)
    (w : FVec Ideal S32x2048x256 .f32) (R : Fin 40960) (e : Fin 8) (f : Fin 256) :
    lin o h x w (ix3 R e f) = ∑ k : Fin 2048, x (ix2 R k) * w (ix3 (ge o ho e) k f) := by
  pointwise [lin]

theorem gated_apply (g : FVec Ideal S40960x8x256 .f32) (i : S40960x8x256.Idx) : gated g i = silu (g i) := by
  pointwise [gated, silu, Ideal.logistic]

theorem masked_apply (a : FVec Ideal S40960x8x256 .f32) (w : FVec Ideal S40960x8 .f32) (R : Fin 40960) (e : Fin 8) (f : Fin 256) :
    masked a w (ix3 R e f) = a (ix3 R e f) * w (ix2 R e) := by
  pointwise [masked]

theorem one_word : FloatOps.uitofp (F := Ideal) .f32 1#1 = 1 := by
  show (((1#1 : BitVec 1).toNat : ℝ) : EReal) = 1
  simp

theorem zero_word : FloatOps.uitofp (F := Ideal) .f32 0#1 = 0 := by
  show (((0#1 : BitVec 1).toNat : ℝ) : EReal) = 0
  simp

theorem own_apply (o : Nat) (ho : o + 8 ≤ 32) (h : S32.Slices ![o] S8) (w : IVec S40960 32) (R : Fin 40960) (e : Fin 8) :
    own o h w (ix2 R e) = if w (ix1 R) = BitVec.ofNat 32 (o + e.val) then 1 else 0 := by
  pointwise [own]
  generalize w (ix1 R) = a
  generalize BitVec.ofNat 32 (o + e.val) = b
  by_cases hab : a = b
  · rw [if_pos hab, show IntOp.cmpi .eq a b = 1#1 by subst hab; simp [IntOp.cmpi]]
    exact one_word
  · rw [if_neg hab, show IntOp.cmpi .eq a b = 0#1 from congrArg BitVec.ofBool (beq_eq_false_iff_ne.mpr hab)]
    exact zero_word

theorem rowWord_apply (te : IVec S160 32) (nt : IVec S1 32) (R : Fin 40960) :
    rowWord te nt (ix1 R) = if used (tile R).val (nt (ix1 0)) then te (ix1 (tile R)) else 4294967295#32 := by
  pointwise [rowWord]
  rfl

theorem back_apply (o : Nat) (ho : o + 8 ≤ 32) (h : S32x256x2048.Slices ![o, 0, 0] S8x256x2048) (a : FVec Ideal S40960x8x256 .f32)
    (w : FVec Ideal S32x256x2048 .f32) (R : Fin 40960) (n : Fin 2048) :
    back o h a w (ix2 R n) = ∑ e : Fin 8, ∑ f : Fin 256, a (ix3 R e f) * w (ix3 (ge o ho e) f n) := by
  pointwise [back]

end Cert.Proof.Experts

end
-- ==== Proof.ExpertsRef.lean ====
/- Hand-written. The reference's result is `ExpertsSpec`: of the experts, that each row goes through with weight one or zero, the
   row's own is left. -/
module

public import proofs.«01_k».proof.Proof.ExpertsReads

@[expose] public section

noncomputable section

namespace Cert.Proof.Experts

open Cert.ExpertsReferenceIdeal Cert.ExpertsReferenceIdeal.Gen Idealize.ShloMosaic Idealize.ShloMosaic.TcCoe

variable (x : FVec Ideal S40960x2048 .f32) (w : IVec S40960 32) (wg wu : FVec Ideal S32x2048x256 .f32) (wd : FVec Ideal S32x256x2048 .f32)

/-- What expert `j` adds to row `R`: the row through it if the row's word is `j`, else zero. -/
def part (R : Fin 40960) (n : Fin 2048) (j : Nat) : EReal :=
  if w (ix1 R) = BitVec.ofNat 32 j then rowThrough x wg wu wd R (expert (BitVec.ofNat 32 j)) n else 0

theorem expert_ofNat (j : Nat) (hj : j < 32) : expert (BitVec.ofNat 32 j) = ⟨j, hj⟩ :=
  Fin.ext (by show (BitVec.ofNat 32 j).toNat % 32 = j; rw [BitVec.toNat_ofNat]; omega)

theorem mul_at {s : Shape} (a b : FVec Ideal s .f32) (i : s.Idx) : mulf a b i = a i * b i := rfl
theorem add_at {s : Shape} (a b : FVec Ideal s .f32) (i : s.Idx) : addf a b i = a i + b i := rfl

theorem group_apply (o : Nat) (ho : o + 8 ≤ 32) (h1 : S32.Slices ![o] S8) (h2 : S32x2048x256.Slices ![o, 0, 0] S8x2048x256)
    (h3 : S32x256x2048.Slices ![o, 0, 0] S8x256x2048) (R : Fin 40960) (n : Fin 2048) :
    group o h1 h2 h3 x w wg wu wd (ix2 R n) = ∑ j ∈ Finset.range 8, part x w wg wu wd R n (o + j) := by
  unfold group
  rw [back_apply o ho, Finset.sum_range]
  refine Finset.sum_congr rfl fun e _ => ?_
  unfold part
  rw [expert_ofNat (o + e.val) (by omega)]
  simp only [masked_apply, mul_at, gated_apply, lin_apply o ho, own_apply o ho]
  split
  · simp only [mul_one]; rfl
  · simp only [mul_zero, zero_mul, Finset.sum_const_zero]

theorem zero_at (R : Fin 40960) (n : Fin 2048) :
    broadcastInDim S40960x2048 ![] bcast_S_S40960x2048 (constant (F := Ideal) S_ .f32 0x00000000#32) (ix2 R n) = (0 : EReal) := by
  pointwise

theorem sum32 (f : Nat → EReal) : ∑ j ∈ Finset.range 32, f j = ∑ j ∈ Finset.range 8, f j + ∑ j ∈ Finset.range 8, f (8 + j)
    + ∑ j ∈ Finset.range 8, f (16 + j) + ∑ j ∈ Finset.range 8, f (24 + j) := by
  rw [show (32 : Nat) = 8 + 8 + 8 + 8 from rfl, Finset.sum_range_add, Finset.sum_range_add, Finset.sum_range_add]

theorem total_apply (R : Fin 40960) (n : Fin 2048) :
    total x w wg wu wd (ix2 R n) = ∑ j ∈ Finset.range 32, part x w wg wu wd R n j := by
  unfold total
  simp only [add_at, group_apply x w wg wu wd 0 (by omega), group_apply x w wg wu wd 8 (by omega), group_apply x w wg wu wd 16 (by omega),
    group_apply x w wg wu wd 24 (by omega), zero_add, sum32]
  exact congrArg (· + _ + _ + _) ((congrArg (· + _) (zero_at R n)).trans (zero_add _))

variable (te : IVec S160 32) (nt : IVec S1 32) (hte : ∀ j, (te j).toNat < 32)

include hte in
theorem total_eq (i : S40960x2048.Idx) : total x (rowWord te nt) wg wu wd i = spec x te (nt (ix1 0)) wg wu wd i := by
  obtain ⟨R, n, rfl⟩ : ∃ (R : Fin 40960) (n : Fin 2048), i = ix2 R n := ⟨i 0, i 1, funext fun a => by fin_cases a <;> rfl⟩
  rw [total_apply]
  show _ = if used (tile R).val (nt (ix1 0)) then rowThrough x wg wu wd R (expert (te (ix1 (tile R)))) n else 0
  unfold part
  simp only [rowWord_apply]
  by_cases hu : used (tile R).val (nt (ix1 0))
  · simp only [if_pos hu]
    have h := hte (ix1 (tile R))
    rw [Finset.sum_eq_single_of_mem (te (ix1 (tile R))).toNat (Finset.mem_range.mpr h) fun j hj hne => if_neg fun e => hne ?_]
    · rw [BitVec.ofNat_toNat, BitVec.setWidth_eq, if_pos rfl]
    · rw [e, BitVec.toNat_ofNat]; have := Finset.mem_range.mp hj; omega
  · simp only [if_neg hu]
    refine Finset.sum_eq_zero fun j hj => if_neg fun e => ?_
    have := Finset.mem_range.mp hj
    have e2 := congrArg BitVec.toNat e
    rw [BitVec.toNat_ofNat, BitVec.toNat_ofNat] at e2
    omega

end Cert.Proof.Experts

end
-- ==== Proof.ExpertsSame.lean ====
/- Hand-written. The experts' kernel and the reference end in the same values: the experts of `ExpertsSpec`. -/
module

public import proofs.«01_k».proof.Proof.ExpertsFrames
public import proofs.«01_k».proof.Proof.ExpertsArray
public import proofs.«01_k».proof.Proof.ExpertsRef

@[expose] public section

noncomputable section

namespace Cert.Proof.Experts

open Idealize.ShloMosaic Idealize.ShloMosaic.TcCoe Idealize.SL.Sem

attribute [local instance] Cert.Experts.Gen.facts Cert.ExpertsIdeal.Gen.facts Cert.ExpertsReferenceIdeal.Gen.facts Cert.Pre_tiles_in_range.Gen.facts

theorem same : Cert.algebraic_ExpertsIdeal_ExpertsReferenceIdeal := fun m ρ m' ρ' h hm => by
  have hR := range_of_pre _ _ _ _ _ _ (h 0)
  refine ⟨fun c => out m c, run m ρ (Cert.ExpertsIdeal.Tiles.ok_of_range m hR) hR,
    (θ_run Cert.ExpertsReferenceIdeal.defs _ _).mono (fun r hr c => ⟨?_, (hr c).2⟩)
      (Cert.ExpertsReferenceIdeal.Value.run (F := Ideal) m' ρ')⟩
  obtain rfl : c = 0 := Subsingleton.elim _ _
  obtain ⟨e0, e1, e2, e3, e4, e5⟩ := hm 0
  refine ((hr 0).1.trans (res_total m' 0)).trans ?_
  rw [e0, e1, e2, e3, e4, e5]
  funext i
  refine (total_eq _ _ _ _ _ _ hR.1 i).trans ?_
  exact congrArg (fun w => spec (aX m 0) (aT m 0) w (aG m 0) (aU m 0) (aD m 0) i) (Cert.ExpertsIdeal.Tiles.nt_at (aN m 0) _)

end Cert.Proof.Experts

end
-- ==== Proof.MergeSpec.lean ====
/- Hand-written. The merge, the output projection and the cross attention of one row, as formulas in the extended reals. A row has
   its own 2048 values, three groups' outputs and scores for four heads of 128 lanes, the block attention's 1024 values, two rows
   of 2048 gates, the weights, and the keys and values of the memory of its batch entry. -/
module

public import Idealize.ShloMosaic.Lib.Pointwise

@[expose] public section

noncomputable section

namespace Cert.Proof.Merge

open Idealize.ShloMosaic

theorem neg_inf : Ideal.ofBits .f32 0xFF800000#32 = ⊥ := by simp [Ideal.ofBits, Ideal.ieee]

/-- The head and the lane of one of 512 columns, and the column of a head's lane. -/
def hd (c : Fin 512) : Fin 4 := ⟨c.val / 128, by omega⟩
def ln (c : Fin 512) : Fin 128 := ⟨c.val % 128, by omega⟩
def col (h : Fin 4) (e : Fin 128) : Fin 512 := ⟨h.val * 128 + e.val, by omega⟩

/-- The largest of three scores, the sum of their exponentials, each less the largest, and three values weighted by them. -/
def top3 (a b c : EReal) : EReal := max (max a b) c
def den3 (a b c : EReal) : EReal := Ideal.exp (a - top3 a b c) + Ideal.exp (b - top3 a b c) + Ideal.exp (c - top3 a b c)
def mix (a b c x y z : EReal) : EReal :=
  Ideal.div (Ideal.exp (a - top3 a b c)) (den3 a b c) * x + Ideal.div (Ideal.exp (b - top3 a b c)) (den3 a b c) * y
    + Ideal.div (Ideal.exp (c - top3 a b c)) (den3 a b c) * z

/-- The largest of a row's 256 scores, their exponentials, and 256 values weighted by them, over their sum. -/
def top (s : Fin 256 → EReal) : EReal := Finset.univ.fold max (⊥ : EReal) s
def ex (s : Fin 256 → EReal) (j : Fin 256) : EReal := Ideal.exp (s j - top s)
def avg (s v : Fin 256 → EReal) : EReal := Ideal.div (∑ j, ex s j * v j) (∑ j, ex s j)

/-- What one row reads. -/
structure Row where
  x : Fin 2048 → EReal
  o : Fin 3 → Fin 4 → Fin 128 → EReal
  l : Fin 3 → Fin 4 → Fin 128 → EReal
  y : Fin 1024 → EReal
  gd : Fin 2048 → EReal
  gm : Fin 2048 → EReal
  ud : Fin 512 → Fin 2048 → EReal
  um : Fin 1024 → Fin 2048 → EReal
  wo : Fin 2048 → Fin 2048 → EReal
  g : Fin 2048 → EReal
  wq : Fin 2048 → Fin 512 → EReal
  k : Fin 4 → Fin 256 → Fin 128 → EReal
  v : Fin 4 → Fin 256 → Fin 128 → EReal
  wc : Fin 512 → Fin 2048 → EReal

namespace Row

variable (R : Row)

/-- The groups' outputs mixed. -/
def mixed (h : Fin 4) (e : Fin 128) : EReal := mix (R.l 0 h e) (R.l 1 h e) (R.l 2 h e) (R.o 0 h e) (R.o 1 h e) (R.o 2 h e)

/-- The two branches lifted, gated and added. -/
def merged (j : Fin 2048) : EReal :=
  R.gd j * (∑ c, R.mixed (hd c) (ln c) * R.ud c j) + R.gm j * ∑ c, R.y c * R.um c j

/-- The row after the output projection. -/
def res (d : Fin 2048) : EReal := R.x d + ∑ j, R.merged j * R.wo j d

/-- That row normed. -/
def nrm (d : Fin 2048) : EReal :=
  R.res d * Ideal.rsqrt (Ideal.div (∑ j, R.res j * R.res j) (Ideal.ofBits .f32 0x45000000#32) + Ideal.ofBits .f32 0x358637BD#32) * R.g d

/-- Its queries, scores and weighted values. -/
def q (h : Fin 4) (e : Fin 128) : EReal := ∑ d, R.nrm d * R.wq d (col h e)
def sc (h : Fin 4) (j : Fin 256) : EReal := (∑ e, R.q h e * R.k h j e) * Ideal.ofBits .f32 0x3DB504F3#32
def seen (h : Fin 4) (e : Fin 128) : EReal := avg (R.sc h) fun j => R.v h j e

/-- The row that the call leaves. -/
def out (d : Fin 2048) : EReal := R.res d + ∑ c, R.seen (hd c) (ln c) * R.wc c d

end Row

/-- The arrays' shapes. -/
abbrev Res : Shape := ⟨2, ![16384, 2048]⟩
abbrev Grp : Shape := ⟨4, ![2, 4, 8192, 128]⟩
abbrev Blk : Shape := ⟨2, ![16384, 1024]⟩
abbrev Gts : Shape := ⟨2, ![16384, 4096]⟩
abbrev UpD : Shape := ⟨2, ![512, 2048]⟩
abbrev UpM : Shape := ⟨2, ![1024, 2048]⟩
abbrev Sqr : Shape := ⟨2, ![2048, 2048]⟩
abbrev Vct : Shape := ⟨1, ![2048]⟩
abbrev Qry : Shape := ⟨2, ![2048, 512]⟩
abbrev Mem : Shape := ⟨3, ![2, 256, 1024]⟩

/-- The batch entry of one of 16384 rows, and its place there. -/
def bat (i : Fin 16384) : Fin 2 := ⟨i.val / 8192, by omega⟩
def seq (i : Fin 16384) : Fin 8192 := ⟨i.val % 8192, by omega⟩

/-- A head's key and value columns of the memory's 1024. -/
def kcol (h : Fin 4) (e : Fin 128) : Fin 1024 := ⟨h.val * 128 + e.val, by omega⟩
def vcol (h : Fin 4) (e : Fin 128) : Fin 1024 := ⟨512 + h.val * 128 + e.val, by omega⟩

/-- What row `i` reads of the arrays. -/
def rowA (x : Res.Idx → EReal) (o0 o1 o2 l0 l1 l2 : Grp.Idx → EReal) (y : Blk.Idx → EReal) (g : Gts.Idx → EReal) (ud : UpD.Idx → EReal)
    (um : UpM.Idx → EReal) (wo : Sqr.Idx → EReal) (gn : Vct.Idx → EReal) (wq : Qry.Idx → EReal) (kv : Mem.Idx → EReal) (wc : UpD.Idx → EReal)
    (i : Fin 16384) : Row where
  x d := x (ix2 i d)
  o n h e := (![o0, o1, o2] n : Grp.Idx → EReal) (ix4 (bat i) h (seq i) e)
  l n h e := (![l0, l1, l2] n : Grp.Idx → EReal) (ix4 (bat i) h (seq i) e)
  y c := y (ix2 i c)
  gd j := g (ix2 i ⟨j.val, by omega⟩)
  gm j := g (ix2 i ⟨2048 + j.val, by omega⟩)
  ud c j := ud (ix2 c j)
  um c j := um (ix2 c j)
  wo j d := wo (ix2 j d)
  g d := gn (ix1 d)
  wq d c := wq (ix2 d c)
  k h j e := kv (ix3 (bat i) j (kcol h e))
  v h j e := kv (ix3 (bat i) j (vcol h e))
  wc c d := wc (ix2 c d)

/-- The array that the call leaves. -/
def spec (x : Res.Idx → EReal) (o0 o1 o2 l0 l1 l2 : Grp.Idx → EReal) (y : Blk.Idx → EReal) (g : Gts.Idx → EReal) (ud : UpD.Idx → EReal)
    (um : UpM.Idx → EReal) (wo : Sqr.Idx → EReal) (gn : Vct.Idx → EReal) (wq : Qry.Idx → EReal) (kv : Mem.Idx → EReal) (wc : UpD.Idx → EReal) :
    Res.Idx → EReal := fun i => (rowA x o0 o1 o2 l0 l1 l2 y g ud um wo gn wq kv wc (i 0)).out (i 1)

end Cert.Proof.Merge

end
-- ==== Proof.MergeTile.lean ====
/- Hand-written. What the merge's body computes for one tile of 256 rows, in stages, each read at an index. -/
module

public import proofs.«01_k».proof.Proof.Gen.MergeIdeal.Frame
public import proofs.«01_k».proof.Proof.MergeSpec
public import Idealize.ShloMosaic.Lib.Pointwise

@[expose] public section

noncomputable section

namespace Cert.Proof.Merge

open Cert.MergeIdeal Cert.MergeIdeal.Gen Idealize.ShloMosaic Idealize.ShloMosaic.TcCoe

/-- Four heads side by side. -/
def wide (a b c d : FVec Ideal S256x128 .bf16) : FVec Ideal S256x512 .bf16 :=
  concatenate S256x512 1 [⟨S256x128, a⟩, ⟨S256x128, b⟩, ⟨S256x128, c⟩, ⟨S256x128, d⟩] concatenates_S256x128_S256x128_S256x128_S256x128_S256x512_d1

/-- The scores of head `o / 128`. -/
def scB (o : Nat) (ho : S256x512.Slices ![0, o] S256x128) (q : FVec Ideal S256x512 .bf16) (k : Vec Ideal S1x256x128 .bf16) : FVec Ideal S256x256 .f32 :=
  mulf (matmul dot_S256x128_S256x128_S256x256_1_1_0_0_n_n none (extractStridedSlice S256x128 ![0, o] q ho)
    (shapeCast S256x128 k shapeCasts_S1x256x128_S256x128 : FVec Ideal S256x128 .bf16) (constant S256x256 .f32 0x00000000#32))
    (broadcast S256x256 (Scalar.ofBits .f32 0x3DB504F3#32 : Ideal .f32))

/-- The exponentials of the scores, each less its row's largest. -/
def exB (s : FVec Ideal S256x256 .f32) : FVec Ideal S256x256 .f32 :=
  exp (subf s (broadcastTo S256x256 (shapeCast S256x1 (multiReduction .maximumf [1] S256 s 0xFF800000#32 reduces_S256x256_S256 (.inl rfl) rfl)
    shapeCasts_S256_S256x1 : FVec Ideal S256x1 .f32) broadcasts_S256x1_S256x256))

/-- The values weighted by them, over their sum. -/
def avgB (s : FVec Ideal S256x256 .f32) (v : Vec Ideal S1x256x128 .bf16) : FVec Ideal S256x128 .bf16 :=
  truncf .bf16 (divf (matmul dot_S256x256_S256x128_S256x128_1_0_0_1_n_n none (truncf .bf16 (exB s) bitsLt_bf16_f32)
      (shapeCast S256x128 v shapeCasts_S1x256x128_S256x128 : FVec Ideal S256x128 .bf16) (constant S256x128 .f32 0x00000000#32))
    (broadcastTo S256x128 (shapeCast S256x1 (multiReduction .add [1] S256 (exB s) 0x00000000#32 reduces_S256x256_S256 (.inl rfl) rfl)
      shapeCasts_S256_S256x1 : FVec Ideal S256x1 .f32) broadcasts_S256x1_S256x128)) bitsLt_bf16_f32

/-- The heads' results projected and added to the row. -/
def endB (x : FVec Ideal S256x2048 .f32) (a : FVec Ideal S256x512 .bf16) (w : Vec Ideal S512x2048 .bf16) : FVec Ideal S256x2048 .f32 :=
  addf x (matmul (φ₂ := .bf16) dot_S256x512_S512x2048_S256x2048_1_0_0_1_n_n none a w (constant S256x2048 .f32 0x00000000#32))

/-- The mixed heads lifted. -/
def liftB (a : FVec Ideal S256x512 .bf16) (w : Vec Ideal S512x2048 .bf16) : FVec Ideal S256x2048 .f32 :=
  matmul (φ₂ := .bf16) dot_S256x512_S512x2048_S256x2048_1_0_0_1_n_n none a w (constant S256x2048 .f32 0x00000000#32)

theorem wide_apply (a b c d : FVec Ideal S256x128 .bf16) (r : Fin 256) (f : Fin 4 → Fin 128 → EReal) (ha : ∀ e, a (ix2 r e) = f 0 e)
    (hb : ∀ e, b (ix2 r e) = f 1 e) (hc : ∀ e, c (ix2 r e) = f 2 e) (hd' : ∀ e, d (ix2 r e) = f 3 e) (n : Fin 512) :
    wide a b c d (ix2 r n) = f (hd n) (ln n) := by
  have off : ∀ b : Fin 2, b ≠ 1 → ((ix2 r (ln n) : S256x128.Idx) b).val = ((ix2 r n : S256x512.Idx) b).val := by
    intro b hb
    match b with
    | ⟨0, _⟩ => rfl
    | ⟨1, _⟩ => exact absurd rfl hb
  unfold wide
  have hn : n.val / 128 = 0 ∨ n.val / 128 = 1 ∨ n.val / 128 = 2 ∨ n.val / 128 = 3 := by omega
  rcases hn with h | h | h | h
  · rw [show hd n = 0 from Fin.ext h, ← ha]
    exact concatenate_apply_piece (t := S256x512) 1 [⟨S256x128, a⟩, ⟨S256x128, b⟩, ⟨S256x128, c⟩, ⟨S256x128, d⟩] concatenates_S256x128_S256x128_S256x128_S256x128_S256x512_d1 (ix2 r n) 0 (by show 0 < 4; decide) S256x128 a rfl rfl 0 rfl (ix2 r (ln n)) off (by show 0 + n.val % 128 = n.val; omega)
  · rw [show hd n = 1 from Fin.ext h, ← hb]
    exact concatenate_apply_piece (t := S256x512) 1 [⟨S256x128, a⟩, ⟨S256x128, b⟩, ⟨S256x128, c⟩, ⟨S256x128, d⟩] concatenates_S256x128_S256x128_S256x128_S256x128_S256x512_d1 (ix2 r n) 1 (by show 1 < 4; decide) S256x128 b rfl rfl 128 rfl (ix2 r (ln n)) off (by show 128 + n.val % 128 = n.val; omega)
  · rw [show hd n = 2 from Fin.ext h, ← hc]
    exact concatenate_apply_piece (t := S256x512) 1 [⟨S256x128, a⟩, ⟨S256x128, b⟩, ⟨S256x128, c⟩, ⟨S256x128, d⟩] concatenates_S256x128_S256x128_S256x128_S256x128_S256x512_d1 (ix2 r n) 2 (by show 2 < 4; decide) S256x128 c rfl rfl 256 rfl (ix2 r (ln n)) off (by show 256 + n.val % 128 = n.val; omega)
  · rw [show hd n = 3 from Fin.ext h, ← hd']
    exact concatenate_apply_piece (t := S256x512) 1 [⟨S256x128, a⟩, ⟨S256x128, b⟩, ⟨S256x128, c⟩, ⟨S256x128, d⟩] concatenates_S256x128_S256x128_S256x128_S256x128_S256x512_d1 (ix2 r n) 3 (by show 3 < 4; decide) S256x128 d rfl rfl 384 rfl (ix2 r (ln n)) off (by show 384 + n.val % 128 = n.val; omega)

theorem mixB_apply (a b c x y z : Vec Ideal S1x1x256x128 .f32) (r : Fin 256) (e : Fin 128) : k0_pay1 a b c x y z (ix2 r e)
    = mix (a (ix4 0 0 r e)) (b (ix4 0 0 r e)) (c (ix4 0 0 r e)) (x (ix4 0 0 r e)) (y (ix4 0 0 r e)) (z (ix4 0 0 r e)) := by
  pointwise [k0_pay1, mix, den3, top3]

theorem liftB_apply (a : FVec Ideal S256x512 .bf16) (w : Vec Ideal S512x2048 .bf16) (r : Fin 256) (j : Fin 2048) :
    liftB a w (ix2 r j) = ∑ c : Fin 512, a (ix2 r c) * w (ix2 c j) := by
  pointwise [liftB]

theorem liftM_apply (a : Vec Ideal S256x1024 .bf16) (w : Vec Ideal S1024x2048 .bf16) (r : Fin 256) (j : Fin 2048) :
    k0_pay7 a w (ix2 r j) = ∑ c : Fin 1024, a (ix2 r c) * w (ix2 c j) := by
  pointwise [k0_pay7]

theorem resB_apply (x : Vec Ideal S256x2048 .f32) (u w : FVec Ideal S256x2048 .f32) (gd gm : Vec Ideal S256x2048 .bf16) (wo : Vec Ideal S2048x2048 .bf16)
    (r : Fin 256) (d : Fin 2048) : k0_pay8 x u w gd gm wo (ix2 r d)
      = x (ix2 r d) + ∑ j : Fin 2048, (gd (ix2 r j) * u (ix2 r j) + gm (ix2 r j) * w (ix2 r j)) * wo (ix2 j d) := by
  pointwise [k0_pay8]

theorem qB_apply (x : Vec Ideal S256x2048 .f32) (u w : FVec Ideal S256x2048 .f32) (gd gm : Vec Ideal S256x2048 .bf16) (wo : Vec Ideal S2048x2048 .bf16)
    (g : Vec Ideal S1x2048 .f32) (wq : Vec Ideal S2048x512 .bf16) (r : Fin 256) (c : Fin 512) : k0_pay9 x u w gd gm wo g wq (ix2 r c)
      = ∑ d : Fin 2048, (k0_pay8 x u w gd gm wo (ix2 r d) * Ideal.rsqrt (Ideal.div (∑ j : Fin 2048, k0_pay8 x u w gd gm wo (ix2 r j) * k0_pay8 x u w gd gm wo (ix2 r j))
          (Ideal.ofBits .f32 0x45000000#32) + Ideal.ofBits .f32 0x358637BD#32) * g (ix2 0 d)) * wq (ix2 d c) := by
  generalize hX : k0_pay8 x u w gd gm wo = X
  pointwise [k0_pay9, hX]

theorem scB_apply (h : Fin 4) (o : Nat) (e0 : o = h.val * 128) (ho : S256x512.Slices ![0, o] S256x128) (q : FVec Ideal S256x512 .bf16) (k : Vec Ideal S1x256x128 .bf16) (r j : Fin 256) :
    scB o ho q k (ix2 r j) = (∑ e : Fin 128, q (ix2 r (col h e)) * k (ix3 0 j e)) * Ideal.ofBits .f32 0x3DB504F3#32 := by
  subst e0
  pointwise [scB, col]

theorem exB_apply (s : FVec Ideal S256x256 .f32) (r j : Fin 256) : exB s (ix2 r j) = ex (fun j => s (ix2 r j)) j := by
  pointwise [exB, ex, top]
  rw [neg_inf]

theorem avgB_apply (s : FVec Ideal S256x256 .f32) (v : Vec Ideal S1x256x128 .bf16) (r : Fin 256) (e : Fin 128) :
    avgB s v (ix2 r e) = avg (fun j => s (ix2 r j)) fun j => v (ix3 0 j e) := by
  pointwise [avgB, avg, exB_apply]

theorem endB_apply (x : FVec Ideal S256x2048 .f32) (a : FVec Ideal S256x512 .bf16) (w : Vec Ideal S512x2048 .bf16) (r : Fin 256) (d : Fin 2048) :
    endB x a w (ix2 r d) = x (ix2 r d) + ∑ c : Fin 512, a (ix2 r c) * w (ix2 c d) := by
  pointwise [endB]

end Cert.Proof.Merge

end
-- ==== Proof.MergeRow.lean ====
/- Hand-written. The block that the merge's body leaves, from the blocks it reads: row by row the formulas of `MergeSpec`. -/
module

public import proofs.«01_k».proof.Proof.MergeTile
public import Idealize.ShloMosaic.Lib.Pipeline.Value

@[expose] public section

noncomputable section

namespace Cert.Proof.Merge

open Cert.MergeIdeal Cert.MergeIdeal.Gen Idealize.ShloMosaic Idealize.ShloMosaic.TcCoe

/-- What row `r` of a tile reads of the tile's blocks. -/
def rowB (x0 : Vec Ideal S256x2048 .f32) (x1 x2 x3 x4 x5 x6 : Vec Ideal S1x4x256x128 .f32) (x7 : Vec Ideal S256x1024 .bf16)
    (x8 x9 : Vec Ideal S256x2048 .bf16) (x10 : Vec Ideal S512x2048 .bf16) (x11 : Vec Ideal S1024x2048 .bf16) (x12 : Vec Ideal S2048x2048 .bf16)
    (x13 : Vec Ideal S1x2048 .f32) (x14 : Vec Ideal S2048x512 .bf16) (x15 : Vec Ideal S1x256x1024 .bf16) (x16 : Vec Ideal S512x2048 .bf16)
    (r : Fin 256) : Row where
  x d := x0 (ix2 r d)
  o g h e := (![x1, x2, x3] g : Vec Ideal S1x4x256x128 .f32) (ix4 0 h r e)
  l g h e := (![x4, x5, x6] g : Vec Ideal S1x4x256x128 .f32) (ix4 0 h r e)
  y c := x7 (ix2 r c)
  gd j := x8 (ix2 r j)
  gm j := x9 (ix2 r j)
  ud c j := x10 (ix2 c j)
  um c j := x11 (ix2 c j)
  wo j d := x12 (ix2 j d)
  g d := x13 (ix2 0 d)
  wq d c := x14 (ix2 d c)
  k h j e := x15 (ix3 0 j (kcol h e))
  v h j e := x15 (ix3 0 j (vcol h e))
  wc c d := x16 (ix2 c d)

variable (x0 : Vec Ideal S256x2048 .f32) (x1 x2 x3 x4 x5 x6 : Vec Ideal S1x4x256x128 .f32) (x7 : Vec Ideal S256x1024 .bf16)
    (x8 x9 : Vec Ideal S256x2048 .bf16) (x10 : Vec Ideal S512x2048 .bf16) (x11 : Vec Ideal S1024x2048 .bf16) (x12 : Vec Ideal S2048x2048 .bf16)
    (x13 : Vec Ideal S1x2048 .f32) (x14 : Vec Ideal S2048x512 .bf16) (x15 : Vec Ideal S1x256x1024 .bf16) (x16 : Vec Ideal S512x2048 .bf16)

/-- Head `h`'s rows of a group's block. -/
def headB (x : Vec Ideal S1x4x256x128 .f32) (h : Fin 4) : Vec Ideal S1x1x256x128 .f32 := fun i => x (ix4 0 h (i 2) (i 3))

/-- 128 columns of the memory's block. -/
def colsB (o : Nat) (ho : o + 128 ≤ 1024) (x : Vec Ideal S1x256x1024 .bf16) : Vec Ideal S1x256x128 .bf16 :=
  fun i => x (ix3 0 (i 1) ⟨o + (i 2).val, by have h : (i 2).val < 128 := (i 2).isLt; omega⟩)

theorem ld_head (x : Vec Ideal S1x4x256x128 .f32) (h : Fin 4) (inb : ∀ a, (![0, h.val, 0, 0] : Fin 4 → Nat) a + S1x1x256x128.size a ≤ S1x4x256x128.size a) :
    View.ld x (Rect.unit (s := S1x4x256x128) ![0, h.val, 0, 0] S1x1x256x128.size inb) = headB x h := by
  funext i
  refine congrArg x (funext fun a => Fin.ext ?_)
  have l0 : (i 0).val < 1 := (i 0).isLt
  have l1 : (i 1).val < 1 := (i 1).isLt
  match a with
  | ⟨0, _⟩ => show 0 + 1 * (i 0).val = 0; omega
  | ⟨1, _⟩ => show h.val + 1 * (i 1).val = h.val; omega
  | ⟨2, _⟩ => show 0 + 1 * (i 2).val = (i 2).val; omega
  | ⟨3, _⟩ => show 0 + 1 * (i 3).val = (i 3).val; omega

theorem ld_cols (x : Vec Ideal S1x256x1024 .bf16) (o : Nat) (ho : o + 128 ≤ 1024) (inb : ∀ a, (![0, 0, o] : Fin 3 → Nat) a + S1x256x128.size a ≤ S1x256x1024.size a) :
    View.ld x (Rect.unit (s := S1x256x1024) ![0, 0, o] S1x256x128.size inb) = colsB o ho x := by
  funext i
  refine congrArg x (funext fun a => Fin.ext ?_)
  have l0 : (i 0).val < 1 := (i 0).isLt
  match a with
  | ⟨0, _⟩ => show 0 + 1 * (i 0).val = 0; omega
  | ⟨1, _⟩ => show 0 + 1 * (i 1).val = (i 1).val; omega
  | ⟨2, _⟩ => show o + 1 * (i 2).val = o + (i 2).val; omega

theorem zero2 : (![0, 0] : Fin 2 → Nat) = fun _ => 0 := by funext a; match a with | ⟨0, _⟩ => rfl | ⟨1, _⟩ => rfl

/-- Head `h` of the mixed groups. -/
def mixH (h : Fin 4) : FVec Ideal S256x128 .bf16 :=
  k0_pay1 (headB x4 h) (headB x5 h) (headB x6 h) (headB x1 h) (headB x2 h) (headB x3 h)

/-- The lifted groups, the row after the output projection, the queries. -/
def liftA : FVec Ideal S256x2048 .f32 :=
  liftB (wide (mixH x1 x2 x3 x4 x5 x6 0) (mixH x1 x2 x3 x4 x5 x6 1) (mixH x1 x2 x3 x4 x5 x6 2) (mixH x1 x2 x3 x4 x5 x6 3)) x10
def resA : FVec Ideal S256x2048 .f32 := k0_pay8 x0 (liftA x1 x2 x3 x4 x5 x6 x10) (k0_pay7 x7 x11) x8 x9 x12
def qA : FVec Ideal S256x512 .bf16 := k0_pay9 x0 (liftA x1 x2 x3 x4 x5 x6 x10) (k0_pay7 x7 x11) x8 x9 x12 x13 x14

theorem out_eq : out0_17 (F := Ideal) x0 x1 x2 x3 x4 x5 x6 x7 x8 x9 x10 x11 x12 x13 x14 x15 x16
    = endB (resA x0 x1 x2 x3 x4 x5 x6 x7 x8 x9 x10 x11 x12)
      (wide (avgB (scB 0 slices_S256x512_o0_0_S256x128 (qA x0 x1 x2 x3 x4 x5 x6 x7 x8 x9 x10 x11 x12 x13 x14) (colsB 0 (by decide) x15)) (colsB 512 (by decide) x15))
        (avgB (scB 128 slices_S256x512_o0_128_S256x128 (qA x0 x1 x2 x3 x4 x5 x6 x7 x8 x9 x10 x11 x12 x13 x14) (colsB 128 (by decide) x15)) (colsB 640 (by decide) x15))
        (avgB (scB 256 slices_S256x512_o0_256_S256x128 (qA x0 x1 x2 x3 x4 x5 x6 x7 x8 x9 x10 x11 x12 x13 x14) (colsB 256 (by decide) x15)) (colsB 768 (by decide) x15))
        (avgB (scB 384 slices_S256x512_o0_384_S256x128 (qA x0 x1 x2 x3 x4 x5 x6 x7 x8 x9 x10 x11 x12 x13 x14) (colsB 384 (by decide) x15)) (colsB 896 (by decide) x15)))
      x16 := by
  have a0 : View.ld x0 r0_0 = x0 := View.ld_unit_zero zero2 _ _
  have a7 : View.ld x7 r0_6 = x7 := View.ld_unit_zero zero2 _ _
  have a8 : View.ld x8 r0_0 = x8 := View.ld_unit_zero zero2 _ _
  have a9 : View.ld x9 r0_0 = x9 := View.ld_unit_zero zero2 _ _
  have a10 : View.ld x10 r0_5 = x10 := View.ld_unit_zero zero2 _ _
  have a11 : View.ld x11 r0_7 = x11 := View.ld_unit_zero zero2 _ _
  have a12 : View.ld x12 r0_8 = x12 := View.ld_unit_zero zero2 _ _
  have a13 : View.ld x13 r0_9 = x13 := View.ld_unit_zero zero2 _ _
  have a14 : View.ld x14 r0_10 = x14 := View.ld_unit_zero zero2 _ _
  have a16 : View.ld x16 r0_5 = x16 := View.ld_unit_zero zero2 _ _
  have h0 : ∀ x : Vec Ideal S1x4x256x128 .f32, View.ld x r0_1 = headB x 0 := fun x => ld_head x 0 _
  have h1 : ∀ x : Vec Ideal S1x4x256x128 .f32, View.ld x r0_2 = headB x 1 := fun x => ld_head x 1 _
  have h2 : ∀ x : Vec Ideal S1x4x256x128 .f32, View.ld x r0_3 = headB x 2 := fun x => ld_head x 2 _
  have h3 : ∀ x : Vec Ideal S1x4x256x128 .f32, View.ld x r0_4 = headB x 3 := fun x => ld_head x 3 _
  have c0 : View.ld x15 r0_11 = colsB 0 (by decide) x15 := ld_cols x15 0 (by decide) _
  have c4 : View.ld x15 r0_12 = colsB 512 (by decide) x15 := ld_cols x15 512 (by decide) _
  have c1 : View.ld x15 r0_13 = colsB 128 (by decide) x15 := ld_cols x15 128 (by decide) _
  have c5 : View.ld x15 r0_14 = colsB 640 (by decide) x15 := ld_cols x15 640 (by decide) _
  have c2 : View.ld x15 r0_15 = colsB 256 (by decide) x15 := ld_cols x15 256 (by decide) _
  have c6 : View.ld x15 r0_16 = colsB 768 (by decide) x15 := ld_cols x15 768 (by decide) _
  have c3 : View.ld x15 r0_17 = colsB 384 (by decide) x15 := ld_cols x15 384 (by decide) _
  have c7 : View.ld x15 r0_18 = colsB 896 (by decide) x15 := ld_cols x15 896 (by decide) _
  unfold out0_17 k0_pay20 k0_pay19 k0_pay18
  rw [View.canon_unit_zero zero2, a0, a7, a8, a9, a10, a11, a12, a13, a14, a16, h0, h1, h2, h3, h0, h1, h2, h3, h0, h1, h2, h3, h0, h1, h2, h3, h0, h1, h2, h3, h0, h1, h2, h3, c0, c1, c2, c3, c4, c5, c6, c7]
  rfl

section Read

variable (r : Fin 256)

theorem mix_read (h : Fin 4) (e : Fin 128) : mixH x1 x2 x3 x4 x5 x6 h (ix2 r e) = Row.mixed (rowB x0 x1 x2 x3 x4 x5 x6 x7 x8 x9 x10 x11 x12 x13 x14 x15 x16 r) h e := by
  unfold mixH Row.mixed
  rw [mixB_apply]
  rfl

theorem lift_read (j : Fin 2048) : liftA x1 x2 x3 x4 x5 x6 x10 (ix2 r j) = ∑ c, Row.mixed (rowB x0 x1 x2 x3 x4 x5 x6 x7 x8 x9 x10 x11 x12 x13 x14 x15 x16 r) (hd c) (ln c) * Row.ud (rowB x0 x1 x2 x3 x4 x5 x6 x7 x8 x9 x10 x11 x12 x13 x14 x15 x16 r) c j := by
  have hm := mix_read x0 x1 x2 x3 x4 x5 x6 x7 x8 x9 x10 x11 x12 x13 x14 x15 x16 r
  unfold liftA
  rw [liftB_apply]
  refine Finset.sum_congr rfl fun c _ => ?_
  rw [wide_apply _ _ _ _ r (Row.mixed (rowB x0 x1 x2 x3 x4 x5 x6 x7 x8 x9 x10 x11 x12 x13 x14 x15 x16 r)) (hm 0) (hm 1) (hm 2) (hm 3)]
  rfl

theorem res_read (d : Fin 2048) : resA x0 x1 x2 x3 x4 x5 x6 x7 x8 x9 x10 x11 x12 (ix2 r d) = Row.res (rowB x0 x1 x2 x3 x4 x5 x6 x7 x8 x9 x10 x11 x12 x13 x14 x15 x16 r) d := by
  have hl := lift_read x0 x1 x2 x3 x4 x5 x6 x7 x8 x9 x10 x11 x12 x13 x14 x15 x16 r
  unfold resA
  rw [resB_apply]
  simp only [hl, liftM_apply]
  rfl

theorem q_read (h : Fin 4) (e : Fin 128) : qA x0 x1 x2 x3 x4 x5 x6 x7 x8 x9 x10 x11 x12 x13 x14 (ix2 r (col h e)) = Row.q (rowB x0 x1 x2 x3 x4 x5 x6 x7 x8 x9 x10 x11 x12 x13 x14 x15 x16 r) h e := by
  have hr := fun d => res_read x0 x1 x2 x3 x4 x5 x6 x7 x8 x9 x10 x11 x12 x13 x14 x15 x16 r d
  unfold resA at hr
  unfold qA
  rw [qB_apply]
  simp only [hr]
  rfl

theorem seen_read (h : Fin 4) (o p : Nat) (e0 : o = h.val * 128) (e1 : p = 512 + h.val * 128) (ho : S256x512.Slices ![0, o] S256x128) (hk : o + 128 ≤ 1024)
    (hv : p + 128 ≤ 1024) (e : Fin 128) :
    avgB (scB o ho (qA x0 x1 x2 x3 x4 x5 x6 x7 x8 x9 x10 x11 x12 x13 x14) (colsB o hk x15)) (colsB p hv x15) (ix2 r e) = Row.seen (rowB x0 x1 x2 x3 x4 x5 x6 x7 x8 x9 x10 x11 x12 x13 x14 x15 x16 r) h e := by
  have hq := q_read x0 x1 x2 x3 x4 x5 x6 x7 x8 x9 x10 x11 x12 x13 x14 x15 x16 r
  have hs : (fun j => scB o ho (qA x0 x1 x2 x3 x4 x5 x6 x7 x8 x9 x10 x11 x12 x13 x14) (colsB o hk x15) (ix2 r j)) = Row.sc (rowB x0 x1 x2 x3 x4 x5 x6 x7 x8 x9 x10 x11 x12 x13 x14 x15 x16 r) h := by
    funext j
    rw [scB_apply h o e0 ho]
    simp only [hq]
    subst e0
    rfl
  have hw : (fun j => colsB p hv x15 (ix3 0 j e)) = fun j => Row.v (rowB x0 x1 x2 x3 x4 x5 x6 x7 x8 x9 x10 x11 x12 x13 x14 x15 x16 r) h j e := by
    subst e1
    rfl
  rw [avgB_apply, hs, hw]
  rfl

theorem out_read (d : Fin 2048) : out0_17 (F := Ideal) x0 x1 x2 x3 x4 x5 x6 x7 x8 x9 x10 x11 x12 x13 x14 x15 x16 (ix2 r d) = Row.out (rowB x0 x1 x2 x3 x4 x5 x6 x7 x8 x9 x10 x11 x12 x13 x14 x15 x16 r) d := by
  have hr := res_read x0 x1 x2 x3 x4 x5 x6 x7 x8 x9 x10 x11 x12 x13 x14 x15 x16 r
  have S := seen_read x0 x1 x2 x3 x4 x5 x6 x7 x8 x9 x10 x11 x12 x13 x14 x15 x16 r
  rw [out_eq, endB_apply, hr]
  unfold Row.out
  refine congrArg (fun z : EReal => Row.res (rowB x0 x1 x2 x3 x4 x5 x6 x7 x8 x9 x10 x11 x12 x13 x14 x15 x16 r) d + z) (Finset.sum_congr rfl fun c _ => ?_)
  rw [wide_apply _ _ _ _ r (Row.seen (rowB x0 x1 x2 x3 x4 x5 x6 x7 x8 x9 x10 x11 x12 x13 x14 x15 x16 r)) (fun e => S 0 0 512 rfl rfl _ _ _ e) (fun e => S 1 128 640 rfl rfl _ _ _ e)
    (fun e => S 2 256 768 rfl rfl _ _ _ e) (fun e => S 3 384 896 rfl rfl _ _ _ e)]
  rfl

end Read

end Cert.Proof.Merge

end
-- ==== Proof.MergeArray.lean ====
/- Hand-written. The array that the merge's kernel leaves, as the array of `MergeSpec` of its arguments. -/
module

public import proofs.«01_k».proof.Proof.MergeRow
public import proofs.«01_k».proof.Proof.Gen.MergeIdeal.Value

@[expose] public section

noncomputable section

namespace Cert.Proof.Merge

open Cert.MergeIdeal Cert.MergeIdeal.Gen Cert.MergeIdeal.Value Idealize.ShloMosaic Idealize.ShloMosaic.TcCoe Idealize.SL.Sem

theorem at0_ : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem at1_ : ∀ t : Fin cfg0.N, win0_1.index t (0 : Fin 4) = t.val / 32 ∧ win0_1.index t (1 : Fin 4) = 0 ∧ win0_1.index t (2 : Fin 4) = t.val % 32 ∧ win0_1.index t (3 : Fin 4) = 0 :=
  (by decide +kernel : ∀ t : Fin grid0.N, win0_1.index t (0 : Fin 4) = t.val / 32 ∧ win0_1.index t (1 : Fin 4) = 0 ∧ win0_1.index t (2 : Fin 4) = t.val % 32 ∧ win0_1.index t (3 : Fin 4) = 0)
theorem at2_ : ∀ t : Fin cfg0.N, win0_2.index t (0 : Fin 4) = t.val / 32 ∧ win0_2.index t (1 : Fin 4) = 0 ∧ win0_2.index t (2 : Fin 4) = t.val % 32 ∧ win0_2.index t (3 : Fin 4) = 0 :=
  (by decide +kernel : ∀ t : Fin grid0.N, win0_2.index t (0 : Fin 4) = t.val / 32 ∧ win0_2.index t (1 : Fin 4) = 0 ∧ win0_2.index t (2 : Fin 4) = t.val % 32 ∧ win0_2.index t (3 : Fin 4) = 0)
theorem at3_ : ∀ t : Fin cfg0.N, win0_3.index t (0 : Fin 4) = t.val / 32 ∧ win0_3.index t (1 : Fin 4) = 0 ∧ win0_3.index t (2 : Fin 4) = t.val % 32 ∧ win0_3.index t (3 : Fin 4) = 0 :=
  (by decide +kernel : ∀ t : Fin grid0.N, win0_3.index t (0 : Fin 4) = t.val / 32 ∧ win0_3.index t (1 : Fin 4) = 0 ∧ win0_3.index t (2 : Fin 4) = t.val % 32 ∧ win0_3.index t (3 : Fin 4) = 0)
theorem at4_ : ∀ t : Fin cfg0.N, win0_4.index t (0 : Fin 4) = t.val / 32 ∧ win0_4.index t (1 : Fin 4) = 0 ∧ win0_4.index t (2 : Fin 4) = t.val % 32 ∧ win0_4.index t (3 : Fin 4) = 0 :=
  (by decide +kernel : ∀ t : Fin grid0.N, win0_4.index t (0 : Fin 4) = t.val / 32 ∧ win0_4.index t (1 : Fin 4) = 0 ∧ win0_4.index t (2 : Fin 4) = t.val % 32 ∧ win0_4.index t (3 : Fin 4) = 0)
theorem at5_ : ∀ t : Fin cfg0.N, win0_5.index t (0 : Fin 4) = t.val / 32 ∧ win0_5.index t (1 : Fin 4) = 0 ∧ win0_5.index t (2 : Fin 4) = t.val % 32 ∧ win0_5.index t (3 : Fin 4) = 0 :=
  (by decide +kernel : ∀ t : Fin grid0.N, win0_5.index t (0 : Fin 4) = t.val / 32 ∧ win0_5.index t (1 : Fin 4) = 0 ∧ win0_5.index t (2 : Fin 4) = t.val % 32 ∧ win0_5.index t (3 : Fin 4) = 0)
theorem at6_ : ∀ t : Fin cfg0.N, win0_6.index t (0 : Fin 4) = t.val / 32 ∧ win0_6.index t (1 : Fin 4) = 0 ∧ win0_6.index t (2 : Fin 4) = t.val % 32 ∧ win0_6.index t (3 : Fin 4) = 0 :=
  (by decide +kernel : ∀ t : Fin grid0.N, win0_6.index t (0 : Fin 4) = t.val / 32 ∧ win0_6.index t (1 : Fin 4) = 0 ∧ win0_6.index t (2 : Fin 4) = t.val % 32 ∧ win0_6.index t (3 : Fin 4) = 0)
theorem at7_ : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem at8_ : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem at9_ : ∀ t : Fin cfg0.N, win0_9.index t (0 : Fin 2) = t.val ∧ win0_9.index t (1 : Fin 2) = 1 :=
  (by decide +kernel : ∀ t : Fin grid0.N, win0_9.index t (0 : Fin 2) = t.val ∧ win0_9.index t (1 : Fin 2) = 1)
theorem at10_ : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem at11_ : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem at12_ : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem at13_ : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem at14_ : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
theorem at15_ : ∀ t : Fin cfg0.N, win0_15.index t (0 : Fin 3) = t.val / 32 ∧ win0_15.index t (1 : Fin 3) = 0 ∧ win0_15.index t (2 : Fin 3) = 0 :=
  (by decide +kernel : ∀ t : Fin grid0.N, win0_15.index t (0 : Fin 3) = t.val / 32 ∧ win0_15.index t (1 : Fin 3) = 0 ∧ win0_15.index t (2 : Fin 3) = 0)
theorem at16_ : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)
theorem at17_ : ∀ t : Fin cfg0.N, win0_17.index t (0 : Fin 2) = t.val ∧ win0_17.index t (1 : Fin 2) = 0 :=
  (by decide +kernel : ∀ t : Fin grid0.N, win0_17.index t (0 : Fin 2) = t.val ∧ win0_17.index t (1 : Fin 2) = 0)

theorem lt_of (t : Fin cfg0.N) : t.val < 64 := t.isLt

/-- Row `r` of tile `t`. -/
def row (t : Fin cfg0.N) (r : Fin 256) : Fin 16384 := ⟨t.val * 256 + r.val, by have := lt_of t; omega⟩

variable (m : (ℓ : Loc nD τ sig) → Buf (Elt Ideal) ℓ) (ρ : Dev nD → PrngReg)

/-! The blocks, at an index of the arrays. -/

theorem blk0 (c : Dev nD) (t : Fin cfg0.N) (r : Fin 256) (d : Fin 2048) : iblk m c 0 t (ix2 r d) = V m c main_arg0 (ix2 (row t r) d) := by
  have hi := at0_ t
  have ht := lt_of t
  refine congrArg (V m c main_arg0) (funext fun a => Fin.ext ?_)
  match a with
  | ⟨0, _⟩ => show win0_0.index t (0 : Fin 2) * 256 + 1 * r.val = t.val * 256 + r.val; omega
  | ⟨1, _⟩ => show win0_0.index t (1 : Fin 2) * 2048 + 1 * d.val = d.val; omega

theorem blk1 (c : Dev nD) (t : Fin cfg0.N) (h : Fin 4) (r : Fin 256) (e : Fin 128) : iblk m c 1 t (ix4 0 h r e) = V m c main_arg1 (ix4 (bat (row t r)) h (seq (row t r)) e) := by
  have hi := at1_ t
  have ht := lt_of t
  refine congrArg (V m c main_arg1) (funext fun a => Fin.ext ?_)
  match a with
  | ⟨0, _⟩ => show win0_1.index t (0 : Fin 4) * 1 + 1 * 0 = (t.val * 256 + r.val) / 8192; omega
  | ⟨1, _⟩ => show win0_1.index t (1 : Fin 4) * 4 + 1 * h.val = h.val; omega
  | ⟨2, _⟩ => show win0_1.index t (2 : Fin 4) * 256 + 1 * r.val = (t.val * 256 + r.val) % 8192; omega
  | ⟨3, _⟩ => show win0_1.index t (3 : Fin 4) * 128 + 1 * e.val = e.val; omega

theorem blk2 (c : Dev nD) (t : Fin cfg0.N) (h : Fin 4) (r : Fin 256) (e : Fin 128) : iblk m c 2 t (ix4 0 h r e) = V m c main_arg2 (ix4 (bat (row t r)) h (seq (row t r)) e) := by
  have hi := at2_ t
  have ht := lt_of t
  refine congrArg (V m c main_arg2) (funext fun a => Fin.ext ?_)
  match a with
  | ⟨0, _⟩ => show win0_2.index t (0 : Fin 4) * 1 + 1 * 0 = (t.val * 256 + r.val) / 8192; omega
  | ⟨1, _⟩ => show win0_2.index t (1 : Fin 4) * 4 + 1 * h.val = h.val; omega
  | ⟨2, _⟩ => show win0_2.index t (2 : Fin 4) * 256 + 1 * r.val = (t.val * 256 + r.val) % 8192; omega
  | ⟨3, _⟩ => show win0_2.index t (3 : Fin 4) * 128 + 1 * e.val = e.val; omega

theorem blk3 (c : Dev nD) (t : Fin cfg0.N) (h : Fin 4) (r : Fin 256) (e : Fin 128) : iblk m c 3 t (ix4 0 h r e) = V m c main_arg3 (ix4 (bat (row t r)) h (seq (row t r)) e) := by
  have hi := at3_ t
  have ht := lt_of t
  refine congrArg (V m c main_arg3) (funext fun a => Fin.ext ?_)
  match a with
  | ⟨0, _⟩ => show win0_3.index t (0 : Fin 4) * 1 + 1 * 0 = (t.val * 256 + r.val) / 8192; omega
  | ⟨1, _⟩ => show win0_3.index t (1 : Fin 4) * 4 + 1 * h.val = h.val; omega
  | ⟨2, _⟩ => show win0_3.index t (2 : Fin 4) * 256 + 1 * r.val = (t.val * 256 + r.val) % 8192; omega
  | ⟨3, _⟩ => show win0_3.index t (3 : Fin 4) * 128 + 1 * e.val = e.val; omega

theorem blk4 (c : Dev nD) (t : Fin cfg0.N) (h : Fin 4) (r : Fin 256) (e : Fin 128) : iblk m c 4 t (ix4 0 h r e) = V m c main_arg4 (ix4 (bat (row t r)) h (seq (row t r)) e) := by
  have hi := at4_ t
  have ht := lt_of t
  refine congrArg (V m c main_arg4) (funext fun a => Fin.ext ?_)
  match a with
  | ⟨0, _⟩ => show win0_4.index t (0 : Fin 4) * 1 + 1 * 0 = (t.val * 256 + r.val) / 8192; omega
  | ⟨1, _⟩ => show win0_4.index t (1 : Fin 4) * 4 + 1 * h.val = h.val; omega
  | ⟨2, _⟩ => show win0_4.index t (2 : Fin 4) * 256 + 1 * r.val = (t.val * 256 + r.val) % 8192; omega
  | ⟨3, _⟩ => show win0_4.index t (3 : Fin 4) * 128 + 1 * e.val = e.val; omega

theorem blk5 (c : Dev nD) (t : Fin cfg0.N) (h : Fin 4) (r : Fin 256) (e : Fin 128) : iblk m c 5 t (ix4 0 h r e) = V m c main_arg5 (ix4 (bat (row t r)) h (seq (row t r)) e) := by
  have hi := at5_ t
  have ht := lt_of t
  refine congrArg (V m c main_arg5) (funext fun a => Fin.ext ?_)
  match a with
  | ⟨0, _⟩ => show win0_5.index t (0 : Fin 4) * 1 + 1 * 0 = (t.val * 256 + r.val) / 8192; omega
  | ⟨1, _⟩ => show win0_5.index t (1 : Fin 4) * 4 + 1 * h.val = h.val; omega
  | ⟨2, _⟩ => show win0_5.index t (2 : Fin 4) * 256 + 1 * r.val = (t.val * 256 + r.val) % 8192; omega
  | ⟨3, _⟩ => show win0_5.index t (3 : Fin 4) * 128 + 1 * e.val = e.val; omega

theorem blk6 (c : Dev nD) (t : Fin cfg0.N) (h : Fin 4) (r : Fin 256) (e : Fin 128) : iblk m c 6 t (ix4 0 h r e) = V m c main_arg6 (ix4 (bat (row t r)) h (seq (row t r)) e) := by
  have hi := at6_ t
  have ht := lt_of t
  refine congrArg (V m c main_arg6) (funext fun a => Fin.ext ?_)
  match a with
  | ⟨0, _⟩ => show win0_6.index t (0 : Fin 4) * 1 + 1 * 0 = (t.val * 256 + r.val) / 8192; omega
  | ⟨1, _⟩ => show win0_6.index t (1 : Fin 4) * 4 + 1 * h.val = h.val; omega
  | ⟨2, _⟩ => show win0_6.index t (2 : Fin 4) * 256 + 1 * r.val = (t.val * 256 + r.val) % 8192; omega
  | ⟨3, _⟩ => show win0_6.index t (3 : Fin 4) * 128 + 1 * e.val = e.val; omega

theorem blk7 (c : Dev nD) (t : Fin cfg0.N) (r : Fin 256) (d : Fin 1024) : iblk m c 7 t (ix2 r d) = V m c main_arg7 (ix2 (row t r) d) := by
  have hi := at7_ t
  have ht := lt_of t
  refine congrArg (V m c main_arg7) (funext fun a => Fin.ext ?_)
  match a with
  | ⟨0, _⟩ => show win0_7.index t (0 : Fin 2) * 256 + 1 * r.val = t.val * 256 + r.val; omega
  | ⟨1, _⟩ => show win0_7.index t (1 : Fin 2) * 1024 + 1 * d.val = d.val; omega

theorem blk8 (c : Dev nD) (t : Fin cfg0.N) (r : Fin 256) (d : Fin 2048) : iblk m c 8 t (ix2 r d) = V m c main_arg8 (ix2 (row t r) ⟨d.val, by omega⟩) := by
  have hi := at8_ t
  have ht := lt_of t
  refine congrArg (V m c main_arg8) (funext fun a => Fin.ext ?_)
  match a with
  | ⟨0, _⟩ => show win0_8.index t (0 : Fin 2) * 256 + 1 * r.val = t.val * 256 + r.val; omega
  | ⟨1, _⟩ => show win0_8.index t (1 : Fin 2) * 2048 + 1 * d.val = d.val; omega

theorem blk9 (c : Dev nD) (t : Fin cfg0.N) (r : Fin 256) (d : Fin 2048) : iblk m c 9 t (ix2 r d) = V m c main_arg8 (ix2 (row t r) ⟨2048 + d.val, by omega⟩) := by
  have hi := at9_ t
  have ht := lt_of t
  refine congrArg (V m c main_arg8) (funext fun a => Fin.ext ?_)
  match a with
  | ⟨0, _⟩ => show win0_9.index t (0 : Fin 2) * 256 + 1 * r.val = t.val * 256 + r.val; omega
  | ⟨1, _⟩ => show win0_9.index t (1 : Fin 2) * 2048 + 1 * d.val = 2048 + d.val; omega

theorem blk10 (c : Dev nD) (t : Fin cfg0.N) (i : Fin 512) (d : Fin 2048) : iblk m c 10 t (ix2 i d) = V m c main_arg9 (ix2 i d) := by
  have hi := at10_ t
  have ht := lt_of t
  refine congrArg (V m c main_arg9) (funext fun a => Fin.ext ?_)
  match a with
  | ⟨0, _⟩ => show win0_10.index t (0 : Fin 2) * 512 + 1 * i.val = i.val; omega
  | ⟨1, _⟩ => show win0_10.index t (1 : Fin 2) * 2048 + 1 * d.val = d.val; omega

theorem blk11 (c : Dev nD) (t : Fin cfg0.N) (i : Fin 1024) (d : Fin 2048) : iblk m c 11 t (ix2 i d) = V m c main_arg10 (ix2 i d) := by
  have hi := at11_ t
  have ht := lt_of t
  refine congrArg (V m c main_arg10) (funext fun a => Fin.ext ?_)
  match a with
  | ⟨0, _⟩ => show win0_11.index t (0 : Fin 2) * 1024 + 1 * i.val = i.val; omega
  | ⟨1, _⟩ => show win0_11.index t (1 : Fin 2) * 2048 + 1 * d.val = d.val; omega

theorem blk12 (c : Dev nD) (t : Fin cfg0.N) (i : Fin 2048) (d : Fin 2048) : iblk m c 12 t (ix2 i d) = V m c main_arg11 (ix2 i d) := by
  have hi := at12_ t
  have ht := lt_of t
  refine congrArg (V m c main_arg11) (funext fun a => Fin.ext ?_)
  match a with
  | ⟨0, _⟩ => show win0_12.index t (0 : Fin 2) * 2048 + 1 * i.val = i.val; omega
  | ⟨1, _⟩ => show win0_12.index t (1 : Fin 2) * 2048 + 1 * d.val = d.val; omega

theorem blk13 (c : Dev nD) (t : Fin cfg0.N) (d : Fin 2048) : iblk m c 13 t (ix2 0 d) = V m c main_v0 (ix2 0 d) := by
  have hi := at13_ t
  have ht := lt_of t
  refine congrArg (V m c main_v0) (funext fun a => Fin.ext ?_)
  match a with
  | ⟨0, _⟩ => show win0_13.index t (0 : Fin 2) * 1 + 1 * 0 = 0; omega
  | ⟨1, _⟩ => show win0_13.index t (1 : Fin 2) * 2048 + 1 * d.val = d.val; omega

theorem blk14 (c : Dev nD) (t : Fin cfg0.N) (i : Fin 2048) (d : Fin 512) : iblk m c 14 t (ix2 i d) = V m c main_arg13 (ix2 i d) := by
  have hi := at14_ t
  have ht := lt_of t
  refine congrArg (V m c main_arg13) (funext fun a => Fin.ext ?_)
  match a with
  | ⟨0, _⟩ => show win0_14.index t (0 : Fin 2) * 2048 + 1 * i.val = i.val; omega
  | ⟨1, _⟩ => show win0_14.index t (1 : Fin 2) * 512 + 1 * d.val = d.val; omega

theorem blk15 (c : Dev nD) (t : Fin cfg0.N) (r : Fin 256) (j : Fin 256) (d : Fin 1024) : iblk m c 15 t (ix3 0 j d) = V m c main_arg14 (ix3 (bat (row t r)) j d) := by
  have hi := at15_ t
  have ht := lt_of t
  refine congrArg (V m c main_arg14) (funext fun a => Fin.ext ?_)
  match a with
  | ⟨0, _⟩ => show win0_15.index t (0 : Fin 3) * 1 + 1 * 0 = (t.val * 256 + r.val) / 8192; omega
  | ⟨1, _⟩ => show win0_15.index t (1 : Fin 3) * 256 + 1 * j.val = j.val; omega
  | ⟨2, _⟩ => show win0_15.index t (2 : Fin 3) * 1024 + 1 * d.val = d.val; omega

theorem blk16 (c : Dev nD) (t : Fin cfg0.N) (i : Fin 512) (d : Fin 2048) : iblk m c 16 t (ix2 i d) = V m c main_arg15 (ix2 i d) := by
  have hi := at16_ t
  have ht := lt_of t
  refine congrArg (V m c main_arg15) (funext fun a => Fin.ext ?_)
  match a with
  | ⟨0, _⟩ => show win0_16.index t (0 : Fin 2) * 512 + 1 * i.val = i.val; omega
  | ⟨1, _⟩ => show win0_16.index t (1 : Fin 2) * 2048 + 1 * d.val = d.val; omega

/-- The scale's row that the host reshapes. -/
theorem V_scale (c : Dev nD) (d : Fin 2048) : V m c main_v0 (ix2 0 d) = m ((c : Thread nD τ).loc main_arg12) (ix1 d) := by
  have e : V m c main_v0 = shapeCast S1x2048 (m ((c : Thread nD τ).loc main_arg12)) shapeCasts_S2048_S1x2048 := by
    show StableHlo.after hostOps0 _ _ = _
    after_results
    rfl
  rw [e]
  refine shapeCast_apply _ shapeCasts_S2048_S1x2048 (ix2 0 d) (ix1 d) ?_
  rw [Shape.rowMajor_val_one, Shape.rowMajor_val_two]
  show d.val = 0 * 2048 + d.val
  omega

/-- The array of `MergeSpec`, of the arguments. -/
abbrev outOf (c : Dev nD) : Res.Idx → EReal := spec (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

theorem row_eq (c : Dev nD) (t : Fin cfg0.N) (r : Fin 256) :
    rowB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) r
      = rowA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (row t r) := by
  unfold rowA rowB
  congr 1
  · funext d; rw [blk0, V_main_arg0]
  · funext g h e
    match g with
    | ⟨0, _⟩ => exact (blk1 m c t h r e).trans (by rw [V_main_arg1]; rfl)
    | ⟨1, _⟩ => exact (blk2 m c t h r e).trans (by rw [V_main_arg2]; rfl)
    | ⟨2, _⟩ => exact (blk3 m c t h r e).trans (by rw [V_main_arg3]; rfl)
  · funext g h e
    match g with
    | ⟨0, _⟩ => exact (blk4 m c t h r e).trans (by rw [V_main_arg4]; rfl)
    | ⟨1, _⟩ => exact (blk5 m c t h r e).trans (by rw [V_main_arg5]; rfl)
    | ⟨2, _⟩ => exact (blk6 m c t h r e).trans (by rw [V_main_arg6]; rfl)
  · funext d; rw [blk7, V_main_arg7]
  · funext d; rw [blk8, V_main_arg8]
  · funext d; rw [blk9, V_main_arg8]
  · funext i d; rw [blk10, V_main_arg9]
  · funext i d; rw [blk11, V_main_arg10]
  · funext i d; rw [blk12, V_main_arg11]
  · funext d; rw [blk13, V_scale]
  · funext i d; rw [blk14, V_main_arg13]
  · funext h j e; rw [blk15 m c t r, V_main_arg14]
  · funext h j e; rw [blk15 m c t r, V_main_arg14]
  · funext i d; rw [blk16, V_main_arg15]

theorem emb17 (t : Fin cfg0.N) (r : Fin 256) (d : Fin 2048) : ((cfg0.win 17).blk t).view.emb (ix2 r d : S256x2048.Idx) = (ix2 (row t r) d : S16384x2048.Idx) := by
  have hi := at17_ t
  refine funext fun a => Fin.ext ?_
  match a with
  | ⟨0, _⟩ => show win0_17.index t (0 : Fin 2) * 256 + 1 * r.val = t.val * 256 + r.val; omega
  | ⟨1, _⟩ => show win0_17.index t (1 : Fin 2) * 2048 + 1 * d.val = d.val; omega

theorem idx_eq (y : S256x2048.Idx) : ∃ (r : Fin 256) (d : Fin 2048), y = ix2 r d :=
  ⟨y 0, y 1, funext fun a => match a with
    | ⟨0, _⟩ => rfl
    | ⟨1, _⟩ => rfl⟩

theorem flushed_eq (c : Dev nD) (t : Fin cfg0.N) :
    (dats m 0 c).flushed 17 t = ((cfg0.win 17).blk t).view.read (Elt Ideal) (outOf m c) := by
  rw [flushed17]
  funext y
  obtain ⟨r, d, rfl⟩ := idx_eq y
  show out0_17 (F := Ideal) _ _ _ _ _ _ _ _ _ _ _ _ _ _ _ _ _ (ix2 r d) = outOf m c (((cfg0.win 17).blk t).view.emb (ix2 r d : S256x2048.Idx))
  rw [out_read, emb17, row_eq]
  rfl

theorem flush17 : ∀ t : Fin cfg0.N, (cfg0.win 17).flush t = true := (by decide +kernel : ∀ t : Fin grid0.N, win0_17.flush t = true)

theorem covered (i : S16384x2048.Idx) : ∃ t : Fin cfg0.N, (cfg0.win 17).flush t = true ∧ i ∈ ((cfg0.win 17).blk t).view.set := by
  have l0 : (i 0).val < 16384 := (i 0).isLt
  have hN : (i 0).val / 256 < cfg0.N := show (i 0).val / 256 < 64 by omega
  refine ⟨⟨(i 0).val / 256, hN⟩, flush17 _, ?_⟩
  have hm := ((cfg0.win 17).blk ⟨(i 0).val / 256, hN⟩).view.emb_mem_set (ix2 ⟨(i 0).val % 256, by omega⟩ (i 1) : S256x2048.Idx)
  have he : (ix2 (row ⟨(i 0).val / 256, hN⟩ ⟨(i 0).val % 256, by omega⟩) (i 1) : S16384x2048.Idx) = i := by
    funext a; apply Fin.ext
    match a with
    | ⟨0, _⟩ => show (i 0).val / 256 * 256 + (i 0).val % 256 = (i 0).val; omega
    | ⟨1, _⟩ => rfl
  exact Eq.mp (congrArg (fun z => z ∈ ((cfg0.win 17).blk ⟨(i 0).val / 256, hN⟩).view.set) ((emb17 ⟨(i 0).val / 256, hN⟩ ⟨(i 0).val % 256, by omega⟩ (i 1)).trans he)) hm

theorem final (c : Dev nD) : (dats m 0 c).arrAt 17 cfg0.N = outOf m c :=
  (dats m 0 c).arrAt_eq_of_cover 17 (outOf m c) (fun t _ => flushed_eq m c t) covered

end Cert.Proof.Merge

end
-- ==== Proof.MergeStages.lean ====
/- Hand-written. The merge's reference in stages. -/
module

public import proofs.«01_k».proof.Proof.Gen.MergeReferenceIdeal.Run
public import Idealize.ShloMosaic.Lib.Pointwise

@[expose] public section

noncomputable section

namespace Cert.Proof.Merge

open Cert.MergeReferenceIdeal Cert.MergeReferenceIdeal.Gen Idealize.ShloMosaic Idealize.ShloMosaic.TcCoe Idealize.SL.Sem

/-- Three groups stacked. -/
def stack (a b c : FVec Ideal S2x4x8192x128 .f32) : FVec Ideal S3x2x4x8192x128 .f32 :=
  concatenate S3x2x4x8192x128 0 [⟨S1x2x4x8192x128, broadcastInDim S1x2x4x8192x128 ![1, 2, 3, 4] bcast_S2x4x8192x128_S1x2x4x8192x128_1_2_3_4 a⟩,
    ⟨S1x2x4x8192x128, broadcastInDim S1x2x4x8192x128 ![1, 2, 3, 4] bcast_S2x4x8192x128_S1x2x4x8192x128_1_2_3_4 b⟩,
    ⟨S1x2x4x8192x128, broadcastInDim S1x2x4x8192x128 ![1, 2, 3, 4] bcast_S2x4x8192x128_S1x2x4x8192x128_1_2_3_4 c⟩]
    concatenates_S1x2x4x8192x128_S1x2x4x8192x128_S1x2x4x8192x128_S3x2x4x8192x128_d0

/-- An array of one group's shape repeated over the stack. -/
def over (a : FVec Ideal S2x4x8192x128 .f32) : FVec Ideal S3x2x4x8192x128 .f32 :=
  broadcastInDim S3x2x4x8192x128 ![0, 1, 2, 3, 4] bcast_S1x2x4x8192x128_S3x2x4x8192x128_0_1_2_3_4
    (broadcastInDim S1x2x4x8192x128 ![1, 2, 3, 4] bcast_S2x4x8192x128_S1x2x4x8192x128_1_2_3_4 a)

/-- The largest of the stack at each place. -/
def reds (s : FVec Ideal S3x2x4x8192x128 .f32) : FVec Ideal S2x4x8192x128 .f32 :=
  Host.reduce FloatOps.maximumf s (constant S_ .f32 0xFF800000#32) reducesTo_S3x2x4x8192x128_S2x4x8192x128_d0 h_S_

/-- The stack's largest, its exponentials, each less the largest, and its sum. -/
def tops (s : FVec Ideal S3x2x4x8192x128 .f32) : FVec Ideal S2x4x8192x128 .f32 :=
  maximumf (broadcastInDim S2x4x8192x128 ![] bcast_S_S2x4x8192x128 (constant S_ .f32 0xFF800000#32)) (reds s)
def exps (s : FVec Ideal S3x2x4x8192x128 .f32) : FVec Ideal S3x2x4x8192x128 .f32 := Host.exp (subf s (over (tops s)))
def sums (s : FVec Ideal S3x2x4x8192x128 .f32) : FVec Ideal S2x4x8192x128 .f32 :=
  Host.reduceAdd s (constant S_ .f32 0x00000000#32) reducesTo_S3x2x4x8192x128_S2x4x8192x128_d0 h_S_

/-- The groups mixed. -/
def mixS (s o : FVec Ideal S3x2x4x8192x128 .f32) : FVec Ideal S2x4x8192x128 .f32 :=
  sums (mulf (Host.divf (exps s) (over (sums (exps s)))) o)

/-- The heads side by side in each row. -/
def rows (a : FVec Ideal S2x4x8192x128 .f32) : FVec Ideal S16384x512 .f32 :=
  shapeCast _ (transpose S2x8192x4x128 [0, 2, 1, 3] a transposes_S2x4x8192x128_S2x8192x4x128_0_2_1_3) shapeCasts_S2x8192x4x128_S16384x512

/-- The rows after the output projection. -/
def resS (x : FVec Ideal S16384x2048 .f32) (a : FVec Ideal S16384x512 .f32) (y : FVec Ideal S16384x1024 .bf16) (g : FVec Ideal S16384x4096 .bf16)
    (ud : FVec Ideal S512x2048 .bf16) (um : FVec Ideal S1024x2048 .bf16) (wo : FVec Ideal S2048x2048 .bf16) : FVec Ideal S16384x2048 .f32 :=
  addf x (Host.dotGeneral dot_S16384x2048_S2048x2048_S16384x2048_1_0_0_1_n_n none
    (addf (mulf (extractStridedSlice S16384x2048 ![0, 0] (extf .f32 g bitsLt_bf16_f32) slices_S16384x4096_S16384x2048_0_0)
        (Host.dotGeneral dot_S16384x512_S512x2048_S16384x2048_1_0_0_1_n_n none a (extf .f32 ud bitsLt_bf16_f32)))
      (mulf (extractStridedSlice S16384x2048 ![0, 2048] (extf .f32 g bitsLt_bf16_f32) slices_S16384x4096_S16384x2048_0_2048)
        (Host.dotGeneral dot_S16384x1024_S1024x2048_S16384x2048_1_0_0_1_n_n none (extf .f32 y bitsLt_bf16_f32) (extf .f32 um bitsLt_bf16_f32))))
    (extf .f32 wo bitsLt_bf16_f32))

/-- The rows normed. -/
def nrmS (x : FVec Ideal S16384x2048 .f32) (g : FVec Ideal S2048 .f32) : FVec Ideal S16384x2048 .f32 :=
  mulf (mulf x (broadcastInDim S16384x2048 ![0, 1] bcast_S16384x1_S16384x2048_0_1
      (Host.rsqrt (addf (Host.divf (broadcastInDim S16384x1 ![0] bcast_S16384_S16384x1_0
          (Host.reduceAdd (mulf x x) (constant S_ .f32 0x00000000#32) reducesTo_S16384x2048_S16384_d1 h_S_))
        (broadcastInDim S16384x1 ![] bcast_S_S16384x1 (constant S_ .f32 0x45000000#32)))
        (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g))

/-- The queries. -/
def qS (x : FVec Ideal S16384x2048 .f32) (w : FVec Ideal S2048x512 .bf16) : FVec Ideal S2x8192x4x128 .f32 :=
  shapeCast _ (Host.dotGeneral dot_S16384x2048_S2048x512_S16384x512_1_0_0_1_n_n none x (extf .f32 w bitsLt_bf16_f32)) shapeCasts_S16384x512_S2x8192x4x128

/-- The memory's keys and its values. -/
def kvS (kv : FVec Ideal S2x256x1024 .bf16) : FVec Ideal S2x256x2x4x128 .f32 :=
  shapeCast _ (extf .f32 kv bitsLt_bf16_f32) shapeCasts_S2x256x1024_S2x256x2x4x128
def kS (kv : FVec Ideal S2x256x1024 .bf16) : FVec Ideal S2x256x4x128 .f32 :=
  shapeCast _ (extractStridedSlice S2x256x1x4x128 ![0, 0, 0, 0, 0] (kvS kv) slices_S2x256x2x4x128_S2x256x1x4x128_0_0_0_0_0) shapeCasts_S2x256x1x4x128_S2x256x4x128
def vS (kv : FVec Ideal S2x256x1024 .bf16) : FVec Ideal S2x256x4x128 .f32 :=
  shapeCast _ (extractStridedSlice S2x256x1x4x128 ![0, 0, 1, 0, 0] (kvS kv) slices_S2x256x2x4x128_S2x256x1x4x128_0_0_1_0_0) shapeCasts_S2x256x1x4x128_S2x256x4x128

/-- The scores, their exponentials and the weighted values. -/
def scS (q : FVec Ideal S2x8192x4x128 .f32) (k : FVec Ideal S2x256x4x128 .f32) : FVec Ideal S2x4x8192x256 .f32 :=
  mulf (Host.dotGeneral dot_S2x8192x4x128_S2x256x4x128_S2x4x8192x256_3_3_1_1_02_02 none q k)
    (broadcastInDim S2x4x8192x256 ![] bcast_S_S2x4x8192x256 (constant S_ .f32 0x3DB504F3#32))
def topS (s : FVec Ideal S2x4x8192x256 .f32) : FVec Ideal S2x4x8192 .f32 :=
  Host.reduce FloatOps.maximumf s (constant S_ .f32 0xFF800000#32) reducesTo_S2x4x8192x256_S2x4x8192_d3 h_S_
def exS (s : FVec Ideal S2x4x8192x256 .f32) : FVec Ideal S2x4x8192x256 .f32 :=
  Host.exp (subf s (broadcastInDim S2x4x8192x256 ![0, 1, 2, 3] bcast_S2x4x8192x1_S2x4x8192x256_0_1_2_3
    (broadcastInDim S2x4x8192x1 ![0, 1, 2] bcast_S2x4x8192_S2x4x8192x1_0_1_2 (topS s))))
def sumS (s : FVec Ideal S2x4x8192x256 .f32) : FVec Ideal S2x4x8192 .f32 :=
  Host.reduceAdd s (constant S_ .f32 0x00000000#32) reducesTo_S2x4x8192x256_S2x4x8192_d3 h_S_
def avgS (s : FVec Ideal S2x4x8192x256 .f32) (v : FVec Ideal S2x256x4x128 .f32) : FVec Ideal S2x4x8192x128 .f32 :=
  Host.divf (Host.dotGeneral dot_S2x4x8192x256_S2x256x4x128_S2x4x8192x128_3_1_2_3_01_02 none (exS s) v)
    (broadcastInDim S2x4x8192x128 ![0, 1, 2, 3] bcast_S2x4x8192x1_S2x4x8192x128_0_1_2_3
      (broadcastInDim S2x4x8192x1 ![0, 1, 2] bcast_S2x4x8192_S2x4x8192x1_0_1_2 (sumS (exS s))))

/-- The heads' results projected and added to the rows. -/
def endS (x : FVec Ideal S16384x2048 .f32) (a : FVec Ideal S16384x512 .f32) (w : FVec Ideal S512x2048 .bf16) : FVec Ideal S16384x2048 .f32 :=
  addf x (Host.dotGeneral dot_S16384x512_S512x2048_S16384x2048_1_0_0_1_n_n none a (extf .f32 w bitsLt_bf16_f32))

/-- The rest of the call, from the rows after the output projection. -/
def tailS (x : FVec Ideal S16384x2048 .f32) (g : FVec Ideal S2048 .f32) (wq : FVec Ideal S2048x512 .bf16) (kv : FVec Ideal S2x256x1024 .bf16)
    (wc : FVec Ideal S512x2048 .bf16) : FVec Ideal S16384x2048 .f32 :=
  endS x (rows (avgS (scS (qS (nrmS x g) wq) (kS kv)) (vS kv))) wc

open Cert.MergeReferenceIdeal.Value

set_option maxRecDepth 8192 in
theorem res_total (m : (ℓ : Loc nD τ sig) → Buf (Elt Ideal) ℓ) (c : Dev nD) : res_main_v76 m c
    = tailS (resS (m ((c.tc : Thread nD τ).loc main_arg0))
        (rows (mixS (stack (m ((c.tc : Thread nD τ).loc main_arg4)) (m ((c.tc : Thread nD τ).loc main_arg5)) (m ((c.tc : Thread nD τ).loc main_arg6)))
          (stack (m ((c.tc : Thread nD τ).loc main_arg1)) (m ((c.tc : Thread nD τ).loc main_arg2)) (m ((c.tc : Thread nD τ).loc main_arg3)))))
        (m ((c.tc : Thread nD τ).loc main_arg7)) (m ((c.tc : Thread nD τ).loc main_arg8)) (m ((c.tc : Thread nD τ).loc main_arg9))
        (m ((c.tc : Thread nD τ).loc main_arg10)) (m ((c.tc : Thread nD τ).loc main_arg11)))
      (m ((c.tc : Thread nD τ).loc main_arg12)) (m ((c.tc : Thread nD τ).loc main_arg13)) (m ((c.tc : Thread nD τ).loc main_arg14))
      (m ((c.tc : Thread nD τ).loc main_arg15)) := by
  unfold res_main_v76; rfl

end Cert.Proof.Merge

end
-- ==== Proof.MergeReads.lean ====
/- Hand-written. The stages of the merge's reference, read at an index. -/
module

public import proofs.«01_k».proof.Proof.MergeStages
public import proofs.«01_k».proof.Proof.MergeSpec
public import Idealize.ShloMosaic.Lib.Pointwise

@[expose] public section

noncomputable section

namespace Cert.Proof.Merge

open Cert.MergeReferenceIdeal Cert.MergeReferenceIdeal.Gen Idealize.ShloMosaic Idealize.ShloMosaic.TcCoe

theorem stack0 (a b c : FVec Ideal S2x4x8192x128 .f32) (n : Fin 2) (h : Fin 4) (s : Fin 8192) (e : Fin 128) : stack a b c (ix5 0 n h s e) = a (ix4 n h s e) := by
  pointwise [stack]
theorem stack1 (a b c : FVec Ideal S2x4x8192x128 .f32) (n : Fin 2) (h : Fin 4) (s : Fin 8192) (e : Fin 128) : stack a b c (ix5 1 n h s e) = b (ix4 n h s e) := by
  pointwise [stack]
theorem stack2 (a b c : FVec Ideal S2x4x8192x128 .f32) (n : Fin 2) (h : Fin 4) (s : Fin 8192) (e : Fin 128) : stack a b c (ix5 2 n h s e) = c (ix4 n h s e) := by
  pointwise [stack]

theorem over_apply (a : FVec Ideal S2x4x8192x128 .f32) (g : Fin 3) (n : Fin 2) (h : Fin 4) (s : Fin 8192) (e : Fin 128) :
    over a (ix5 g n h s e) = a (ix4 n h s e) := by
  pointwise [over]

theorem fold3 (f : Fin 3 → EReal) : Finset.univ.fold max (⊥ : EReal) f = top3 (f 0) (f 1) (f 2) := by
  rw [show (Finset.univ : Finset (Fin 3)) = {0, 1, 2} from rfl, Finset.fold_insert (by decide), Finset.fold_insert (by decide), Finset.fold_singleton]
  unfold top3
  rw [max_eq_left bot_le, max_assoc]

theorem reds_apply (t : FVec Ideal S3x2x4x8192x128 .f32) (n : Fin 2) (h : Fin 4) (s : Fin 8192) (e : Fin 128) :
    reds t (ix4 n h s e) = Finset.univ.fold max (⊥ : EReal) fun g : Fin 3 => t (ix5 g n h s e) := by
  pointwise [reds]
  rw [neg_inf]

theorem max_const {t : Shape} (a b : FVec Ideal t .f32) (i : t.Idx) : maximumf a b i = max (a i) (b i) := rfl

theorem low_apply (i : S2x4x8192x128.Idx) :
    broadcastInDim S2x4x8192x128 ![] bcast_S_S2x4x8192x128 (constant (F := Ideal) S_ .f32 0xFF800000#32) i = (⊥ : EReal) := neg_inf

theorem tops_apply (t : FVec Ideal S3x2x4x8192x128 .f32) (n : Fin 2) (h : Fin 4) (s : Fin 8192) (e : Fin 128) :
    tops t (ix4 n h s e) = top3 (t (ix5 0 n h s e)) (t (ix5 1 n h s e)) (t (ix5 2 n h s e)) := by
  unfold tops
  rw [max_const, low_apply, max_eq_right bot_le, reds_apply]
  exact fold3 _

theorem exps_apply (t : FVec Ideal S3x2x4x8192x128 .f32) (g : Fin 3) (n : Fin 2) (h : Fin 4) (s : Fin 8192) (e : Fin 128) :
    exps t (ix5 g n h s e) = Ideal.exp (t (ix5 g n h s e) - tops t (ix4 n h s e)) := by
  pointwise [exps, over_apply]

theorem sums_apply (t : FVec Ideal S3x2x4x8192x128 .f32) (n : Fin 2) (h : Fin 4) (s : Fin 8192) (e : Fin 128) :
    sums t (ix4 n h s e) = t (ix5 0 n h s e) + t (ix5 1 n h s e) + t (ix5 2 n h s e) := by
  rw [← Fin.sum_univ_three fun g => t (ix5 g n h s e)]
  pointwise [sums]

theorem mixS_apply (t u : FVec Ideal S3x2x4x8192x128 .f32) (n : Fin 2) (h : Fin 4) (s : Fin 8192) (e : Fin 128) :
    mixS t u (ix4 n h s e) = mix (t (ix5 0 n h s e)) (t (ix5 1 n h s e)) (t (ix5 2 n h s e)) (u (ix5 0 n h s e)) (u (ix5 1 n h s e)) (u (ix5 2 n h s e)) := by
  unfold mixS
  rw [sums_apply]
  pointwise [over_apply, sums_apply, exps_apply, tops_apply, mix, den3]

theorem rows_apply (a : FVec Ideal S2x4x8192x128 .f32) (i : Fin 16384) (c : Fin 512) : rows a (ix2 i c) = a (ix4 (bat i) (hd c) (seq i) (ln c)) := by
  unfold rows
  refine (shapeCast_apply _ shapeCasts_S2x8192x4x128_S16384x512 (ix2 i c) (ix4 (bat i) (seq i) (hd c) (ln c)) ?_).trans ?_
  · rw [Shape.rowMajor_val_four, Shape.rowMajor_val_two]
    show ((i.val / 8192 * 8192 + i.val % 8192) * 4 + c.val / 128) * 128 + c.val % 128 = i.val * 512 + c.val
    omega
  · pointwise []

theorem resS_apply (x : FVec Ideal S16384x2048 .f32) (a : FVec Ideal S16384x512 .f32) (y : FVec Ideal S16384x1024 .bf16) (g : FVec Ideal S16384x4096 .bf16)
    (ud : FVec Ideal S512x2048 .bf16) (um : FVec Ideal S1024x2048 .bf16) (wo : FVec Ideal S2048x2048 .bf16) (i : Fin 16384) (d : Fin 2048) :
    resS x a y g ud um wo (ix2 i d) = x (ix2 i d) + ∑ j : Fin 2048, (g (ix2 i ⟨j.val, by omega⟩) * (∑ c : Fin 512, a (ix2 i c) * ud (ix2 c j))
      + g (ix2 i ⟨2048 + j.val, by omega⟩) * ∑ c : Fin 1024, y (ix2 i c) * um (ix2 c j)) * wo (ix2 j d) := by
  pointwise [resS]

theorem nrmS_apply (x : FVec Ideal S16384x2048 .f32) (g : FVec Ideal S2048 .f32) (i : Fin 16384) (d : Fin 2048) :
    nrmS x g (ix2 i d) = x (ix2 i d) * Ideal.rsqrt (Ideal.div (∑ j : Fin 2048, x (ix2 i j) * x (ix2 i j)) (Ideal.ofBits .f32 0x45000000#32)
      + Ideal.ofBits .f32 0x358637BD#32) * g (ix1 d) := by
  pointwise [nrmS]

theorem qS_apply (x : FVec Ideal S16384x2048 .f32) (w : FVec Ideal S2048x512 .bf16) (i : Fin 16384) (h : Fin 4) (e : Fin 128) :
    qS x w (ix4 (bat i) (seq i) h e) = ∑ d : Fin 2048, x (ix2 i d) * w (ix2 d (col h e)) := by
  unfold qS
  refine (shapeCast_apply _ shapeCasts_S16384x512_S2x8192x4x128 (ix4 (bat i) (seq i) h e) (ix2 i (col h e)) ?_).trans ?_
  · rw [Shape.rowMajor_val_four, Shape.rowMajor_val_two]
    show i.val * 512 + (h.val * 128 + e.val) = ((i.val / 8192 * 8192 + i.val % 8192) * 4 + h.val) * 128 + e.val
    omega
  · pointwise []

theorem kvS_apply (kv : FVec Ideal S2x256x1024 .bf16) (n : Fin 2) (j : Fin 256) (p : Fin 2) (h : Fin 4) (e : Fin 128) :
    kvS kv (ix5 n j p h e) = kv (ix3 n j ⟨p.val * 512 + h.val * 128 + e.val, by omega⟩) := by
  unfold kvS
  refine (shapeCast_apply _ shapeCasts_S2x256x1024_S2x256x2x4x128 (ix5 n j p h e) (ix3 n j ⟨p.val * 512 + h.val * 128 + e.val, by omega⟩) ?_).trans ?_
  · rw [Shape.rowMajor_val_five, Shape.rowMajor_val_three]
    show (n.val * 256 + j.val) * 1024 + (p.val * 512 + h.val * 128 + e.val) = (((n.val * 256 + j.val) * 2 + p.val) * 4 + h.val) * 128 + e.val
    omega
  · pointwise []

theorem kS_apply (kv : FVec Ideal S2x256x1024 .bf16) (n : Fin 2) (j : Fin 256) (h : Fin 4) (e : Fin 128) : kS kv (ix4 n j h e) = kv (ix3 n j (kcol h e)) := by
  unfold kS
  refine (shapeCast_apply _ shapeCasts_S2x256x1x4x128_S2x256x4x128 (ix4 n j h e) (ix5 n j 0 h e) ?_).trans ?_
  · rw [Shape.rowMajor_val_five, Shape.rowMajor_val_four]
    show (((n.val * 256 + j.val) * 1 + 0) * 4 + h.val) * 128 + e.val = ((n.val * 256 + j.val) * 4 + h.val) * 128 + e.val
    omega
  · pointwise [kvS_apply, kcol]

theorem vS_apply (kv : FVec Ideal S2x256x1024 .bf16) (n : Fin 2) (j : Fin 256) (h : Fin 4) (e : Fin 128) : vS kv (ix4 n j h e) = kv (ix3 n j (vcol h e)) := by
  unfold vS
  refine (shapeCast_apply _ shapeCasts_S2x256x1x4x128_S2x256x4x128 (ix4 n j h e) (ix5 n j 0 h e) ?_).trans ?_
  · rw [Shape.rowMajor_val_five, Shape.rowMajor_val_four]
    show (((n.val * 256 + j.val) * 1 + 0) * 4 + h.val) * 128 + e.val = ((n.val * 256 + j.val) * 4 + h.val) * 128 + e.val
    omega
  · pointwise [kvS_apply, vcol]

theorem scS_apply (q : FVec Ideal S2x8192x4x128 .f32) (k : FVec Ideal S2x256x4x128 .f32) (n : Fin 2) (h : Fin 4) (s : Fin 8192) (j : Fin 256) :
    scS q k (ix4 n h s j) = (∑ e : Fin 128, q (ix4 n s h e) * k (ix4 n j h e)) * Ideal.ofBits .f32 0x3DB504F3#32 := by
  pointwise [scS]

theorem topS_apply (t : FVec Ideal S2x4x8192x256 .f32) (n : Fin 2) (h : Fin 4) (s : Fin 8192) : topS t (ix3 n h s) = top fun j => t (ix4 n h s j) := by
  pointwise [topS, top]
  rw [neg_inf]

theorem exS_apply (t : FVec Ideal S2x4x8192x256 .f32) (n : Fin 2) (h : Fin 4) (s : Fin 8192) (j : Fin 256) :
    exS t (ix4 n h s j) = ex (fun j => t (ix4 n h s j)) j := by
  pointwise [exS, ex, topS_apply]

theorem sumS_apply (t : FVec Ideal S2x4x8192x256 .f32) (n : Fin 2) (h : Fin 4) (s : Fin 8192) : sumS t (ix3 n h s) = ∑ j : Fin 256, t (ix4 n h s j) := by
  pointwise [sumS]

theorem avgS_apply (t : FVec Ideal S2x4x8192x256 .f32) (v : FVec Ideal S2x256x4x128 .f32) (n : Fin 2) (h : Fin 4) (s : Fin 8192) (e : Fin 128) :
    avgS t v (ix4 n h s e) = avg (fun j => t (ix4 n h s j)) fun j => v (ix4 n j h e) := by
  pointwise [avgS, avg, exS_apply, sumS_apply]

theorem endS_apply (x : FVec Ideal S16384x2048 .f32) (a : FVec Ideal S16384x512 .f32) (w : FVec Ideal S512x2048 .bf16) (i : Fin 16384) (d : Fin 2048) :
    endS x a w (ix2 i d) = x (ix2 i d) + ∑ c : Fin 512, a (ix2 i c) * w (ix2 c d) := by
  pointwise [endS]

end Cert.Proof.Merge

end
-- ==== Proof.MergeRef.lean ====
/- Hand-written. The merge's reference, as the array of `MergeSpec`. -/
module

public import proofs.«01_k».proof.Proof.MergeReads

@[expose] public section

noncomputable section

namespace Cert.Proof.Merge

open Cert.MergeReferenceIdeal Cert.MergeReferenceIdeal.Gen Idealize.ShloMosaic Idealize.ShloMosaic.TcCoe

section

variable (x : FVec Ideal S16384x2048 .f32) (o0 o1 o2 l0 l1 l2 : FVec Ideal S2x4x8192x128 .f32) (y : FVec Ideal S16384x1024 .bf16)
  (g : FVec Ideal S16384x4096 .bf16) (ud : FVec Ideal S512x2048 .bf16) (um : FVec Ideal S1024x2048 .bf16) (wo : FVec Ideal S2048x2048 .bf16)
  (gn : FVec Ideal S2048 .f32) (wq : FVec Ideal S2048x512 .bf16) (kv : FVec Ideal S2x256x1024 .bf16) (wc : FVec Ideal S512x2048 .bf16)

/-- The rows after the output projection, of the arguments. -/
def resT : FVec Ideal S16384x2048 .f32 := resS x (rows (mixS (stack l0 l1 l2) (stack o0 o1 o2))) y g ud um wo

/-- What row `i` reads. -/
def rowT (i : Fin 16384) : Row := rowA x o0 o1 o2 l0 l1 l2 y g ud um wo gn wq kv wc i

theorem mixed_host (i : Fin 16384) (h : Fin 4) (e : Fin 128) :
    mixS (stack l0 l1 l2) (stack o0 o1 o2) (ix4 (bat i) h (seq i) e) = (rowT x o0 o1 o2 l0 l1 l2 y g ud um wo gn wq kv wc i).mixed h e := by
  rw [mixS_apply, stack0, stack1, stack2, stack0, stack1, stack2]
  rfl

theorem res_host (i : Fin 16384) (d : Fin 2048) :
    resT x o0 o1 o2 l0 l1 l2 y g ud um wo (ix2 i d) = (rowT x o0 o1 o2 l0 l1 l2 y g ud um wo gn wq kv wc i).res d := by
  unfold resT
  rw [resS_apply]
  simp only [rows_apply, mixed_host x o0 o1 o2 l0 l1 l2 y g ud um wo gn wq kv wc]
  rfl

theorem nrm_host (i : Fin 16384) (d : Fin 2048) :
    nrmS (resT x o0 o1 o2 l0 l1 l2 y g ud um wo) gn (ix2 i d) = (rowT x o0 o1 o2 l0 l1 l2 y g ud um wo gn wq kv wc i).nrm d := by
  rw [nrmS_apply]
  simp only [res_host x o0 o1 o2 l0 l1 l2 y g ud um wo gn wq kv wc]
  rfl

theorem q_host (i : Fin 16384) (h : Fin 4) (e : Fin 128) :
    qS (nrmS (resT x o0 o1 o2 l0 l1 l2 y g ud um wo) gn) wq (ix4 (bat i) (seq i) h e) = (rowT x o0 o1 o2 l0 l1 l2 y g ud um wo gn wq kv wc i).q h e := by
  rw [qS_apply]
  simp only [nrm_host x o0 o1 o2 l0 l1 l2 y g ud um wo gn wq kv wc]
  rfl

theorem sc_host (i : Fin 16384) (h : Fin 4) (j : Fin 256) :
    scS (qS (nrmS (resT x o0 o1 o2 l0 l1 l2 y g ud um wo) gn) wq) (kS kv) (ix4 (bat i) h (seq i) j)
      = (rowT x o0 o1 o2 l0 l1 l2 y g ud um wo gn wq kv wc i).sc h j := by
  rw [scS_apply]
  simp only [q_host x o0 o1 o2 l0 l1 l2 y g ud um wo gn wq kv wc, kS_apply]
  rfl

theorem seen_host (i : Fin 16384) (h : Fin 4) (e : Fin 128) :
    avgS (scS (qS (nrmS (resT x o0 o1 o2 l0 l1 l2 y g ud um wo) gn) wq) (kS kv)) (vS kv) (ix4 (bat i) h (seq i) e)
      = (rowT x o0 o1 o2 l0 l1 l2 y g ud um wo gn wq kv wc i).seen h e := by
  rw [avgS_apply]
  simp only [sc_host x o0 o1 o2 l0 l1 l2 y g ud um wo gn wq kv wc, vS_apply]
  rfl

/-- The reference's result is the array of `MergeSpec`. -/
theorem tail_eq : tailS (resT x o0 o1 o2 l0 l1 l2 y g ud um wo) gn wq kv wc = spec x o0 o1 o2 l0 l1 l2 y g ud um wo gn wq kv wc := by
  funext i
  obtain ⟨r, d, rfl⟩ : ∃ (r : Fin 16384) (d : Fin 2048), i = ix2 r d :=
    ⟨i 0, i 1, funext fun a => match a with
      | ⟨0, _⟩ => rfl
      | ⟨1, _⟩ => rfl⟩
  unfold tailS
  rw [endS_apply]
  simp only [rows_apply, seen_host x o0 o1 o2 l0 l1 l2 y g ud um wo gn wq kv wc, res_host x o0 o1 o2 l0 l1 l2 y g ud um wo gn wq kv wc]
  rfl

end

end Cert.Proof.Merge

end
-- ==== Proof.MergeSame.lean ====
/- Hand-written. The merge's kernel and the reference end in the same array: that of `MergeSpec`. -/
module

public import proofs.«01_k».proof.Defs
public import proofs.«01_k».proof.Proof.MergeArray
public import proofs.«01_k».proof.Proof.MergeRef
public import proofs.«01_k».proof.Proof.Gen.Merge.Frame

@[expose] public section

noncomputable section

namespace Cert.Proof.Merge

open Idealize.ShloMosaic Idealize.ShloMosaic.TcCoe Idealize.SL.Sem

attribute [local instance] Cert.Merge.Gen.facts Cert.MergeIdeal.Gen.facts Cert.MergeReferenceIdeal.Gen.facts

theorem host_frame : Cert.quiescent_MergeReferenceIdeal := fun m ρ _ =>
  (θ_run Cert.MergeReferenceIdeal.defs _ _).mono (fun r h => ⟨fun c => (h c).2, sem_eq_zero_of_no_sems (by decide) r.2⟩)
    (Cert.MergeReferenceIdeal.Value.run (F := Ideal) m ρ)

theorem same : Cert.algebraic_MergeIdeal_MergeReferenceIdeal := fun m ρ m' ρ' _ hm => by
  refine ⟨fun c => outOf m c,
    (θ_run Cert.MergeIdeal.defs _ _).mono (fun r hr c => ⟨(hr c).1.trans (final m c), (hr c).2⟩) (Cert.MergeIdeal.Value.run_blocks m ρ),
    (θ_run Cert.MergeReferenceIdeal.defs _ _).mono (fun r hr c => ⟨?_, (hr c).2⟩)
      (Cert.MergeReferenceIdeal.Value.run (F := Ideal) m' ρ')⟩
  obtain ⟨e0, e1, e2, e3, e4, e5, e6, e7, e8, e9, e10, e11, e12, e13, e14, e15⟩ := hm c
  refine ((hr c).1.trans (res_total m' c)).trans ?_
  rw [e0, e1, e2, e3, e4, e5, e6, e7, e8, e9, e10, e11, e12, e13, e14, e15]
  exact tail_eq _ _ _ _ _ _ _ _ _ _ _ _ _ _ _ _

end Cert.Proof.Merge

end
-- ==== Proof.MemorySpec.lean ====
/- Hand-written. The norm of the memory and its projection to keys and values, as formulas in the extended reals. -/
module

public import Idealize.ShloMosaic.Lib.Pointwise

@[expose] public section

noncomputable section

namespace Cert.Proof.Memory

open Idealize.ShloMosaic

/-- A row of 2048 values normed and scaled. -/
def nrm (x g : Fin 2048 → EReal) (d : Fin 2048) : EReal :=
  x d * Ideal.rsqrt (Ideal.div (∑ j, x j * x j) (Ideal.ofBits .f32 0x45000000#32) + Ideal.ofBits .f32 0x358637BD#32) * g d

/-- The batch entry of one of the memory's 512 rows, and its place there. -/
def bat (i : Fin 512) : Fin 2 := ⟨i.val / 256, by omega⟩
def pos (i : Fin 512) : Fin 256 := ⟨i.val % 256, by omega⟩

abbrev Mem : Shape := ⟨3, ![2, 256, 2048]⟩
abbrev Vct : Shape := ⟨1, ![2048]⟩
abbrev Wts : Shape := ⟨2, ![2048, 1024]⟩
abbrev Out : Shape := ⟨2, ![512, 1024]⟩

/-- One entry of the projection. -/
def entry (x : Mem.Idx → EReal) (g : Vct.Idx → EReal) (w : Wts.Idx → EReal) (i : Fin 512) (n : Fin 1024) : EReal :=
  ∑ d : Fin 2048, nrm (fun j => x (ix3 (bat i) (pos i) j)) (fun j => g (ix1 j)) d * w (ix2 d n)

/-- The array that the call leaves. -/
def spec (x : Mem.Idx → EReal) (g : Vct.Idx → EReal) (w : Wts.Idx → EReal) : Out.Idx → EReal := fun i => entry x g w (i 0) (i 1)

end Cert.Proof.Memory

end
-- ==== Proof.MemoryTile.lean ====
/- Hand-written. What the memory's kernel leaves at a point: the first point norms the rows and keeps them, both points multiply
   the rows that are kept by their block of the weights. -/
module

public import Idealize.ShloMosaic.Lib.Pipeline.ValueKit.Basic
public import proofs.«01_k».proof.Proof.Gen.MemoryIdeal.Value
public import proofs.«01_k».proof.Proof.MemorySpec
public import Idealize.ShloMosaic.Lib.Pointwise

@[expose] public section

noncomputable section

namespace Cert.Proof.Memory

open Cert.MemoryIdeal Cert.MemoryIdeal.Gen Idealize.ShloMosaic Idealize.ShloMosaic.TcCoe Idealize.ShloMosaic.Tactic

theorem zero2 : (![0, 0] : Fin 2 → Nat) = fun _ => 0 := by
  funext a
  match a with
  | ⟨0, _⟩ => rfl
  | ⟨1, _⟩ => rfl

/-- What the point stored over all the kept rows is what it then reads. -/
theorem back (v : View sig .tc .vmem S512x2048 .bf16) (w : Vec Ideal S512x2048 .bf16) :
    v.readCov (Val := Elt Ideal) [⟨Rect.unit ![0, 0] ![512, 2048] inb_S512x2048_S512x2048_0_0, w⟩]
      (Rect.unit (s := S512x2048) ![0, 0] ![512, 2048] inb_S512x2048_S512x2048_0_0).toLoadRect = w :=
  View.readCov_unit_zero (Val := Elt Ideal) (S := S512x2048) v zero2 inb_S512x2048_S512x2048_0_0 w

section

variable (c : Dev nD) (i : grid0.Coords) (a2 : Memref sig .tc .vmem S512x2048 .f32) (h2 : a2.IsWhole) (a3 : Memref sig .tc .vmem S1x2048 .f32)
  (h3 : a3.IsWhole) (a4 : Memref sig .tc .vmem S2048x512 .bf16) (h4 : a4.IsWhole) (a5 : Memref sig .tc .vmem S512x512 .bf16) (h5 : a5.IsWhole)
  (a6 : Memref sig .tc .vmem S512x2048 .bf16) (h6 : a6.IsWhole) (x0 : Vec Ideal S512x2048 .f32) (x1 : Vec Ideal S1x2048 .f32)
  (x2 : Vec Ideal S2048x512 .bf16)

theorem kept_eq (hc : cond0_0 i) : sout0_A_0 (F := Ideal) c i a2 h2 a3 h3 a4 h4 a5 h5 a6 h6 hc x0 x1 x2 = k0_pay1 x0 x1 := by
  unfold sout0_A_0
  rw [View.read_writes_junk_eq_canon]
  unfold kernelRun0_A
  dsimp only
  sl_unfold_words
  simp only [View.readAt_eq_ld, h2.read_unread, h3.read_unread, h4.read_unread, h6.read_unread]
  rw [View.canon_unit_zero zero2, View.ld_unit_zero zero2, View.ld_unit_zero zero2]

theorem first_eq (hc : cond0_0 i) : out0_A_3 (F := Ideal) c i a2 h2 a3 h3 a4 h4 a5 h5 a6 h6 hc x0 x1 x2 = k0_pay2 (k0_pay1 x0 x1) x2 := by
  unfold out0_A_3
  rw [View.read_writes_junk_eq_canon]
  unfold kernelRun0_A
  dsimp only
  sl_unfold_words
  simp only [View.readAt_eq_ld, h2.read_unread, h3.read_unread, h4.read_unread, h6.read_unread]
  rw [View.canon_unit_zero zero2, View.ld_unit_zero zero2, View.ld_unit_zero zero2]
  rw [back, View.ld_unit_zero zero2]

theorem next_eq (hc : ¬cond0_0 i) (xs : Vec Ideal S512x2048 .bf16) : out0_B_3 (F := Ideal) c i a2 h2 a3 h3 a4 h4 a5 h5 a6 h6 hc x0 x1 x2 xs = k0_pay2 xs x2 := by
  unfold out0_B_3
  rw [View.read_writes_junk_eq_canon]
  unfold kernelRun0_B
  dsimp only
  sl_unfold_words
  simp only [View.readAt_eq_ld, h2.read_unread, h3.read_unread, h4.read_unread, h6.read_unread]
  rw [View.canon_unit_zero zero2, View.ld_unit_zero zero2, View.ld_unit_zero zero2]

end

theorem pay1_apply (x : Vec Ideal S512x2048 .f32) (g : Vec Ideal S1x2048 .f32) (r : Fin 512) (d : Fin 2048) :
    k0_pay1 x g (ix2 r d) = nrm (fun j => x (ix2 r j)) (fun j => g (ix2 0 j)) d := by
  pointwise [k0_pay1, nrm]

theorem pay2_apply (a : Vec Ideal S512x2048 .bf16) (w : Vec Ideal S2048x512 .bf16) (r n : Fin 512) :
    k0_pay2 a w (ix2 r n) = ∑ d : Fin 2048, a (ix2 r d) * w (ix2 d n) := by
  pointwise [k0_pay2]

end Cert.Proof.Memory

end
-- ==== Proof.MemoryArray.lean ====
/- Hand-written. The array that the memory's kernel leaves, as the array of `MemorySpec` of its arguments. -/
module

public import proofs.«01_k».proof.Proof.MemoryTile

@[expose] public section

noncomputable section

namespace Cert.Proof.Memory

open Cert.MemoryIdeal Cert.MemoryIdeal.Gen Cert.MemoryIdeal.Value Idealize.ShloMosaic Idealize.ShloMosaic.TcCoe Idealize.SL.Sem

theorem at0_ : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem at1_ : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem at2_ : ∀ t : Fin cfg0.N, win0_2.index t (0 : Fin 2) = 0 ∧ win0_2.index t (1 : Fin 2) = t.val :=
  (by decide +kernel : ∀ t : Fin grid0.N, win0_2.index t (0 : Fin 2) = 0 ∧ win0_2.index t (1 : Fin 2) = t.val)
theorem at3_ : ∀ t : Fin cfg0.N, win0_3.index t (0 : Fin 2) = 0 ∧ win0_3.index t (1 : Fin 2) = t.val :=
  (by decide +kernel : ∀ t : Fin grid0.N, win0_3.index t (0 : Fin 2) = 0 ∧ win0_3.index t (1 : Fin 2) = t.val)

theorem lt_of (t : Fin cfg0.N) : t.val < 2 := t.isLt

/-- Column `n` of block `t`. -/
def cell (t : Fin cfg0.N) (n : Fin 512) : Fin 1024 := ⟨t.val * 512 + n.val, by have := lt_of t; omega⟩

variable (m : (ℓ : Loc nD τ sig) → Buf (Elt Ideal) ℓ)

theorem V_rows (c : Dev nD) (r : Fin 512) (d : Fin 2048) : V m c main_v0 (ix2 r d) = m ((c : Thread nD τ).loc main_arg0) (ix3 (bat r) (pos r) d) := by
  have e : V m c main_v0 = shapeCast S512x2048 (m ((c : Thread nD τ).loc main_arg0)) shapeCasts_S2x256x2048_S512x2048 := by
    show StableHlo.after hostOps0 _ _ = _
    after_results
    rfl
  rw [e]
  refine shapeCast_apply _ shapeCasts_S2x256x2048_S512x2048 (ix2 r d) (ix3 (bat r) (pos r) d) ?_
  rw [Shape.rowMajor_val_three, Shape.rowMajor_val_two]
  show (r.val / 256 * 256 + r.val % 256) * 2048 + d.val = r.val * 2048 + d.val
  omega

theorem V_scale (c : Dev nD) (d : Fin 2048) : V m c main_v2 (ix2 0 d) = m ((c : Thread nD τ).loc main_arg1) (ix1 d) := by
  have e : V m c main_v2 = shapeCast S1x2048 (m ((c : Thread nD τ).loc main_arg1)) shapeCasts_S2048_S1x2048 := by
    show StableHlo.after hostOps0 _ _ = _
    after_results
    rfl
  rw [e]
  refine shapeCast_apply _ shapeCasts_S2048_S1x2048 (ix2 0 d) (ix1 d) ?_
  rw [Shape.rowMajor_val_one, Shape.rowMajor_val_two]
  show d.val = 0 * 2048 + d.val
  omega

theorem V_weights (c : Dev nD) (d : Fin 2048) (n : Fin 1024) : V m c main_v1 (ix2 d n) = m ((c : Thread nD τ).loc main_arg2) (ix2 d n) := by
  have e : V m c main_v1 = truncf (F := Ideal) .bf16 (m ((c : Thread nD τ).loc main_arg2)) bitsLt_bf16_f32 := by
    show StableHlo.after hostOps0 _ _ = _
    after_results
  exact congrFun e (ix2 d n)

theorem blk0 (c : Dev nD) (t : Fin cfg0.N) (r : Fin 512) (d : Fin 2048) : iblk m c 0 t (ix2 r d) = V m c main_v0 (ix2 r d) := by
  have hi := at0_ t
  refine congrArg (V m c main_v0) (funext fun a => Fin.ext ?_)
  match a with
  | ⟨0, _⟩ => show win0_0.index t (0 : Fin 2) * 512 + 1 * r.val = r.val; omega
  | ⟨1, _⟩ => show win0_0.index t (1 : Fin 2) * 2048 + 1 * d.val = d.val; omega

theorem blk1 (c : Dev nD) (t : Fin cfg0.N) (d : Fin 2048) : iblk m c 1 t (ix2 0 d) = V m c main_v2 (ix2 0 d) := by
  have hi := at1_ t
  refine congrArg (V m c main_v2) (funext fun a => Fin.ext ?_)
  match a with
  | ⟨0, _⟩ => show win0_1.index t (0 : Fin 2) * 1 + 1 * 0 = 0; omega
  | ⟨1, _⟩ => show win0_1.index t (1 : Fin 2) * 2048 + 1 * d.val = d.val; omega

theorem blk2 (c : Dev nD) (t : Fin cfg0.N) (d : Fin 2048) (n : Fin 512) : iblk m c 2 t (ix2 d n) = V m c main_v1 (ix2 d (cell t n)) := by
  have hi := at2_ t
  refine congrArg (V m c main_v1) (funext fun a => Fin.ext ?_)
  match a with
  | ⟨0, _⟩ => show win0_2.index t (0 : Fin 2) * 2048 + 1 * d.val = d.val; omega
  | ⟨1, _⟩ => show win0_2.index t (1 : Fin 2) * 512 + 1 * n.val = t.val * 512 + n.val; omega

/-- The rows that the first point norms are the same at every point. -/
theorem normed (c : Dev nD) (t : Fin cfg0.N) (r : Fin 512) (d : Fin 2048) :
    k0_pay1 (F := Ideal) (iblk m c 0 t) (iblk m c 1 t) (ix2 r d)
      = nrm (fun j => m ((c : Thread nD τ).loc main_arg0) (ix3 (bat r) (pos r) j)) (fun j => m ((c : Thread nD τ).loc main_arg1) (ix1 j)) d := by
  rw [pay1_apply]
  exact congrArg₂ (fun a b => nrm a b d) (funext fun j => (blk0 m c t r j).trans (V_rows m c r j))
    (funext fun j => (blk1 m c t j).trans (V_scale m c j))

theorem kept_at (c : Dev nD) (t : Fin cfg0.N) (h : t.val % 2 = 0) :
    (outsAt0 m c t.val t.isLt).2 = k0_pay1 (F := Ideal) (iblk m c 0 t) (iblk m c 1 t) := by
  rw [outsAt0_A m c t h]
  dsimp only
  rw [kept_eq]

theorem stored_first (c : Dev nD) (t : Fin cfg0.N) (h : t.val % 2 = 0) :
    (outsAt0 m c t.val t.isLt).1 = k0_pay2 (F := Ideal) (k0_pay1 (iblk m c 0 t) (iblk m c 1 t)) (iblk m c 2 t) := by
  rw [outsAt0_A m c t h]
  dsimp only
  rw [first_eq]

theorem stored_next (c : Dev nD) (t : Fin cfg0.N) (h : ¬t.val % 2 = 0) :
    (outsAt0 m c t.val t.isLt).1
      = k0_pay2 (F := Ideal) (outsAt0 m c (t.val - 1) (Nat.lt_of_le_of_lt (Nat.sub_le _ _) t.isLt)).2 (iblk m c 2 t) := by
  rw [outsAt0_B m c t h]
  dsimp only
  rw [next_eq]

/-- The array of `MemorySpec`, of the arguments. -/
abbrev outOf (c : Dev nD) : Out.Idx → EReal :=
  spec (m ((c : Thread nD τ).loc main_arg0)) (m ((c : Thread nD τ).loc main_arg1)) (m ((c : Thread nD τ).loc main_arg2))

theorem projected (c : Dev nD) (s t : Fin cfg0.N) (r n : Fin 512) :
    k0_pay2 (F := Ideal) (k0_pay1 (iblk m c 0 s) (iblk m c 1 s)) (iblk m c 2 t) (ix2 r n) = outOf m c (ix2 r (cell t n)) := by
  rw [pay2_apply]
  exact Finset.sum_congr rfl fun d _ => congrArg₂ (· * ·) (normed m c s r d) ((blk2 m c t d n).trans (V_weights m c d (cell t n)))

theorem left_at (c : Dev nD) (t : Fin cfg0.N) (r n : Fin 512) : (outsAt0 m c t.val t.isLt).1 (ix2 r n) = outOf m c (ix2 r (cell t n)) := by
  by_cases h : t.val % 2 = 0
  · rw [stored_first m c t h]
    exact projected m c t t r n
  · rw [stored_next m c t h]
    have ht := lt_of t
    have hp : (t.val - 1) % 2 = 0 := by omega
    have hk := kept_at m c ⟨t.val - 1, Nat.lt_of_le_of_lt (Nat.sub_le _ _) t.isLt⟩ hp
    refine Eq.trans (congrArg (fun z => k0_pay2 (F := Ideal) z (iblk m c 2 t) (ix2 r n)) hk) ?_
    exact projected m c _ t r n

theorem emb3 (t : Fin cfg0.N) (r n : Fin 512) : ((cfg0.win 3).blk t).view.emb (ix2 r n : S512x512.Idx) = (ix2 r (cell t n) : S512x1024.Idx) := by
  have hi := at3_ t
  refine funext fun a => Fin.ext ?_
  match a with
  | ⟨0, _⟩ => show win0_3.index t (0 : Fin 2) * 512 + 1 * r.val = r.val; omega
  | ⟨1, _⟩ => show win0_3.index t (1 : Fin 2) * 512 + 1 * n.val = t.val * 512 + n.val; omega

theorem idx_eq (y : S512x512.Idx) : ∃ r n : Fin 512, y = ix2 r n :=
  ⟨y 0, y 1, funext fun a => match a with
    | ⟨0, _⟩ => rfl
    | ⟨1, _⟩ => rfl⟩

theorem flushed_eq (c : Dev nD) (t : Fin cfg0.N) : (dats m 0 c).flushed 3 t = ((cfg0.win 3).blk t).view.read (Elt Ideal) (outOf m c) := by
  rw [flushed3]
  funext y
  obtain ⟨r, n, rfl⟩ := idx_eq y
  show (outsAt0 m c t.val t.isLt).1 (ix2 r n) = outOf m c (((cfg0.win 3).blk t).view.emb (ix2 r n : S512x512.Idx))
  rw [emb3, left_at]

theorem final (c : Dev nD) : (dats m 0 c).arrAt 3 cfg0.N = outOf m c :=
  (dats m 0 c).arrAt_eq_of_cover 3 (outOf m c) (fun t _ => flushed_eq m c t) (fun i => (covered_iff3 i).2 (by
    have h0 : (i 0).val < 512 := (i 0).isLt
    have h1 : (i 1).val < 1024 := (i 1).isLt
    omega))

end Cert.Proof.Memory

end
-- ==== Proof.MemoryRef.lean ====
/- Hand-written. The memory's reference, as the array of `MemorySpec`. -/
module

public import proofs.«01_k».proof.Proof.MemorySpec
public import proofs.«01_k».proof.Proof.Gen.MemoryReferenceIdeal.Run

@[expose] public section

noncomputable section

namespace Cert.Proof.Memory

open Cert.MemoryReferenceIdeal Cert.MemoryReferenceIdeal.Gen Idealize.ShloMosaic Idealize.ShloMosaic.TcCoe

section

variable (x : FVec Ideal S2x256x2048 .f32) (g : FVec Ideal S2048 .f32) (w : FVec Ideal S2048x1024 .f32)

/-- The normed rows. -/
def nrmS : FVec Ideal S2x256x2048 .f32 :=
  mulf
    (mulf x
      (broadcastInDim S2x256x2048 ![0, 1, 2] bcast_S2x256x1_S2x256x2048_0_1_2
        (Host.rsqrt
          (addf
            (Host.divf
              (broadcastInDim S2x256x1 ![0, 1] bcast_S2x256_S2x256x1_0_1
                (Host.reduceAdd (mulf x x) (constant S_ .f32 0x00000000#32) reducesTo_S2x256x2048_S2x256_d2 h_S_))
              (broadcastInDim S2x256x1 ![] bcast_S_S2x256x1 (constant S_ .f32 0x45000000#32)))
            (broadcastInDim S2x256x1 ![] bcast_S_S2x256x1 (constant S_ .f32 0x358637BD#32))))))
    (broadcastInDim S2x256x2048 ![0, 1, 2] bcast_S1x1x2048_S2x256x2048_0_1_2 (broadcastInDim S1x1x2048 ![2] bcast_S2048_S1x1x2048_2 g))

/-- The projection. -/
def outS : FVec Ideal S512x1024 .bf16 :=
  truncf (F := Ideal) .bf16
    (shapeCast S512x1024
      (Host.dotGeneral (F := Ideal) dot_S2x256x2048_S2048x1024_S2x256x1024_2_0_01_1_n_n none (nrmS x g) w)
      shapeCasts_S2x256x1024_S512x1024) bitsLt_bf16_f32

theorem nrmS_apply (b : Fin 2) (p : Fin 256) (d : Fin 2048) :
    nrmS x g (ix3 b p d) = nrm (fun j => x (ix3 b p j)) (fun j => g (ix1 j)) d := by
  unfold nrm
  pointwise [nrmS]

theorem dotS_apply (y : FVec Ideal S2x256x2048 .f32) (b : Fin 2) (p : Fin 256) (n : Fin 1024) :
    Host.dotGeneral (F := Ideal) dot_S2x256x2048_S2048x1024_S2x256x1024_2_0_01_1_n_n none y w (ix3 b p n)
      = ∑ d : Fin 2048, y (ix3 b p d) * w (ix2 d n) := by
  pointwise []

theorem outS_apply (i : Fin 512) (n : Fin 1024) : outS x g w (ix2 i n) = entry x g w i n := by
  have e : outS x g w (ix2 i n)
      = Host.dotGeneral (F := Ideal) dot_S2x256x2048_S2048x1024_S2x256x1024_2_0_01_1_n_n none (nrmS x g) w (ix3 (bat i) (pos i) n) := by
    refine shapeCast_apply (Host.dotGeneral (F := Ideal) dot_S2x256x2048_S2048x1024_S2x256x1024_2_0_01_1_n_n none (nrmS x g) w)
      shapeCasts_S2x256x1024_S512x1024 (ix2 i n) (ix3 (bat i) (pos i) n) ?_
    rw [Shape.rowMajor_val_three, Shape.rowMajor_val_two]
    show (i.val / 256 * 256 + i.val % 256) * 1024 + n.val = i.val * 1024 + n.val
    omega
  rw [e, dotS_apply]
  simp only [nrmS_apply]
  rfl

/-- The reference's result is the array of `MemorySpec`. -/
theorem out_eq : outS x g w = spec x g w := by
  funext i
  obtain ⟨r, n, rfl⟩ : ∃ (r : Fin 512) (n : Fin 1024), i = ix2 r n :=
    ⟨i 0, i 1, funext fun a => match a with
      | ⟨0, _⟩ => rfl
      | ⟨1, _⟩ => rfl⟩
  exact outS_apply x g w r n

end

end Cert.Proof.Memory

end
-- ==== Proof.MemorySame.lean ====
/- Hand-written. The memory's kernel and the reference end in the same array: that of `MemorySpec`. -/
module

public import proofs.«01_k».proof.Defs
public import proofs.«01_k».proof.Proof.MemoryArray
public import proofs.«01_k».proof.Proof.MemoryRef
public import proofs.«01_k».proof.Proof.Gen.Memory.Frame

@[expose] public section

noncomputable section

namespace Cert.Proof.Memory

open Idealize.ShloMosaic Idealize.ShloMosaic.TcCoe Idealize.SL.Sem

attribute [local instance] Cert.Memory.Gen.facts Cert.MemoryIdeal.Gen.facts Cert.MemoryReferenceIdeal.Gen.facts

theorem host_frame : Cert.quiescent_MemoryReferenceIdeal := fun m ρ _ =>
  (θ_run Cert.MemoryReferenceIdeal.defs _ _).mono (fun r h => ⟨fun c => (h c).2, sem_eq_zero_of_no_sems (by decide) r.2⟩)
    (Cert.MemoryReferenceIdeal.Value.run (F := Ideal) m ρ)

theorem same : Cert.algebraic_MemoryIdeal_MemoryReferenceIdeal := fun m ρ m' ρ' _ hm => by
  refine ⟨fun c => outOf m c,
    (θ_run Cert.MemoryIdeal.defs _ _).mono (fun r hr c => ⟨(hr c).1.trans (final m c), (hr c).2⟩) (Cert.MemoryIdeal.Value.run_blocks m ρ),
    (θ_run Cert.MemoryReferenceIdeal.defs _ _).mono (fun r hr c => ⟨?_, (hr c).2⟩)
      (Cert.MemoryReferenceIdeal.Value.run (F := Ideal) m' ρ')⟩
  obtain ⟨e0, e1, e2⟩ := hm c
  refine (hr c).1.trans ?_
  rw [e0, e1, e2]
  exact out_eq _ _ _

end Cert.Proof.Memory

end
-- ==== Proof.NormedArray.lean ====
/- Hand-written. The array that the kernel of the rows' norm leaves: every row normed, by the formula of `MemorySpec`. -/
module

public import proofs.«01_k».proof.Proof.MemorySpec
public import proofs.«01_k».proof.Proof.Gen.NormedIdeal.Value

@[expose] public section

noncomputable section

namespace Cert.Proof.Normed

open Cert.NormedIdeal Cert.NormedIdeal.Gen Cert.NormedIdeal.Value Idealize.ShloMosaic Idealize.ShloMosaic.TcCoe Idealize.SL.Sem

/-- The batch entry of one of the 16384 rows, and its place there. -/
def bat (i : Fin 16384) : Fin 2 := ⟨i.val / 8192, by omega⟩
def seq (i : Fin 16384) : Fin 8192 := ⟨i.val % 8192, by omega⟩

/-- The array that the call leaves. -/
def spec (x : S2x8192x2048.Idx → EReal) (g : S2048.Idx → EReal) : S16384x2048.Idx → EReal := fun i =>
  Memory.nrm (fun j => x (ix3 (bat (i 0)) (seq (i 0)) j)) (fun j => g (ix1 j)) (i 1)

theorem zero2 : (![0, 0] : Fin 2 → ℕ) = fun _ => 0 := by
  funext a
  match a with
  | ⟨0, _⟩ => rfl
  | ⟨1, _⟩ => rfl

theorem pay_apply (x : Vec Ideal S512x2048 .f32) (g : Vec Ideal S1x2048 .f32) (r : Fin 512) (d : Fin 2048) :
    k0_pay1 x g (ix2 r d) = Memory.nrm (fun j => x (ix2 r j)) (fun j => g (ix2 0 j)) d := by
  pointwise [k0_pay1, Memory.nrm]

theorem out_read (x : Vec Ideal S512x2048 .f32) (g : Vec Ideal S1x2048 .f32) : out0_2 x g = k0_pay1 x g := by
  unfold out0_2
  rw [View.canon_unit_zero zero2, View.ld_unit_zero zero2, View.ld_unit_zero zero2]

theorem at0_ : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem at1_ : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem at2_ : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

theorem lt_of (t : Fin cfg0.N) : t.val < 32 := t.isLt

/-- Row `r` of block `t`. -/
def row (t : Fin cfg0.N) (r : Fin 512) : Fin 16384 := ⟨t.val * 512 + r.val, by have := lt_of t; omega⟩

variable (m : (ℓ : Loc nD τ sig) → Buf (Elt Ideal) ℓ)

theorem V_rows (c : Dev nD) (r : Fin 16384) (d : Fin 2048) : V m c main_v0 (ix2 r d) = m ((c : Thread nD τ).loc main_arg0) (ix3 (bat r) (seq r) d) := by
  have e : V m c main_v0 = shapeCast S16384x2048 (m ((c : Thread nD τ).loc main_arg0)) shapeCasts_S2x8192x2048_S16384x2048 := by
    show StableHlo.after hostOps0 _ _ = _
    after_results
    rfl
  rw [e]
  refine shapeCast_apply _ shapeCasts_S2x8192x2048_S16384x2048 (ix2 r d) (ix3 (bat r) (seq r) d) ?_
  rw [Shape.rowMajor_val_three, Shape.rowMajor_val_two]
  show (r.val / 8192 * 8192 + r.val % 8192) * 2048 + d.val = r.val * 2048 + d.val
  omega

theorem V_scale (c : Dev nD) (d : Fin 2048) : V m c main_v1 (ix2 0 d) = m ((c : Thread nD τ).loc main_arg1) (ix1 d) := by
  have e : V m c main_v1 = shapeCast S1x2048 (m ((c : Thread nD τ).loc main_arg1)) shapeCasts_S2048_S1x2048 := by
    show StableHlo.after hostOps0 _ _ = _
    after_results
    rfl
  rw [e]
  refine shapeCast_apply _ shapeCasts_S2048_S1x2048 (ix2 0 d) (ix1 d) ?_
  rw [Shape.rowMajor_val_one, Shape.rowMajor_val_two]
  show d.val = 0 * 2048 + d.val
  omega

theorem blk0 (c : Dev nD) (t : Fin cfg0.N) (r : Fin 512) (d : Fin 2048) : iblk m c 0 t (ix2 r d) = V m c main_v0 (ix2 (row t r) d) := by
  have hi := at0_ t
  refine congrArg (V m c main_v0) (funext fun a => Fin.ext ?_)
  match a with
  | ⟨0, _⟩ => show win0_0.index t (0 : Fin 2) * 512 + 1 * r.val = t.val * 512 + r.val; omega
  | ⟨1, _⟩ => show win0_0.index t (1 : Fin 2) * 2048 + 1 * d.val = d.val; omega

theorem blk1 (c : Dev nD) (t : Fin cfg0.N) (d : Fin 2048) : iblk m c 1 t (ix2 0 d) = V m c main_v1 (ix2 0 d) := by
  have hi := at1_ t
  refine congrArg (V m c main_v1) (funext fun a => Fin.ext ?_)
  match a with
  | ⟨0, _⟩ => show win0_1.index t (0 : Fin 2) * 1 + 1 * 0 = 0; omega
  | ⟨1, _⟩ => show win0_1.index t (1 : Fin 2) * 2048 + 1 * d.val = d.val; omega

/-- The array of the normed rows, of the arguments. -/
abbrev outOf (c : Dev nD) : S16384x2048.Idx → EReal := spec (m ((c : Thread nD τ).loc main_arg0)) (m ((c : Thread nD τ).loc main_arg1))

theorem stored (c : Dev nD) (t : Fin cfg0.N) (r : Fin 512) (d : Fin 2048) :
    out0_2 (F := Ideal) (iblk m c 0 t) (iblk m c 1 t) (ix2 r d) = outOf m c (ix2 (row t r) d) := by
  rw [out_read, pay_apply]
  exact congrArg₂ (fun a b => Memory.nrm a b d) (funext fun j => (blk0 m c t r j).trans (V_rows m c (row t r) j))
    (funext fun j => (blk1 m c t j).trans (V_scale m c j))

theorem emb2 (t : Fin cfg0.N) (r : Fin 512) (d : Fin 2048) : ((cfg0.win 2).blk t).view.emb (ix2 r d : S512x2048.Idx) = (ix2 (row t r) d : S16384x2048.Idx) := by
  have hi := at2_ t
  refine funext fun a => Fin.ext ?_
  match a with
  | ⟨0, _⟩ => show win0_2.index t (0 : Fin 2) * 512 + 1 * r.val = t.val * 512 + r.val; omega
  | ⟨1, _⟩ => show win0_2.index t (1 : Fin 2) * 2048 + 1 * d.val = d.val; omega

theorem idx_eq (y : S512x2048.Idx) : ∃ (r : Fin 512) (d : Fin 2048), y = ix2 r d :=
  ⟨y 0, y 1, funext fun a => match a with
    | ⟨0, _⟩ => rfl
    | ⟨1, _⟩ => rfl⟩

theorem flushed_eq (c : Dev nD) (t : Fin cfg0.N) : (dats m 0 c).flushed 2 t = ((cfg0.win 2).blk t).view.read (Elt Ideal) (outOf m c) := by
  rw [flushed2]
  funext y
  obtain ⟨r, d, rfl⟩ := idx_eq y
  show out0_2 (F := Ideal) _ _ (ix2 r d) = outOf m c (((cfg0.win 2).blk t).view.emb (ix2 r d : S512x2048.Idx))
  rw [emb2, stored]

theorem flush2 : ∀ t : Fin cfg0.N, (cfg0.win 2).flush t = true := (by decide +kernel : ∀ t : Fin grid0.N, win0_2.flush t = true)

theorem covered (i : S16384x2048.Idx) : ∃ t : Fin cfg0.N, (cfg0.win 2).flush t = true ∧ i ∈ ((cfg0.win 2).blk t).view.set := by
  have l0 : (i 0).val < 16384 := (i 0).isLt
  have hN : (i 0).val / 512 < cfg0.N := show (i 0).val / 512 < 32 by omega
  refine ⟨⟨(i 0).val / 512, hN⟩, flush2 _, ?_⟩
  have hm := ((cfg0.win 2).blk ⟨(i 0).val / 512, hN⟩).view.emb_mem_set (ix2 ⟨(i 0).val % 512, by omega⟩ (i 1) : S512x2048.Idx)
  have he : (ix2 (row ⟨(i 0).val / 512, hN⟩ ⟨(i 0).val % 512, by omega⟩) (i 1) : S16384x2048.Idx) = i := by
    funext a; apply Fin.ext
    match a with
    | ⟨0, _⟩ => show (i 0).val / 512 * 512 + (i 0).val % 512 = (i 0).val; omega
    | ⟨1, _⟩ => rfl
  exact Eq.mp (congrArg (fun z => z ∈ ((cfg0.win 2).blk ⟨(i 0).val / 512, hN⟩).view.set)
    ((emb2 ⟨(i 0).val / 512, hN⟩ ⟨(i 0).val % 512, by omega⟩ (i 1)).trans he)) hm

theorem final (c : Dev nD) : (dats m 0 c).arrAt 2 cfg0.N = outOf m c :=
  (dats m 0 c).arrAt_eq_of_cover 2 (outOf m c) (fun t _ => flushed_eq m c t) covered

end Cert.Proof.Normed

end
-- ==== Proof.NormedSame.lean ====
/- Hand-written. The kernel of the rows' norm and its reference end in the same array. -/
module

public import proofs.«01_k».proof.Defs
public import proofs.«01_k».proof.Proof.NormedArray
public import proofs.«01_k».proof.Proof.Gen.Normed.Frame
public import proofs.«01_k».proof.Proof.Gen.NormedReferenceIdeal.Run

@[expose] public section

noncomputable section

namespace Cert.Proof.Normed

open Idealize.ShloMosaic Idealize.ShloMosaic.TcCoe Idealize.SL.Sem

section

open Cert.NormedReferenceIdeal Cert.NormedReferenceIdeal.Gen

variable (x : FVec Ideal S2x8192x2048 .f32) (g : FVec Ideal S2048 .f32)

/-- The reference's normed rows, the batch and the positions on axes of their own. -/
def nrmS : FVec Ideal S2x8192x2048 .f32 :=
  mulf
    (mulf x
      (broadcastInDim S2x8192x2048 ![0, 1, 2] bcast_S2x8192x1_S2x8192x2048_0_1_2
        (Host.rsqrt
          (addf
            (Host.divf
              (broadcastInDim S2x8192x1 ![0, 1] bcast_S2x8192_S2x8192x1_0_1
                (Host.reduceAdd (mulf x x) (constant S_ .f32 0x00000000#32) reducesTo_S2x8192x2048_S2x8192_d2 h_S_))
              (broadcastInDim S2x8192x1 ![] bcast_S_S2x8192x1 (constant S_ .f32 0x45000000#32)))
            (broadcastInDim S2x8192x1 ![] bcast_S_S2x8192x1 (constant S_ .f32 0x358637BD#32))))))
    (broadcastInDim S2x8192x2048 ![0, 1, 2] bcast_S1x1x2048_S2x8192x2048_0_1_2 (broadcastInDim S1x1x2048 ![2] bcast_S2048_S1x1x2048_2 g))

/-- The reference's result. -/
def outS : FVec Ideal S16384x2048 .bf16 :=
  truncf (F := Ideal) .bf16 (shapeCast S16384x2048 (nrmS x g) shapeCasts_S2x8192x2048_S16384x2048) bitsLt_bf16_f32

theorem nrmS_apply (b : Fin 2) (p : Fin 8192) (d : Fin 2048) :
    nrmS x g (ix3 b p d) = Memory.nrm (fun j => x (ix3 b p j)) (fun j => g (ix1 j)) d := by
  unfold Memory.nrm
  pointwise [nrmS]

/-- The reference's result is the array of the normed rows. -/
theorem out_eq : outS x g = spec x g := by
  funext i
  obtain ⟨r, d, rfl⟩ : ∃ (r : Fin 16384) (d : Fin 2048), i = ix2 r d :=
    ⟨i 0, i 1, funext fun a => match a with
      | ⟨0, _⟩ => rfl
      | ⟨1, _⟩ => rfl⟩
  have e : outS x g (ix2 r d) = nrmS x g (ix3 (bat r) (seq r) d) := by
    refine shapeCast_apply (nrmS x g) shapeCasts_S2x8192x2048_S16384x2048 (ix2 r d) (ix3 (bat r) (seq r) d) ?_
    rw [Shape.rowMajor_val_three, Shape.rowMajor_val_two]
    show (r.val / 8192 * 8192 + r.val % 8192) * 2048 + d.val = r.val * 2048 + d.val
    omega
  rw [e, nrmS_apply]
  rfl

end

attribute [local instance] Cert.Normed.Gen.facts Cert.NormedIdeal.Gen.facts Cert.NormedReferenceIdeal.Gen.facts

theorem host_frame : Cert.quiescent_NormedReferenceIdeal := fun m ρ _ =>
  (θ_run Cert.NormedReferenceIdeal.defs _ _).mono (fun r h => ⟨fun c => (h c).2, sem_eq_zero_of_no_sems (by decide) r.2⟩)
    (Cert.NormedReferenceIdeal.Value.run (F := Ideal) m ρ)

theorem same : Cert.algebraic_NormedIdeal_NormedReferenceIdeal := fun m ρ m' ρ' _ hm => by
  refine ⟨fun c => outOf m c,
    (θ_run Cert.NormedIdeal.defs _ _).mono (fun r hr c => ⟨(hr c).1.trans (final m c), (hr c).2⟩) (Cert.NormedIdeal.Value.run_blocks m ρ),
    (θ_run Cert.NormedReferenceIdeal.defs _ _).mono (fun r hr c => ⟨?_, (hr c).2⟩)
      (Cert.NormedReferenceIdeal.Value.run (F := Ideal) m' ρ')⟩
  obtain ⟨e0, e1⟩ := hm c
  refine (hr c).1.trans ?_
  rw [e0, e1]
  exact out_eq _ _

end Cert.Proof.Normed

end
-- ==== Proof.lean ====
module

public import proofs.«01_k».proof.Defs
public import proofs.«01_k».proof.Proof.Dilated
public import proofs.«01_k».proof.Proof.ExpertsSame
public import proofs.«01_k».proof.Proof.MergeSame
public import proofs.«01_k».proof.Proof.MemorySame
public import proofs.«01_k».proof.Proof.NormedSame

@[expose] public section

noncomputable section

namespace Cert.Proof

theorem claim : Cert.Claim :=
  ⟨Cert.Kernel.Gen.facts, Cert.KernelIdeal.Gen.facts, Cert.ReferenceIdeal.Gen.facts, Cert.Experts.Gen.facts, Cert.ExpertsIdeal.Gen.facts,
    Cert.ExpertsReferenceIdeal.Gen.facts, Cert.Merge.Gen.facts, Cert.MergeIdeal.Gen.facts, Cert.MergeReferenceIdeal.Gen.facts,
    Cert.Memory.Gen.facts, Cert.MemoryIdeal.Gen.facts, Cert.MemoryReferenceIdeal.Gen.facts,
    Cert.Normed.Gen.facts, Cert.NormedIdeal.Gen.facts, Cert.NormedReferenceIdeal.Gen.facts, Cert.Pre_tiles_in_range.Gen.facts,
    fun m ρ _ => Cert.Kernel.Gen.frame m ρ, fun m ρ _ => Cert.KernelIdeal.Gen.frame m ρ, ref_frame,
    Experts.bits_frame, Experts.ideal_frame, Experts.host_frame, Experts.host_frame_pre,
    fun m ρ _ => Cert.Merge.Gen.frame m ρ, fun m ρ _ => Cert.MergeIdeal.Gen.frame m ρ, Merge.host_frame,
    fun m ρ _ => Cert.Memory.Gen.frame m ρ, fun m ρ _ => Cert.MemoryIdeal.Gen.frame m ρ, Memory.host_frame,
    fun m ρ _ => Cert.Normed.Gen.frame m ρ, fun m ρ _ => Cert.NormedIdeal.Gen.frame m ρ, Normed.host_frame,
    trivial, same, trivial, Experts.same, trivial, Merge.same, trivial, Memory.same,
    trivial, Normed.same⟩

end Cert.Proof

end
